-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Experts [hPre_counts_of_routing : Cert.Pre_counts_of_routing.Facts] (m : (ℓ : Loc Cert.Experts.nD Cert.Experts.τ Cert.Experts.sig) → Buf (Elt Bits) ℓ) : Prop :=
  ∀ c : Dev Cert.Experts.nD,
    (Cert.Pre_counts_of_routing.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4))) = (fun _ => 1#1)

def Pre_ExpertsIdeal [hPre_counts_of_routing : Cert.Pre_counts_of_routing.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_counts_of_routing.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4))) = (fun _ => 1#1)

def Pre_ExpertsRefIdeal [hPre_counts_of_routing : Cert.Pre_counts_of_routing.Facts] (m : (ℓ : Loc Cert.ExpertsRefIdeal.nD Cert.ExpertsRefIdeal.τ Cert.ExpertsRefIdeal.sig) → Buf (Elt Ideal) ℓ) : Prop :=
  ∀ c : Dev Cert.ExpertsRefIdeal.nD,
    (Cert.Pre_counts_of_routing.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Experts [hExperts : Cert.Experts.Facts] [hPre_counts_of_routing : Cert.Pre_counts_of_routing.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4))
      ∧ r.2.sem = fun _ => 0)

def quiescent_ExpertsIdeal [hExpertsIdeal : Cert.ExpertsIdeal.Facts] [hPre_counts_of_routing : Cert.Pre_counts_of_routing.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4))
      ∧ r.2.sem = fun _ => 0)

def quiescent_ExpertsRefIdeal [hExpertsRefIdeal : Cert.ExpertsRefIdeal.Facts] [hPre_counts_of_routing : Cert.Pre_counts_of_routing.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4))
      ∧ r.2.sem = fun _ => 0)

def preserves_Kernel_KernelIdeal : Prop :=
  IdealRules.named_const.Statement Cert.KernelIdeal.κ "inv_ln2" .f32 0x3FB8AA3B#32 (((Real.log 2)⁻¹ : ℝ) : EReal)
  ∧ IdealRules.named_const.Statement Cert.KernelIdeal.κ "underflow" .f32 0x432E0000#32 ⊤

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Experts_ExpertsIdeal : Prop :=
  True

def algebraic_ExpertsIdeal_ExpertsRefIdeal [hExpertsIdeal : Cert.ExpertsIdeal.Facts] [hExpertsRefIdeal : Cert.ExpertsRefIdeal.Facts] [hPre_counts_of_routing : Cert.Pre_counts_of_routing.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)
      ∧ m' ((c.tc : Thread Cert.ExpertsRefIdeal.nD Cert.ExpertsRefIdeal.τ).loc Cert.ExpertsRefIdeal.main_arg4) = m ((c.tc : Thread Cert.ExpertsIdeal.nD Cert.ExpertsIdeal.τ).loc Cert.ExpertsIdeal.main_arg4)) →
    ∃ (v0 : (c : Dev Cert.ExpertsIdeal.nD) → Buf (Elt Ideal) ((c.tc : Thread Cert.ExpertsIdeal.nD Cert.ExpertsIdeal.τ).loc Cert.ExpertsIdeal.main_v30)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v30) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          r.2.mem ((c.tc : Thread Cert.ExpertsRefIdeal.nD Cert.ExpertsRefIdeal.τ).loc Cert.ExpertsRefIdeal.main_v43) = v0 c
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3)
          ∧ r.2.mem ((c.tc : Thread Cert.ExpertsRefIdeal.nD Cert.ExpertsRefIdeal.τ).loc Cert.ExpertsRefIdeal.main_arg4) = m' ((c.tc : Thread Cert.ExpertsRefIdeal.nD Cert.ExpertsRefIdeal.τ).loc Cert.ExpertsRefIdeal.main_arg4))

def Claim : Prop :=
  ∃ (hKernel : Cert.Kernel.Facts) (hKernelIdeal : Cert.KernelIdeal.Facts) (hReferenceIdeal : Cert.ReferenceIdeal.Facts) (hExperts : Cert.Experts.Facts) (hExpertsIdeal : Cert.ExpertsIdeal.Facts) (hExpertsRefIdeal : Cert.ExpertsRefIdeal.Facts) (hPre_counts_of_routing : Cert.Pre_counts_of_routing.Facts),
    quiescent_Kernel (hKernel := hKernel)
    ∧ quiescent_KernelIdeal (hKernelIdeal := hKernelIdeal)
    ∧ quiescent_ReferenceIdeal (hReferenceIdeal := hReferenceIdeal)
    ∧ quiescent_Experts (hExperts := hExperts) (hPre_counts_of_routing := hPre_counts_of_routing)
    ∧ quiescent_ExpertsIdeal (hExpertsIdeal := hExpertsIdeal) (hPre_counts_of_routing := hPre_counts_of_routing)
    ∧ quiescent_ExpertsRefIdeal (hExpertsRefIdeal := hExpertsRefIdeal) (hPre_counts_of_routing := hPre_counts_of_routing)
    ∧ preserves_Kernel_KernelIdeal
    ∧ algebraic_KernelIdeal_ReferenceIdeal (hKernelIdeal := hKernelIdeal) (hReferenceIdeal := hReferenceIdeal)
    ∧ preserves_Experts_ExpertsIdeal
    ∧ algebraic_ExpertsIdeal_ExpertsRefIdeal (hExpertsIdeal := hExpertsIdeal) (hExpertsRefIdeal := hExpertsRefIdeal) (hPre_counts_of_routing := hPre_counts_of_routing)
-- ==== Pre_counts_of_routing.lean ====
abbrev S128x64 : Shape := ⟨2, ![128, 64]⟩
abbrev S458752x1024 : Shape := ⟨2, ![458752, 1024]⟩
abbrev S64x1024x256 : Shape := ⟨3, ![64, 1024, 256]⟩
abbrev S64x256x1024 : Shape := ⟨3, ![64, 256, 1024]⟩
abbrev S_ : Shape := ⟨0, ![]⟩
abbrev S128 : Shape := ⟨1, ![128]⟩
abbrev S128x1 : Shape := ⟨2, ![128, 1]⟩

class Facts : Prop where
  bcast_S_S128x64 : S_.BroadcastsInDim S128x64 (![] : Fin 0 → Fin S128x64.rank)
  reducesTo_S128x64_S128_d1 : S128x64.ReducesTo [1] S128
  h_S_ : 0 < S_.numel
  bcast_S128_S128x1_0 : S128.BroadcastsInDim S128x1 (![0] : Fin 1 → Fin S128x1.rank)
  bcast_S_S128x1 : S_.BroadcastsInDim S128x1 (![] : Fin 0 → Fin S128x1.rank)
  bcast_S128x1_S128x64_0_1 : S128x1.BroadcastsInDim S128x64 (![0, 1] : Fin 2 → Fin S128x64.rank)

variable [Facts]

def fn {F : FTy → Type} [FloatOps F] (main_arg0 : IVec S128x64 32) (main_arg1 : FVec F S458752x1024 .bf16) (main_arg2 : FVec F S64x1024x256 .f32) (main_arg3 : FVec F S64x1024x256 .f32) (main_arg4 : FVec F S64x256x1024 .f32) : IVec S128x64 1 :=
  let main_c : IVec S_ 32 := constantI S_ 32 0#32
  let main_v0 : IVec S128x64 32 := broadcastInDim S128x64 ![] bcast_S_S128x64 main_c
  let main_v1 : IVec S128x64 1 := cmpi .sge main_arg0 main_v0
  let main_c_0 : IVec S_ 32 := constantI S_ 32 256#32
  let main_v2 : IVec S128x64 32 := broadcastInDim S128x64 ![] bcast_S_S128x64 main_c_0
  let main_v3 : IVec S128x64 1 := cmpi .sle main_arg0 main_v2
  let main_v4 : IVec S128x64 1 := andi main_v1 main_v3
  let main_c_1 : IVec S_ 32 := constantI S_ 32 0#32
  let main_v5 : IVec S128 32 := (fun x v => Host.reduce IntOp.addi x v reducesTo_S128x64_S128_d1 h_S_) main_arg0 main_c_1
  let main_v6 : IVec S128x1 32 := broadcastInDim S128x1 ![0] bcast_S128_S128x1_0 main_v5
  let main_c_2 : IVec S_ 32 := constantI S_ 32 2048#32
  let main_v7 : IVec S128x1 32 := broadcastInDim S128x1 ![] bcast_S_S128x1 main_c_2
  let main_v8 : IVec S128x1 1 := cmpi .eq main_v6 main_v7
  let main_v9 : IVec S128x64 1 := broadcastInDim S128x64 ![0, 1] bcast_S128x1_S128x64_0_1 main_v8
  let main_v10 : IVec S128x64 1 := andi main_v4 main_v9
  main_v10
-- ==== Kernel.lean ====
abbrev S8x4096x8x64 : Shape := ⟨4, ![8, 4096, 8, 64]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S_ : Shape := ⟨0, ![]⟩
abbrev S128x512 : Shape := ⟨2, ![128, 512]⟩
abbrev S256x512 : Shape := ⟨2, ![256, 512]⟩
abbrev S8x4096x512 : Shape := ⟨3, ![8, 4096, 512]⟩
abbrev S1x256x512 : Shape := ⟨3, ![1, 256, 512]⟩
abbrev S1x4096x512 : Shape := ⟨3, ![1, 4096, 512]⟩
abbrev S128x256 : Shape := ⟨2, ![128, 256]⟩
abbrev S1x128x128 : Shape := ⟨3, ![1, 128, 128]⟩
abbrev S256x128 : Shape := ⟨2, ![256, 128]⟩
abbrev S1536x256 : Shape := ⟨2, ![1536, 256]⟩
abbrev S1536x512 : Shape := ⟨2, ![1536, 512]⟩
abbrev S1x128x256 : Shape := ⟨3, ![1, 128, 256]⟩
abbrev S1 : Shape := ⟨1, ![1]⟩
abbrev S1x1x1 : Shape := ⟨3, ![1, 1, 1]⟩
abbrev S1024x256 : Shape := ⟨2, ![1024, 256]⟩
abbrev S1024x512 : Shape := ⟨2, ![1024, 512]⟩
abbrev S512x256 : Shape := ⟨2, ![512, 256]⟩
abbrev S512x512 : Shape := ⟨2, ![512, 512]⟩
abbrev S1x128x512 : Shape := ⟨3, ![1, 128, 512]⟩

abbrev nBuf : Space → Nat
  | .hbm => 31
  | .vmem => 17
  | .smem => 0
  | _ => 0

abbrev bufTy : (tb : Table) → Fin (tcTables nBuf tb) → BufTy
  | .hbm, ⟨0, _⟩ => ⟨S8x4096x8x64, .f32⟩
  | .hbm, ⟨1, _⟩ => ⟨S8x4096x8x64, .f32⟩
  | .hbm, ⟨2, _⟩ => ⟨S8x4096x8x64, .f32⟩
  | .hbm, ⟨3, _⟩ => ⟨S128, .i32⟩
  | .hbm, ⟨4, _⟩ => ⟨S128x1, .i32⟩
  | .hbm, ⟨5, _⟩ => ⟨S1x128, .i32⟩
  | .hbm, ⟨6, _⟩ => ⟨S128x128, .i32⟩
  | .hbm, ⟨7, _⟩ => ⟨S128x128, .i32⟩
  | .hbm, ⟨8, _⟩ => ⟨S128x128, .i1⟩
  | .hbm, ⟨9, _⟩ => ⟨S128x128, .bf16⟩
  | .hbm, ⟨10, _⟩ => ⟨S_, .bf16⟩
  | .hbm, ⟨11, _⟩ => ⟨S128x128, .bf16⟩
  | .hbm, ⟨12, _⟩ => ⟨S_, .bf16⟩
  | .hbm, ⟨13, _⟩ => ⟨S128x128, .bf16⟩
  | .hbm, ⟨14, _⟩ => ⟨S128x512, .bf16⟩
  | .hbm, ⟨15, _⟩ => ⟨S128x512, .bf16⟩
  | .hbm, ⟨16, _⟩ => ⟨S256x512, .bf16⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S8x4096x8x64, .f32⟩
  | .hbm, ⟨23, _⟩ => ⟨S8x4096x8x64, .f32⟩
  | .hbm, ⟨24, _⟩ => ⟨S8x4096x8x64, .bf16⟩
  | .hbm, ⟨25, _⟩ => ⟨S8x4096x512, .bf16⟩
  | .hbm, ⟨26, _⟩ => ⟨S8x4096x8x64, .bf16⟩
  | .hbm, ⟨27, _⟩ => ⟨S8x4096x512, .bf16⟩
  | .hbm, ⟨28, _⟩ => ⟨S8x4096x8x64, .bf16⟩
  | .hbm, ⟨29, _⟩ => ⟨S8x4096x512, .bf16⟩
  | .hbm, ⟨30, _⟩ => ⟨S8x4096x512, .bf16⟩
  | .local _ .vmem, ⟨0, _⟩ => ⟨S1x256x512, .bf16⟩
  | .local _ .vmem, ⟨1, _⟩ => ⟨S1x256x512, .bf16⟩
  | .local _ .vmem, ⟨2, _⟩ => ⟨S1x4096x512, .bf16⟩
  | .local _ .vmem, ⟨3, _⟩ => ⟨S1x4096x512, .bf16⟩
  | .local _ .vmem, ⟨4, _⟩ => ⟨S1x4096x512, .bf16⟩
  | .local _ .vmem, ⟨5, _⟩ => ⟨S1x4096x512, .bf16⟩
  | .local _ .vmem, ⟨6, _⟩ => ⟨S256x512, .bf16⟩
  | .local _ .vmem, ⟨7, _⟩ => ⟨S1x256x512, .bf16⟩
  | .local _ .vmem, ⟨8, _⟩ => ⟨S1x256x512, .bf16⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S128x256, .f32⟩
  | .local _ .vmem, ⟨14, _⟩ => ⟨S128x256, .f32⟩
  | .local _ .vmem, ⟨15, _⟩ => ⟨S128x256, .f32⟩
  | .local _ .vmem, ⟨16, _⟩ => ⟨S128x256, .f32⟩
  | _, _ => ⟨S8x4096x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_call0_v0 : Ref sig .tc := ⟨.hbm, 14, rfl⟩
abbrev main_call0_v1 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_scratch5 : Ref sig .tc := ⟨.vmem, 14, rfl⟩
abbrev cc0_scratch6 : Ref sig .tc := ⟨.vmem, 15, rfl⟩
abbrev cc0_scratch7 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 16], ![false, false]⟩

def k0_cond1 (i : grid0.Coords) : BitVec 1 :=
  let arg1 : BitVec 32 := BitVec.ofNat 32 (i 1).val
  let c2_i32 : BitVec 32 := 2#32
  let v3 : BitVec 32 := Scalar.muli arg1 c2_i32
  let c0_i32 : BitVec 32 := 0#32
  let v4 : BitVec 32 := Scalar.addi v3 c0_i32
  let c2_i32_22 : BitVec 32 := 2#32
  let v37 : BitVec 32 := Scalar.minsi v4 c2_i32_22
  let c0_i32_23 : BitVec 32 := 0#32
  let v38 : BitVec 32 := Scalar.maxsi v37 c0_i32_23
  let c2_i32_24 : BitVec 32 := 2#32
  let v39 : BitVec 32 := Scalar.minsi v38 c2_i32_24
  let c0_i32_25 : BitVec 32 := 0#32
  let v40 : BitVec 1 := Scalar.cmpi .ne v39 c0_i32_25
  v40

def k0_cond2 (i : grid0.Coords) : BitVec 1 :=
  let arg1 : BitVec 32 := BitVec.ofNat 32 (i 1).val
  let c2_i32 : BitVec 32 := 2#32
  let v3 : BitVec 32 := Scalar.muli arg1 c2_i32
  let c0_i32 : BitVec 32 := 0#32
  let v4 : BitVec 32 := Scalar.addi v3 c0_i32
  let c2_i32_22 : BitVec 32 := 2#32
  let v37 : BitVec 32 := Scalar.minsi v4 c2_i32_22
  let c0_i32_23 : BitVec 32 := 0#32
  let v38 : BitVec 32 := Scalar.maxsi v37 c0_i32_23
  let c2_i32_24 : BitVec 32 := 2#32
  let v39 : BitVec 32 := Scalar.minsi v38 c2_i32_24
  let c1_i32_80 : BitVec 32 := 1#32
  let v105 : BitVec 32 := Scalar.subi v39 c1_i32_80
  let c0_i32_81 : BitVec 32 := 0#32
  let v106 : BitVec 1 := Scalar.cmpi .ne v105 c0_i32_81
  v106

def k0_mult1 (i : grid0.Coords) : BitVec 32 :=
  let arg1 : BitVec 32 := BitVec.ofNat 32 (i 1).val
  let c2_i32 : BitVec 32 := 2#32
  let v3 : BitVec 32 := Scalar.muli arg1 c2_i32
  let c0_i32 : BitVec 32 := 0#32
  let v4 : BitVec 32 := Scalar.addi v3 c0_i32
  let c0_i32_82 : BitVec 32 := 0#32
  let v108 : BitVec 32 := Scalar.subi v4 c0_i32_82
  let c128_i32 : BitVec 32 := 128#32
  let v109 : BitVec 32 := Scalar.muli v108 c128_i32
  v109
def k0_mult2 (i : grid0.Coords) : BitVec 32 :=
  let arg1 : BitVec 32 := BitVec.ofNat 32 (i 1).val
  let c2_i32 : BitVec 32 := 2#32
  let v3 : BitVec 32 := Scalar.muli arg1 c2_i32
  let c0_i32 : BitVec 32 := 0#32
  let v4 : BitVec 32 := Scalar.addi v3 c0_i32
  let c1_i32_83 : BitVec 32 := 1#32
  let v111 : BitVec 32 := Scalar.subi v4 c1_i32_83
  let c128_i32_84 : BitVec 32 := 128#32
  let v112 : BitVec 32 := Scalar.muli v111 c128_i32_84
  v112
def k0_mult3 (i : grid0.Coords) : BitVec 32 :=
  let arg1 : BitVec 32 := BitVec.ofNat 32 (i 1).val
  let c2_i32 : BitVec 32 := 2#32
  let v3 : BitVec 32 := Scalar.muli arg1 c2_i32
  let c0_i32 : BitVec 32 := 0#32
  let v4 : BitVec 32 := Scalar.addi v3 c0_i32
  let c2_i32_85 : BitVec 32 := 2#32
  let v114 : BitVec 32 := Scalar.subi v4 c2_i32_85
  let c128_i32_86 : BitVec 32 := 128#32
  let v115 : BitVec 32 := Scalar.muli v114 c128_i32_86
  v115
def k0_off1 (i : grid0.Coords) (c0_i32_82 : BitVec 32) : Fin 3 → Nat :=
  let c0_92 : Index := 0#32
  let arg1 : BitVec 32 := BitVec.ofNat 32 (i 1).val
  let c2_i32 : BitVec 32 := 2#32
  let v3 : BitVec 32 := Scalar.muli arg1 c2_i32
  let c0_i32 : BitVec 32 := 0#32
  let v4 : BitVec 32 := Scalar.addi v3 c0_i32
  let v108 : BitVec 32 := Scalar.subi v4 c0_i32_82
  let c128_i32 : BitVec 32 := 128#32
  let v109 : BitVec 32 := Scalar.muli v108 c128_i32
  let v110 : BitVec 32 := v109
  let v127 : Index := Scalar.indexCast v110
  let c0_93 : Index := 0#32
  ![0, v127.toNat, 0]
def k0_off2 (i : grid0.Coords) (c0_i32_82 : BitVec 32) : Fin 3 → Nat :=
  let c0_99 : Index := 0#32
  let arg1 : BitVec 32 := BitVec.ofNat 32 (i 1).val
  let c2_i32 : BitVec 32 := 2#32
  let v3 : BitVec 32 := Scalar.muli arg1 c2_i32
  let c0_i32 : BitVec 32 := 0#32
  let v4 : BitVec 32 := Scalar.addi v3 c0_i32
  let v108 : BitVec 32 := Scalar.subi v4 c0_i32_82
  let c128_i32 : BitVec 32 := 128#32
  let v109 : BitVec 32 := Scalar.muli v108 c128_i32
  let v110 : BitVec 32 := v109
  let v141 : Index := Scalar.indexCast v110
  let c128_100 : Index := 128#32
  ![0, v141.toNat, 128]
def k0_off3 (i : grid0.Coords) (c0_i32_82 : BitVec 32) : Fin 3 → Nat :=
  let c0_105 : Index := 0#32
  let arg1 : BitVec 32 := BitVec.ofNat 32 (i 1).val
  let c2_i32 : BitVec 32 := 2#32
  let v3 : BitVec 32 := Scalar.muli arg1 c2_i32
  let c0_i32 : BitVec 32 := 0#32
  let v4 : BitVec 32 := Scalar.addi v3 c0_i32
  let v108 : BitVec 32 := Scalar.subi v4 c0_i32_82
  let c128_i32 : BitVec 32 := 128#32
  let v109 : BitVec 32 := Scalar.muli v108 c128_i32
  let v110 : BitVec 32 := v109
  let v155 : Index := Scalar.indexCast v110
  let c256_106 : Index := 256#32
  ![0, v155.toNat, 256]
def k0_off4 (i : grid0.Coords) (c0_i32_82 : BitVec 32) : Fin 3 → Nat :=
  let c0_111 : Index := 0#32
  let arg1 : BitVec 32 := BitVec.ofNat 32 (i 1).val
  let c2_i32 : BitVec 32 := 2#32
  let v3 : BitVec 32 := Scalar.muli arg1 c2_i32
  let c0_i32 : BitVec 32 := 0#32
  let v4 : BitVec 32 := Scalar.addi v3 c0_i32
  let v108 : BitVec 32 := Scalar.subi v4 c0_i32_82
  let c128_i32 : BitVec 32 := 128#32
  let v109 : BitVec 32 := Scalar.muli v108 c128_i32
  let v110 : BitVec 32 := v109
  let v169 : Index := Scalar.indexCast v110
  let c384_112 : Index := 384#32
  ![0, v169.toNat, 384]
def k0_mult4 (i : grid0.Coords) : BitVec 32 :=
  let arg1 : BitVec 32 := BitVec.ofNat 32 (i 1).val
  let c2_i32 : BitVec 32 := 2#32
  let v3 : BitVec 32 := Scalar.muli arg1 c2_i32
  let c0_i32 : BitVec 32 := 0#32
  let v4 : BitVec 32 := Scalar.addi v3 c0_i32
  let c0_i32_82 : BitVec 32 := 0#32
  let v108 : BitVec 32 := Scalar.subi v4 c0_i32_82
  let c128_i32 : BitVec 32 := 128#32
  let v109 : BitVec 32 := Scalar.muli v108 c128_i32
  v109
def k0_mult5 (i : grid0.Coords) : BitVec 32 :=
  let arg1 : BitVec 32 := BitVec.ofNat 32 (i 1).val
  let c2_i32 : BitVec 32 := 2#32
  let v3 : BitVec 32 := Scalar.muli arg1 c2_i32
  let c0_i32 : BitVec 32 := 0#32
  let v4 : BitVec 32 := Scalar.addi v3 c0_i32
  let c1_i32_83 : BitVec 32 := 1#32
  let v111 : BitVec 32 := Scalar.subi v4 c1_i32_83
  let c128_i32_84 : BitVec 32 := 128#32
  let v112 : BitVec 32 := Scalar.muli v111 c128_i32_84
  v112
def k0_off5 (i : grid0.Coords) (c0_i32_82 : BitVec 32) : Fin 3 → Nat :=
  let c0_90 : Index := 0#32
  let arg1 : BitVec 32 := BitVec.ofNat 32 (i 1).val
  let c2_i32 : BitVec 32 := 2#32
  let v3 : BitVec 32 := Scalar.muli arg1 c2_i32
  let c0_i32 : BitVec 32 := 0#32
  let v4 : BitVec 32 := Scalar.addi v3 c0_i32
  let v108 : BitVec 32 := Scalar.subi v4 c0_i32_82
  let c128_i32 : BitVec 32 := 128#32
  let v109 : BitVec 32 := Scalar.muli v108 c128_i32
  let v110 : BitVec 32 := v109
  let v124 : Index := Scalar.indexCast v110
  let c0_91 : Index := 0#32
  ![0, v124.toNat, 0]
def k0_off6 (i : grid0.Coords) (c0_i32_82 : BitVec 32) : Fin 3 → Nat :=
  let c0_97 : Index := 0#32
  let arg1 : BitVec 32 := BitVec.ofNat 32 (i 1).val
  let c2_i32 : BitVec 32 := 2#32
  let v3 : BitVec 32 := Scalar.muli arg1 c2_i32
  let c0_i32 : BitVec 32 := 0#32
  let v4 : BitVec 32 := Scalar.addi v3 c0_i32
  let v108 : BitVec 32 := Scalar.subi v4 c0_i32_82
  let c128_i32 : BitVec 32 := 128#32
  let v109 : BitVec 32 := Scalar.muli v108 c128_i32
  let v110 : BitVec 32 := v109
  let v138 : Index := Scalar.indexCast v110
  let c128_98 : Index := 128#32
  ![0, v138.toNat, 128]
def k0_off7 (i : grid0.Coords) (c0_i32_82 : BitVec 32) : Fin 3 → Nat :=
  let c0_103 : Index := 0#32
  let arg1 : BitVec 32 := BitVec.ofNat 32 (i 1).val
  let c2_i32 : BitVec 32 := 2#32
  let v3 : BitVec 32 := Scalar.muli arg1 c2_i32
  let c0_i32 : BitVec 32 := 0#32
  let v4 : BitVec 32 := Scalar.addi v3 c0_i32
  let v108 : BitVec 32 := Scalar.subi v4 c0_i32_82
  let c128_i32 : BitVec 32 := 128#32
  let v109 : BitVec 32 := Scalar.muli v108 c128_i32
  let v110 : BitVec 32 := v109
  let v152 : Index := Scalar.indexCast v110
  let c256_104 : Index := 256#32
  ![0, v152.toNat, 256]
def k0_off8 (i : grid0.Coords) (c0_i32_82 : BitVec 32) : Fin 3 → Nat :=
  let c0_109 : Index := 0#32
  let arg1 : BitVec 32 := BitVec.ofNat 32 (i 1).val
  let c2_i32 : BitVec 32 := 2#32
  let v3 : BitVec 32 := Scalar.muli arg1 c2_i32
  let c0_i32 : BitVec 32 := 0#32
  let v4 : BitVec 32 := Scalar.addi v3 c0_i32
  let v108 : BitVec 32 := Scalar.subi v4 c0_i32_82
  let c128_i32 : BitVec 32 := 128#32
  let v109 : BitVec 32 := Scalar.muli v108 c128_i32
  let v110 : BitVec 32 := v109
  let v166 : Index := Scalar.indexCast v110
  let c384_110 : Index := 384#32
  ![0, v166.toNat, 384]
def k0_mult6 (i : grid0.Coords) : BitVec 32 :=
  let arg1 : BitVec 32 := BitVec.ofNat 32 (i 1).val
  let c2_i32 : BitVec 32 := 2#32
  let v3 : BitVec 32 := Scalar.muli arg1 c2_i32
  let c0_i32 : BitVec 32 := 0#32
  let v4 : BitVec 32 := Scalar.addi v3 c0_i32
  let c0_i32_80 : BitVec 32 := 0#32
  let v105 : BitVec 32 := Scalar.subi v4 c0_i32_80
  let c128_i32 : BitVec 32 := 128#32
  let v106 : BitVec 32 := Scalar.muli v105 c128_i32
  v106
def k0_off9 (i : grid0.Coords) : Fin 3 → Nat :=
  let c0_86 : Index := 0#32
  let arg1 : BitVec 32 := BitVec.ofNat 32 (i 1).val
  let c2_i32 : BitVec 32 := 2#32
  let v3 : BitVec 32 := Scalar.muli arg1 c2_i32
  let c0_i32 : BitVec 32 := 0#32
  let v4 : BitVec 32 := Scalar.addi v3 c0_i32
  let c0_i32_80 : BitVec 32 := 0#32
  let v105 : BitVec 32 := Scalar.subi v4 c0_i32_80
  let c128_i32 : BitVec 32 := 128#32
  let v106 : BitVec 32 := Scalar.muli v105 c128_i32
  let v107 : BitVec 32 := v106
  let v118 : Index := Scalar.indexCast v107
  let c0_87 : Index := 0#32
  ![0, v118.toNat, 0]
def k0_off10 (i : grid0.Coords) : Fin 3 → Nat :=
  let c0_93 : Index := 0#32
  let arg1 : BitVec 32 := BitVec.ofNat 32 (i 1).val
  let c2_i32 : BitVec 32 := 2#32
  let v3 : BitVec 32 := Scalar.muli arg1 c2_i32
  let c0_i32 : BitVec 32 := 0#32
  let v4 : BitVec 32 := Scalar.addi v3 c0_i32
  let c0_i32_80 : BitVec 32 := 0#32
  let v105 : BitVec 32 := Scalar.subi v4 c0_i32_80
  let c128_i32 : BitVec 32 := 128#32
  let v106 : BitVec 32 := Scalar.muli v105 c128_i32
  let v107 : BitVec 32 := v106
  let v132 : Index := Scalar.indexCast v107
  let c128_94 : Index := 128#32
  ![0, v132.toNat, 128]
def k0_off11 (i : grid0.Coords) : Fin 3 → Nat :=
  let c0_99 : Index := 0#32
  let arg1 : BitVec 32 := BitVec.ofNat 32 (i 1).val
  let c2_i32 : BitVec 32 := 2#32
  let v3 : BitVec 32 := Scalar.muli arg1 c2_i32
  let c0_i32 : BitVec 32 := 0#32
  let v4 : BitVec 32 := Scalar.addi v3 c0_i32
  let c0_i32_80 : BitVec 32 := 0#32
  let v105 : BitVec 32 := Scalar.subi v4 c0_i32_80
  let c128_i32 : BitVec 32 := 128#32
  let v106 : BitVec 32 := Scalar.muli v105 c128_i32
  let v107 : BitVec 32 := v106
  let v146 : Index := Scalar.indexCast v107
  let c256_100 : Index := 256#32
  ![0, v146.toNat, 256]
def k0_off12 (i : grid0.Coords) : Fin 3 → Nat :=
  let c0_105 : Index := 0#32
  let arg1 : BitVec 32 := BitVec.ofNat 32 (i 1).val
  let c2_i32 : BitVec 32 := 2#32
  let v3 : BitVec 32 := Scalar.muli arg1 c2_i32
  let c0_i32 : BitVec 32 := 0#32
  let v4 : BitVec 32 := Scalar.addi v3 c0_i32
  let c0_i32_80 : BitVec 32 := 0#32
  let v105 : BitVec 32 := Scalar.subi v4 c0_i32_80
  let c128_i32 : BitVec 32 := 128#32
  let v106 : BitVec 32 := Scalar.muli v105 c128_i32
  let v107 : BitVec 32 := v106
  let v160 : Index := Scalar.indexCast v107
  let c384_106 : Index := 384#32
  ![0, v160.toNat, 384]
def k0_mult7 (arg15 : BitVec 32) : BitVec 32 :=
  let c0_i32_81 : BitVec 32 := 0#32
  let v106 : BitVec 32 := Scalar.subi arg15 c0_i32_81
  let c128_i32 : BitVec 32 := 128#32
  let v107 : BitVec 32 := Scalar.muli v106 c128_i32
  v107

def k0_off13 (arg15 : BitVec 32) : Fin 3 → Nat :=
  let c0_85 : Index := 0#32
  let c0_i32_81 : BitVec 32 := 0#32
  let v106 : BitVec 32 := Scalar.subi arg15 c0_i32_81
  let c128_i32 : BitVec 32 := 128#32
  let v107 : BitVec 32 := Scalar.muli v106 c128_i32
  let v108 : BitVec 32 := v107
  let v111 : Index := Scalar.indexCast v108
  let c0_86 : Index := 0#32
  ![0, v111.toNat, 0]
def k0_off14 (arg15 : BitVec 32) : Fin 3 → Nat :=
  let c0_92 : Index := 0#32
  let c0_i32_81 : BitVec 32 := 0#32
  let v106 : BitVec 32 := Scalar.subi arg15 c0_i32_81
  let c128_i32 : BitVec 32 := 128#32
  let v107 : BitVec 32 := Scalar.muli v106 c128_i32
  let v108 : BitVec 32 := v107
  let v125 : Index := Scalar.indexCast v108
  let c128_93 : Index := 128#32
  ![0, v125.toNat, 128]
def k0_off15 (arg15 : BitVec 32) : Fin 3 → Nat :=
  let c0_98 : Index := 0#32
  let c0_i32_81 : BitVec 32 := 0#32
  let v106 : BitVec 32 := Scalar.subi arg15 c0_i32_81
  let c128_i32 : BitVec 32 := 128#32
  let v107 : BitVec 32 := Scalar.muli v106 c128_i32
  let v108 : BitVec 32 := v107
  let v139 : Index := Scalar.indexCast v108
  let c256_99 : Index := 256#32
  ![0, v139.toNat, 256]
def k0_off16 (arg15 : BitVec 32) : Fin 3 → Nat :=
  let c0_104 : Index := 0#32
  let c0_i32_81 : BitVec 32 := 0#32
  let v106 : BitVec 32 := Scalar.subi arg15 c0_i32_81
  let c128_i32 : BitVec 32 := 128#32
  let v107 : BitVec 32 := Scalar.muli v106 c128_i32
  let v108 : BitVec 32 := v107
  let v153 : Index := Scalar.indexCast v108
  let c384_105 : Index := 384#32
  ![0, v153.toNat, 384]

def k0_chk1 (arg15 : BitVec 32) : Prop :=
  (128 ∣ (k0_mult7 arg15).toNat) ∧
  (∀ a, (k0_off13 arg15) a + S1x128x128.size a ≤ S1x4096x512.size a) ∧
  (∀ a, (k0_off14 arg15) a + S1x128x128.size a ≤ S1x4096x512.size a) ∧
  (∀ a, (k0_off15 arg15) a + S1x128x128.size a ≤ S1x4096x512.size a) ∧
  (∀ a, (k0_off16 arg15) a + S1x128x128.size a ≤ S1x4096x512.size a)
theorem k0_mult7_dvd : ∀ (arg15 : BitVec 32) (k0_hw1 : k0_chk1 arg15), 128 ∣ (k0_mult7 arg15).toNat := fun arg15 k0_hw1 => k0_hw1.1
theorem k0_off13_inb : ∀ (arg15 : BitVec 32) (k0_hw1 : k0_chk1 arg15), ∀ a, (k0_off13 arg15) a + S1x128x128.size a ≤ S1x4096x512.size a := fun arg15 k0_hw1 => k0_hw1.2.1
theorem k0_off14_inb : ∀ (arg15 : BitVec 32) (k0_hw1 : k0_chk1 arg15), ∀ a, (k0_off14 arg15) a + S1x128x128.size a ≤ S1x4096x512.size a := fun arg15 k0_hw1 => k0_hw1.2.2.1
theorem k0_off15_inb : ∀ (arg15 : BitVec 32) (k0_hw1 : k0_chk1 arg15), ∀ a, (k0_off15 arg15) a + S1x128x128.size a ≤ S1x4096x512.size a := fun arg15 k0_hw1 => k0_hw1.2.2.2.1
theorem k0_off16_inb : ∀ (arg15 : BitVec 32) (k0_hw1 : k0_chk1 arg15), ∀ a, (k0_off16 arg15) a + S1x128x128.size a ≤ S1x4096x512.size a := fun arg15 k0_hw1 => k0_hw1.2.2.2.2

def k0_cond3 (i : grid0.Coords) : BitVec 1 :=
  let arg1 : BitVec 32 := BitVec.ofNat 32 (i 1).val
  let c2_i32_38 : BitVec 32 := 2#32
  let v54 : BitVec 32 := Scalar.muli arg1 c2_i32_38
  let c1_i32_39 : BitVec 32 := 1#32
  let v55 : BitVec 32 := Scalar.addi v54 c1_i32_39
  let c2_i32_64 : BitVec 32 := 2#32
  let v88 : BitVec 32 := Scalar.minsi v55 c2_i32_64
  let c0_i32_65 : BitVec 32 := 0#32
  let v89 : BitVec 32 := Scalar.maxsi v88 c0_i32_65
  let c2_i32_66 : BitVec 32 := 2#32
  let v90 : BitVec 32 := Scalar.minsi v89 c2_i32_66
  let c0_i32_67 : BitVec 32 := 0#32
  let v91 : BitVec 1 := Scalar.cmpi .ne v90 c0_i32_67
  v91

def k0_cond4 (i : grid0.Coords) : BitVec 1 :=
  let arg1 : BitVec 32 := BitVec.ofNat 32 (i 1).val
  let c2_i32_38 : BitVec 32 := 2#32
  let v54 : BitVec 32 := Scalar.muli arg1 c2_i32_38
  let c1_i32_39 : BitVec 32 := 1#32
  let v55 : BitVec 32 := Scalar.addi v54 c1_i32_39
  let c2_i32_64 : BitVec 32 := 2#32
  let v88 : BitVec 32 := Scalar.minsi v55 c2_i32_64
  let c0_i32_65 : BitVec 32 := 0#32
  let v89 : BitVec 32 := Scalar.maxsi v88 c0_i32_65
  let c2_i32_66 : BitVec 32 := 2#32
  let v90 : BitVec 32 := Scalar.minsi v89 c2_i32_66
  let c1_i32_80 : BitVec 32 := 1#32
  let v105 : BitVec 32 := Scalar.subi v90 c1_i32_80
  let c0_i32_81 : BitVec 32 := 0#32
  let v106 : BitVec 1 := Scalar.cmpi .ne v105 c0_i32_81
  v106

def k0_mult8 (i : grid0.Coords) : BitVec 32 :=
  let arg1 : BitVec 32 := BitVec.ofNat 32 (i 1).val
  let c2_i32_38 : BitVec 32 := 2#32
  let v54 : BitVec 32 := Scalar.muli arg1 c2_i32_38
  let c1_i32_39 : BitVec 32 := 1#32
  let v55 : BitVec 32 := Scalar.addi v54 c1_i32_39
  let c0_i32_82 : BitVec 32 := 0#32
  let v108 : BitVec 32 := Scalar.subi v55 c0_i32_82
  let c128_i32 : BitVec 32 := 128#32
  let v109 : BitVec 32 := Scalar.muli v108 c128_i32
  v109
def k0_mult9 (i : grid0.Coords) : BitVec 32 :=
  let arg1 : BitVec 32 := BitVec.ofNat 32 (i 1).val
  let c2_i32_38 : BitVec 32 := 2#32
  let v54 : BitVec 32 := Scalar.muli arg1 c2_i32_38
  let c1_i32_39 : BitVec 32 := 1#32
  let v55 : BitVec 32 := Scalar.addi v54 c1_i32_39
  let c1_i32_83 : BitVec 32 := 1#32
  let v111 : BitVec 32 := Scalar.subi v55 c1_i32_83
  let c128_i32_84 : BitVec 32 := 128#32
  let v112 : BitVec 32 := Scalar.muli v111 c128_i32_84
  v112
def k0_mult10 (i : grid0.Coords) : BitVec 32 :=
  let arg1 : BitVec 32 := BitVec.ofNat 32 (i 1).val
  let c2_i32_38 : BitVec 32 := 2#32
  let v54 : BitVec 32 := Scalar.muli arg1 c2_i32_38
  let c1_i32_39 : BitVec 32 := 1#32
  let v55 : BitVec 32 := Scalar.addi v54 c1_i32_39
  let c2_i32_85 : BitVec 32 := 2#32
  let v114 : BitVec 32 := Scalar.subi v55 c2_i32_85
  let c128_i32_86 : BitVec 32 := 128#32
  let v115 : BitVec 32 := Scalar.muli v114 c128_i32_86
  v115
def k0_off17 (i : grid0.Coords) (c0_i32_82 : BitVec 32) : Fin 3 → Nat :=
  let c0_92 : Index := 0#32
  let arg1 : BitVec 32 := BitVec.ofNat 32 (i 1).val
  let c2_i32_38 : BitVec 32 := 2#32
  let v54 : BitVec 32 := Scalar.muli arg1 c2_i32_38
  let c1_i32_39 : BitVec 32 := 1#32
  let v55 : BitVec 32 := Scalar.addi v54 c1_i32_39
  let v108 : BitVec 32 := Scalar.subi v55 c0_i32_82
  let c128_i32 : BitVec 32 := 128#32
  let v109 : BitVec 32 := Scalar.muli v108 c128_i32
  let v110 : BitVec 32 := v109
  let v127 : Index := Scalar.indexCast v110
  let c0_93 : Index := 0#32
  ![0, v127.toNat, 0]
def k0_off18 (i : grid0.Coords) (c0_i32_82 : BitVec 32) : Fin 3 → Nat :=
  let c0_99 : Index := 0#32
  let arg1 : BitVec 32 := BitVec.ofNat 32 (i 1).val
  let c2_i32_38 : BitVec 32 := 2#32
  let v54 : BitVec 32 := Scalar.muli arg1 c2_i32_38
  let c1_i32_39 : BitVec 32 := 1#32
  let v55 : BitVec 32 := Scalar.addi v54 c1_i32_39
  let v108 : BitVec 32 := Scalar.subi v55 c0_i32_82
  let c128_i32 : BitVec 32 := 128#32
  let v109 : BitVec 32 := Scalar.muli v108 c128_i32
  let v110 : BitVec 32 := v109
  let v141 : Index := Scalar.indexCast v110
  let c128_100 : Index := 128#32
  ![0, v141.toNat, 128]
def k0_off19 (i : grid0.Coords) (c0_i32_82 : BitVec 32) : Fin 3 → Nat :=
  let c0_105 : Index := 0#32
  let arg1 : BitVec 32 := BitVec.ofNat 32 (i 1).val
  let c2_i32_38 : BitVec 32 := 2#32
  let v54 : BitVec 32 := Scalar.muli arg1 c2_i32_38
  let c1_i32_39 : BitVec 32 := 1#32
  let v55 : BitVec 32 := Scalar.addi v54 c1_i32_39
  let v108 : BitVec 32 := Scalar.subi v55 c0_i32_82
  let c128_i32 : BitVec 32 := 128#32
  let v109 : BitVec 32 := Scalar.muli v108 c128_i32
  let v110 : BitVec 32 := v109
  let v155 : Index := Scalar.indexCast v110
  let c256_106 : Index := 256#32
  ![0, v155.toNat, 256]
def k0_off20 (i : grid0.Coords) (c0_i32_82 : BitVec 32) : Fin 3 → Nat :=
  let c0_111 : Index := 0#32
  let arg1 : BitVec 32 := BitVec.ofNat 32 (i 1).val
  let c2_i32_38 : BitVec 32 := 2#32
  let v54 : BitVec 32 := Scalar.muli arg1 c2_i32_38
  let c1_i32_39 : BitVec 32 := 1#32
  let v55 : BitVec 32 := Scalar.addi v54 c1_i32_39
  let v108 : BitVec 32 := Scalar.subi v55 c0_i32_82
  let c128_i32 : BitVec 32 := 128#32
  let v109 : BitVec 32 := Scalar.muli v108 c128_i32
  let v110 : BitVec 32 := v109
  let v169 : Index := Scalar.indexCast v110
  let c384_112 : Index := 384#32
  ![0, v169.toNat, 384]
def k0_mult11 (i : grid0.Coords) : BitVec 32 :=
  let arg1 : BitVec 32 := BitVec.ofNat 32 (i 1).val
  let c2_i32_38 : BitVec 32 := 2#32
  let v54 : BitVec 32 := Scalar.muli arg1 c2_i32_38
  let c1_i32_39 : BitVec 32 := 1#32
  let v55 : BitVec 32 := Scalar.addi v54 c1_i32_39
  let c0_i32_82 : BitVec 32 := 0#32
  let v108 : BitVec 32 := Scalar.subi v55 c0_i32_82
  let c128_i32 : BitVec 32 := 128#32
  let v109 : BitVec 32 := Scalar.muli v108 c128_i32
  v109
def k0_mult12 (i : grid0.Coords) : BitVec 32 :=
  let arg1 : BitVec 32 := BitVec.ofNat 32 (i 1).val
  let c2_i32_38 : BitVec 32 := 2#32
  let v54 : BitVec 32 := Scalar.muli arg1 c2_i32_38
  let c1_i32_39 : BitVec 32 := 1#32
  let v55 : BitVec 32 := Scalar.addi v54 c1_i32_39
  let c1_i32_83 : BitVec 32 := 1#32
  let v111 : BitVec 32 := Scalar.subi v55 c1_i32_83
  let c128_i32_84 : BitVec 32 := 128#32
  let v112 : BitVec 32 := Scalar.muli v111 c128_i32_84
  v112
def k0_off21 (i : grid0.Coords) (c0_i32_82 : BitVec 32) : Fin 3 → Nat :=
  let c0_90 : Index := 0#32
  let arg1 : BitVec 32 := BitVec.ofNat 32 (i 1).val
  let c2_i32_38 : BitVec 32 := 2#32
  let v54 : BitVec 32 := Scalar.muli arg1 c2_i32_38
  let c1_i32_39 : BitVec 32 := 1#32
  let v55 : BitVec 32 := Scalar.addi v54 c1_i32_39
  let v108 : BitVec 32 := Scalar.subi v55 c0_i32_82
  let c128_i32 : BitVec 32 := 128#32
  let v109 : BitVec 32 := Scalar.muli v108 c128_i32
  let v110 : BitVec 32 := v109
  let v124 : Index := Scalar.indexCast v110
  let c0_91 : Index := 0#32
  ![0, v124.toNat, 0]
def k0_off22 (i : grid0.Coords) (c0_i32_82 : BitVec 32) : Fin 3 → Nat :=
  let c0_97 : Index := 0#32
  let arg1 : BitVec 32 := BitVec.ofNat 32 (i 1).val
  let c2_i32_38 : BitVec 32 := 2#32
  let v54 : BitVec 32 := Scalar.muli arg1 c2_i32_38
  let c1_i32_39 : BitVec 32 := 1#32
  let v55 : BitVec 32 := Scalar.addi v54 c1_i32_39
  let v108 : BitVec 32 := Scalar.subi v55 c0_i32_82
  let c128_i32 : BitVec 32 := 128#32
  let v109 : BitVec 32 := Scalar.muli v108 c128_i32
  let v110 : BitVec 32 := v109
  let v138 : Index := Scalar.indexCast v110
  let c128_98 : Index := 128#32
  ![0, v138.toNat, 128]
def k0_off23 (i : grid0.Coords) (c0_i32_82 : BitVec 32) : Fin 3 → Nat :=
  let c0_103 : Index := 0#32
  let arg1 : BitVec 32 := BitVec.ofNat 32 (i 1).val
  let c2_i32_38 : BitVec 32 := 2#32
  let v54 : BitVec 32 := Scalar.muli arg1 c2_i32_38
  let c1_i32_39 : BitVec 32 := 1#32
  let v55 : BitVec 32 := Scalar.addi v54 c1_i32_39
  let v108 : BitVec 32 := Scalar.subi v55 c0_i32_82
  let c128_i32 : BitVec 32 := 128#32
  let v109 : BitVec 32 := Scalar.muli v108 c128_i32
  let v110 : BitVec 32 := v109
  let v152 : Index := Scalar.indexCast v110
  let c256_104 : Index := 256#32
  ![0, v152.toNat, 256]
def k0_off24 (i : grid0.Coords) (c0_i32_82 : BitVec 32) : Fin 3 → Nat :=
  let c0_109 : Index := 0#32
  let arg1 : BitVec 32 := BitVec.ofNat 32 (i 1).val
  let c2_i32_38 : BitVec 32 := 2#32
  let v54 : BitVec 32 := Scalar.muli arg1 c2_i32_38
  let c1_i32_39 : BitVec 32 := 1#32
  let v55 : BitVec 32 := Scalar.addi v54 c1_i32_39
  let v108 : BitVec 32 := Scalar.subi v55 c0_i32_82
  let c128_i32 : BitVec 32 := 128#32
  let v109 : BitVec 32 := Scalar.muli v108 c128_i32
  let v110 : BitVec 32 := v109
  let v166 : Index := Scalar.indexCast v110
  let c384_110 : Index := 384#32
  ![0, v166.toNat, 384]
def k0_mult13 (i : grid0.Coords) : BitVec 32 :=
  let arg1 : BitVec 32 := BitVec.ofNat 32 (i 1).val
  let c2_i32_38 : BitVec 32 := 2#32
  let v54 : BitVec 32 := Scalar.muli arg1 c2_i32_38
  let c1_i32_39 : BitVec 32 := 1#32
  let v55 : BitVec 32 := Scalar.addi v54 c1_i32_39
  let c0_i32_80 : BitVec 32 := 0#32
  let v105 : BitVec 32 := Scalar.subi v55 c0_i32_80
  let c128_i32 : BitVec 32 := 128#32
  let v106 : BitVec 32 := Scalar.muli v105 c128_i32
  v106
def k0_off25 (i : grid0.Coords) : Fin 3 → Nat :=
  let c0_86 : Index := 0#32
  let arg1 : BitVec 32 := BitVec.ofNat 32 (i 1).val
  let c2_i32_38 : BitVec 32 := 2#32
  let v54 : BitVec 32 := Scalar.muli arg1 c2_i32_38
  let c1_i32_39 : BitVec 32 := 1#32
  let v55 : BitVec 32 := Scalar.addi v54 c1_i32_39
  let c0_i32_80 : BitVec 32 := 0#32
  let v105 : BitVec 32 := Scalar.subi v55 c0_i32_80
  let c128_i32 : BitVec 32 := 128#32
  let v106 : BitVec 32 := Scalar.muli v105 c128_i32
  let v107 : BitVec 32 := v106
  let v118 : Index := Scalar.indexCast v107
  let c0_87 : Index := 0#32
  ![0, v118.toNat, 0]
def k0_off26 (i : grid0.Coords) : Fin 3 → Nat :=
  let c0_93 : Index := 0#32
  let arg1 : BitVec 32 := BitVec.ofNat 32 (i 1).val
  let c2_i32_38 : BitVec 32 := 2#32
  let v54 : BitVec 32 := Scalar.muli arg1 c2_i32_38
  let c1_i32_39 : BitVec 32 := 1#32
  let v55 : BitVec 32 := Scalar.addi v54 c1_i32_39
  let c0_i32_80 : BitVec 32 := 0#32
  let v105 : BitVec 32 := Scalar.subi v55 c0_i32_80
  let c128_i32 : BitVec 32 := 128#32
  let v106 : BitVec 32 := Scalar.muli v105 c128_i32
  let v107 : BitVec 32 := v106
  let v132 : Index := Scalar.indexCast v107
  let c128_94 : Index := 128#32
  ![0, v132.toNat, 128]
def k0_off27 (i : grid0.Coords) : Fin 3 → Nat :=
  let c0_99 : Index := 0#32
  let arg1 : BitVec 32 := BitVec.ofNat 32 (i 1).val
  let c2_i32_38 : BitVec 32 := 2#32
  let v54 : BitVec 32 := Scalar.muli arg1 c2_i32_38
  let c1_i32_39 : BitVec 32 := 1#32
  let v55 : BitVec 32 := Scalar.addi v54 c1_i32_39
  let c0_i32_80 : BitVec 32 := 0#32
  let v105 : BitVec 32 := Scalar.subi v55 c0_i32_80
  let c128_i32 : BitVec 32 := 128#32
  let v106 : BitVec 32 := Scalar.muli v105 c128_i32
  let v107 : BitVec 32 := v106
  let v146 : Index := Scalar.indexCast v107
  let c256_100 : Index := 256#32
  ![0, v146.toNat, 256]
def k0_off28 (i : grid0.Coords) : Fin 3 → Nat :=
  let c0_105 : Index := 0#32
  let arg1 : BitVec 32 := BitVec.ofNat 32 (i 1).val
  let c2_i32_38 : BitVec 32 := 2#32
  let v54 : BitVec 32 := Scalar.muli arg1 c2_i32_38
  let c1_i32_39 : BitVec 32 := 1#32
  let v55 : BitVec 32 := Scalar.addi v54 c1_i32_39
  let c0_i32_80 : BitVec 32 := 0#32
  let v105 : BitVec 32 := Scalar.subi v55 c0_i32_80
  let c128_i32 : BitVec 32 := 128#32
  let v106 : BitVec 32 := Scalar.muli v105 c128_i32
  let v107 : BitVec 32 := v106
  let v160 : Index := Scalar.indexCast v107
  let c384_106 : Index := 384#32
  ![0, v160.toNat, 384]
def k0_mult14 (arg15 : BitVec 32) : BitVec 32 :=
  let c0_i32_81 : BitVec 32 := 0#32
  let v106 : BitVec 32 := Scalar.subi arg15 c0_i32_81
  let c128_i32 : BitVec 32 := 128#32
  let v107 : BitVec 32 := Scalar.muli v106 c128_i32
  v107

def k0_off29 (arg15 : BitVec 32) : Fin 3 → Nat :=
  let c0_85 : Index := 0#32
  let c0_i32_81 : BitVec 32 := 0#32
  let v106 : BitVec 32 := Scalar.subi arg15 c0_i32_81
  let c128_i32 : BitVec 32 := 128#32
  let v107 : BitVec 32 := Scalar.muli v106 c128_i32
  let v108 : BitVec 32 := v107
  let v111 : Index := Scalar.indexCast v108
  let c0_86 : Index := 0#32
  ![0, v111.toNat, 0]
def k0_off30 (arg15 : BitVec 32) : Fin 3 → Nat :=
  let c0_92 : Index := 0#32
  let c0_i32_81 : BitVec 32 := 0#32
  let v106 : BitVec 32 := Scalar.subi arg15 c0_i32_81
  let c128_i32 : BitVec 32 := 128#32
  let v107 : BitVec 32 := Scalar.muli v106 c128_i32
  let v108 : BitVec 32 := v107
  let v125 : Index := Scalar.indexCast v108
  let c128_93 : Index := 128#32
  ![0, v125.toNat, 128]
def k0_off31 (arg15 : BitVec 32) : Fin 3 → Nat :=
  let c0_98 : Index := 0#32
  let c0_i32_81 : BitVec 32 := 0#32
  let v106 : BitVec 32 := Scalar.subi arg15 c0_i32_81
  let c128_i32 : BitVec 32 := 128#32
  let v107 : BitVec 32 := Scalar.muli v106 c128_i32
  let v108 : BitVec 32 := v107
  let v139 : Index := Scalar.indexCast v108
  let c256_99 : Index := 256#32
  ![0, v139.toNat, 256]
def k0_off32 (arg15 : BitVec 32) : Fin 3 → Nat :=
  let c0_104 : Index := 0#32
  let c0_i32_81 : BitVec 32 := 0#32
  let v106 : BitVec 32 := Scalar.subi arg15 c0_i32_81
  let c128_i32 : BitVec 32 := 128#32
  let v107 : BitVec 32 := Scalar.muli v106 c128_i32
  let v108 : BitVec 32 := v107
  let v153 : Index := Scalar.indexCast v108
  let c384_105 : Index := 384#32
  ![0, v153.toNat, 384]

def k0_chk2 (arg15 : BitVec 32) : Prop :=
  (128 ∣ (k0_mult14 arg15).toNat) ∧
  (∀ a, (k0_off29 arg15) a + S1x128x128.size a ≤ S1x4096x512.size a) ∧
  (∀ a, (k0_off30 arg15) a + S1x128x128.size a ≤ S1x4096x512.size a) ∧
  (∀ a, (k0_off31 arg15) a + S1x128x128.size a ≤ S1x4096x512.size a) ∧
  (∀ a, (k0_off32 arg15) a + S1x128x128.size a ≤ S1x4096x512.size a)
theorem k0_mult14_dvd : ∀ (arg15 : BitVec 32) (k0_hw2 : k0_chk2 arg15), 128 ∣ (k0_mult14 arg15).toNat := fun arg15 k0_hw2 => k0_hw2.1
theorem k0_off29_inb : ∀ (arg15 : BitVec 32) (k0_hw2 : k0_chk2 arg15), ∀ a, (k0_off29 arg15) a + S1x128x128.size a ≤ S1x4096x512.size a := fun arg15 k0_hw2 => k0_hw2.2.1
theorem k0_off30_inb : ∀ (arg15 : BitVec 32) (k0_hw2 : k0_chk2 arg15), ∀ a, (k0_off30 arg15) a + S1x128x128.size a ≤ S1x4096x512.size a := fun arg15 k0_hw2 => k0_hw2.2.2.1
theorem k0_off31_inb : ∀ (arg15 : BitVec 32) (k0_hw2 : k0_chk2 arg15), ∀ a, (k0_off31 arg15) a + S1x128x128.size a ≤ S1x4096x512.size a := fun arg15 k0_hw2 => k0_hw2.2.2.2.1
theorem k0_off32_inb : ∀ (arg15 : BitVec 32) (k0_hw2 : k0_chk2 arg15), ∀ a, (k0_off32 arg15) a + S1x128x128.size a ≤ S1x4096x512.size a := fun arg15 k0_hw2 => k0_hw2.2.2.2.2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "inv_ln2" => some (((Real.log 2)⁻¹ : ℝ) : EReal)
  | "underflow" => some ⊤
  | _ => none
-- ==== ReferenceIdeal.lean ====
abbrev S8x4096x8x64 : Shape := ⟨4, ![8, 4096, 8, 64]⟩
abbrev S8x8x4096x64 : Shape := ⟨4, ![8, 8, 4096, 64]⟩
abbrev S8x8x4096x4096 : Shape := ⟨4, ![8, 8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x4096x512 : Shape := ⟨3, ![8, 4096, 512]⟩

abbrev nBuf : Space → Nat
  | .hbm => 69
  | .vmem => 0
  | .smem => 0
  | _ => 0

abbrev bufTy : (tb : Table) → Fin (tcTables nBuf tb) → BufTy
  | .hbm, ⟨0, _⟩ => ⟨S8x4096x8x64, .f32⟩
  | .hbm, ⟨1, _⟩ => ⟨S8x4096x8x64, .f32⟩
  | .hbm, ⟨2, _⟩ => ⟨S8x4096x8x64, .f32⟩
  | .hbm, ⟨3, _⟩ => ⟨S8x8x4096x64, .f32⟩
  | .hbm, ⟨4, _⟩ => ⟨S8x8x4096x64, .f32⟩
  | .hbm, ⟨5, _⟩ => ⟨S8x8x4096x64, .f32⟩
  | .hbm, ⟨6, _⟩ => ⟨S8x8x4096x4096, .f32⟩
  | .hbm, ⟨7, _⟩ => ⟨S_, .f32⟩
  | .hbm, ⟨8, _⟩ => ⟨S8x8x4096x4096, .f32⟩
  | .hbm, ⟨9, _⟩ => ⟨S8x8x4096x4096, .f32⟩
  | .hbm, ⟨10, _⟩ => ⟨S4096, .i32⟩
  | .hbm, ⟨11, _⟩ => ⟨S1x4096, .i32⟩
  | .hbm, ⟨12, _⟩ => ⟨S4096x1, .i32⟩
  | .hbm, ⟨13, _⟩ => ⟨S4096x4096, .i32⟩
  | .hbm, ⟨14, _⟩ => ⟨S4096x4096, .i32⟩
  | .hbm, ⟨15, _⟩ => ⟨S4096x4096, .i1⟩
  | .hbm, ⟨16, _⟩ => ⟨S8x8x4096x4096, .f32⟩
  | .hbm, ⟨17, _⟩ => ⟨S8x8x4096x4096, .f32⟩
  | .hbm, ⟨18, _⟩ => ⟨S_, .f32⟩
  | .hbm, ⟨19, _⟩ => ⟨S8x8x4096x4096, .f32⟩
  | .hbm, ⟨20, _⟩ => ⟨S8x8x4096x4096, .f32⟩
  | .hbm, ⟨21, _⟩ => ⟨S8x8x4096x4096, .f32⟩
  | .hbm, ⟨22, _⟩ => ⟨S8x8x4096x4096, .f32⟩
  | .hbm, ⟨23, _⟩ => ⟨S8x8x4096x4096, .i1⟩
  | .hbm, ⟨24, _⟩ => ⟨S8x8x4096x4096, .f32⟩
  | .hbm, ⟨25, _⟩ => ⟨S8x8x4096x4096, .f32⟩
  | .hbm, ⟨26, _⟩ => ⟨S8x8x4096x4096, .f32⟩
  | .hbm, ⟨27, _⟩ => ⟨S8x8x4096x4096, .f32⟩
  | .hbm, ⟨28, _⟩ => ⟨S8x8x4096x4096, .f32⟩
  | .hbm, ⟨29, _⟩ => ⟨S8x8x4096x4096, .f32⟩
  | .hbm, ⟨30, _⟩ => ⟨S8x8x4096x4096, .f32⟩
  | .hbm, ⟨31, _⟩ => ⟨S8x8x4096x4096, .f32⟩
  | .hbm, ⟨32, _⟩ => ⟨S8x8x4096x4096, .f32⟩
  | .hbm, ⟨33, _⟩ => ⟨S_, .f32⟩
  | .hbm, ⟨34, _⟩ => ⟨S_, .f32⟩
  | .hbm, ⟨35, _⟩ => ⟨S8x8x4096x4096, .i1⟩
  | .hbm, ⟨36, _⟩ => ⟨S8x8x4096x4096, .f32⟩
  | .hbm, ⟨37, _⟩ => ⟨S8x8x4096x4096, .f32⟩
  | .hbm, ⟨38, _⟩ => ⟨S_, .f32⟩
  | .hbm, ⟨39, _⟩ => ⟨S_, .f32⟩
  | .hbm, ⟨40, _⟩ => ⟨S8x8x4096x4096, .f32⟩
  | .hbm, ⟨41, _⟩ => ⟨S8x8x4096x4096, .f32⟩
  | .hbm, ⟨42, _⟩ => ⟨S8x8x4096x4096, .f32⟩
  | .hbm, ⟨43, _⟩ => ⟨S_, .f32⟩
  | .hbm, ⟨44, _⟩ => ⟨S8x8x4096x4096, .f32⟩
  | .hbm, ⟨45, _⟩ => ⟨S8x8x4096x4096, .f32⟩
  | .hbm, ⟨46, _⟩ => ⟨S8x8x4096x4096, .f32⟩
  | .hbm, ⟨47, _⟩ => ⟨S8x8x4096x4096, .f32⟩
  | .hbm, ⟨48, _⟩ => ⟨S8x8x4096x4096, .i1⟩
  | .hbm, ⟨49, _⟩ => ⟨S8x8x4096x4096, .f32⟩
  | .hbm, ⟨50, _⟩ => ⟨S8x8x4096x4096, .f32⟩
  | .hbm, ⟨51, _⟩ => ⟨S8x8x4096x4096, .f32⟩
  | .hbm, ⟨52, _⟩ => ⟨S8x8x4096x4096, .f32⟩
  | .hbm, ⟨53, _⟩ => ⟨S8x8x4096x4096, .f32⟩
  | .hbm, ⟨54, _⟩ => ⟨S8x8x4096x4096, .f32⟩
  | .hbm, ⟨55, _⟩ => ⟨S8x8x4096x4096, .f32⟩
  | .hbm, ⟨56, _⟩ => ⟨S8x8x4096x4096, .f32⟩
  | .hbm, ⟨57, _⟩ => ⟨S8x8x4096x4096, .f32⟩
  | .hbm, ⟨58, _⟩ => ⟨S8x8x4096x4096, .f32⟩
  | .hbm, ⟨59, _⟩ => ⟨S8x8x4096x4096, .f32⟩
  | .hbm, ⟨60, _⟩ => ⟨S_, .f32⟩
  | .hbm, ⟨61, _⟩ => ⟨S_, .f32⟩
  | .hbm, ⟨62, _⟩ => ⟨S8x8x4096x4096, .i1⟩
  | .hbm, ⟨63, _⟩ => ⟨S8x8x4096x4096, .f32⟩
  | .hbm, ⟨64, _⟩ => ⟨S8x8x4096x4096, .f32⟩
  | .hbm, ⟨65, _⟩ => ⟨S8x8x4096x64, .f32⟩
  | .hbm, ⟨66, _⟩ => ⟨S8x4096x8x64, .f32⟩
  | .hbm, ⟨67, _⟩ => ⟨S8x4096x512, .f32⟩
  | .hbm, ⟨68, _⟩ => ⟨S8x4096x512, .bf16⟩
  | _, _ => ⟨S8x4096x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_call0_v0 : Ref sig .tc := ⟨.hbm, 17, rfl⟩
abbrev main_call0_call0_cst : Ref sig .tc := ⟨.hbm, 18, rfl⟩
abbrev main_call0_call0_v0 : Ref sig .tc := ⟨.hbm, 19, rfl⟩
abbrev main_call0_call0_v1 : Ref sig .tc := ⟨.hbm, 20, rfl⟩
abbrev main_call0_call0_v2 : Ref sig .tc := ⟨.hbm, 21, rfl⟩
abbrev main_call0_call0_v3 : Ref sig .tc := ⟨.hbm, 22, rfl⟩
abbrev main_call0_call0_v4 : Ref sig .tc := ⟨.hbm, 23, rfl⟩
abbrev main_call0_call0_v5 : Ref sig .tc := ⟨.hbm, 24, rfl⟩
abbrev main_call0_call0_v6 : Ref sig .tc := ⟨.hbm, 25, rfl⟩
abbrev main_call0_call0_v7 : Ref sig .tc := ⟨.hbm, 26, rfl⟩
abbrev main_call0_call0_v8 : Ref sig .tc := ⟨.hbm, 27, rfl⟩
abbrev main_call0_call0_v9 : Ref sig .tc := ⟨.hbm, 28, rfl⟩
abbrev main_call0_call0_v10 : Ref sig .tc := ⟨.hbm, 29, rfl⟩
abbrev main_call0_call0_v11 : Ref sig .tc := ⟨.hbm, 30, rfl⟩
abbrev main_call0_v1 : Ref sig .tc := ⟨.hbm, 31, rfl⟩
abbrev main_v13 : Ref sig .tc := ⟨.hbm, 32, rfl⟩
abbrev main_cst_0 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_v14 : Ref sig .tc := ⟨.hbm, 37, rfl⟩
abbrev main_call2_cst : Ref sig .tc := ⟨.hbm, 38, rfl⟩
abbrev main_call2_v0 : Ref sig .tc := ⟨.hbm, 39, rfl⟩
abbrev main_v15 : Ref sig .tc := ⟨.hbm, 40, rfl⟩
abbrev main_v16 : Ref sig .tc := ⟨.hbm, 41, rfl⟩
abbrev main_call3_v0 : Ref sig .tc := ⟨.hbm, 42, rfl⟩
abbrev main_call3_call0_cst : Ref sig .tc := ⟨.hbm, 43, rfl⟩
abbrev main_call3_call0_v0 : Ref sig .tc := ⟨.hbm, 44, rfl⟩
abbrev main_call3_call0_v1 : Ref sig .tc := ⟨.hbm, 45, rfl⟩
abbrev main_call3_call0_v2 : Ref sig .tc := ⟨.hbm, 46, rfl⟩
abbrev main_call3_call0_v3 : Ref sig .tc := ⟨.hbm, 47, rfl⟩
abbrev main_call3_call0_v4 : Ref sig .tc := ⟨.hbm, 48, rfl⟩
abbrev main_call3_call0_v5 : Ref sig .tc := ⟨.hbm, 49, rfl⟩
abbrev main_call3_call0_v6 : Ref sig .tc := ⟨.hbm, 50, rfl⟩
abbrev main_call3_call0_v7 : Ref sig .tc := ⟨.hbm, 51, rfl⟩
abbrev main_call3_call0_v8 : Ref sig .tc := ⟨.hbm, 52, rfl⟩
abbrev main_call3_call0_v9 : Ref sig .tc := ⟨.hbm, 53, rfl⟩
abbrev main_call3_call0_v10 : Ref sig .tc := ⟨.hbm, 54, rfl⟩
abbrev main_call3_call0_v11 : Ref sig .tc := ⟨.hbm, 55, rfl⟩
abbrev main_call3_v1 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_cst_1 : Ref sig .tc := ⟨.hbm, 60, rfl⟩
abbrev main_call4_v0 : Ref sig .tc := ⟨.hbm, 61, rfl⟩
abbrev main_call4_v1 : Ref sig .tc := ⟨.hbm, 62, rfl⟩
abbrev main_call4_v2 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩

abbrev nD : Nat := 1
abbrev τ : Topo := Topo.v7x

variable {F : FTy → Type} [FloatOps F]
-- ==== Experts.lean ====
abbrev S128x64 : Shape := ⟨2, ![128, 64]⟩
abbrev S458752x1024 : Shape := ⟨2, ![458752, 1024]⟩
abbrev S64x1024x256 : Shape := ⟨3, ![64, 1024, 256]⟩
abbrev S64x256x1024 : Shape := ⟨3, ![64, 256, 1024]⟩
abbrev S_ : Shape := ⟨0, ![]⟩
abbrev S64 : Shape := ⟨1, ![64]⟩
abbrev S448 : Shape := ⟨1, ![448]⟩
abbrev S448x1 : Shape := ⟨2, ![448, 1]⟩
abbrev S1x64 : Shape := ⟨2, ![1, 64]⟩
abbrev S448x64 : Shape := ⟨2, ![448, 64]⟩
abbrev S1 : Shape := ⟨1, ![1]⟩
abbrev S1024x1024 : Shape := ⟨2, ![1024, 1024]⟩
abbrev S1x1024x256 : Shape := ⟨3, ![1, 1024, 256]⟩
abbrev S1x256x1024 : Shape := ⟨3, ![1, 256, 1024]⟩
abbrev S1024x256 : Shape := ⟨2, ![1024, 256]⟩
abbrev S256x1024 : Shape := ⟨2, ![256, 1024]⟩
abbrev S458752 : Shape := ⟨1, ![458752]⟩
abbrev S458752x1 : Shape := ⟨2, ![458752, 1]⟩

abbrev nBuf : Space → Nat
  | .hbm => 81
  | .vmem => 10
  | .smem => 2
  | _ => 0

abbrev bufTy : (tb : Table) → Fin (tcTables nBuf tb) → BufTy
  | .hbm, ⟨0, _⟩ => ⟨S128x64, .i32⟩
  | .hbm, ⟨1, _⟩ => ⟨S458752x1024, .bf16⟩
  | .hbm, ⟨2, _⟩ => ⟨S64x1024x256, .f32⟩
  | .hbm, ⟨3, _⟩ => ⟨S64x1024x256, .f32⟩
  | .hbm, ⟨4, _⟩ => ⟨S64x256x1024, .f32⟩
  | .hbm, ⟨5, _⟩ => ⟨S_, .i32⟩
  | .hbm, ⟨6, _⟩ => ⟨S128x64, .i32⟩
  | .hbm, ⟨7, _⟩ => ⟨S128x64, .i32⟩
  | .hbm, ⟨8, _⟩ => ⟨S_, .i32⟩
  | .hbm, ⟨9, _⟩ => ⟨S_, .i32⟩
  | .hbm, ⟨10, _⟩ => ⟨S128x64, .i32⟩
  | .hbm, ⟨11, _⟩ => ⟨S128x64, .i32⟩
  | .hbm, ⟨12, _⟩ => ⟨S128x64, .i32⟩
  | .hbm, ⟨13, _⟩ => ⟨S_, .i32⟩
  | .hbm, ⟨14, _⟩ => ⟨S128x64, .i32⟩
  | .hbm, ⟨15, _⟩ => ⟨S128x64, .i1⟩
  | .hbm, ⟨16, _⟩ => ⟨S128x64, .i32⟩
  | .hbm, ⟨17, _⟩ => ⟨S128x64, .i32⟩
  | .hbm, ⟨18, _⟩ => ⟨S_, .i32⟩
  | .hbm, ⟨19, _⟩ => ⟨S128x64, .i32⟩
  | .hbm, ⟨20, _⟩ => ⟨S128x64, .i1⟩
  | .hbm, ⟨21, _⟩ => ⟨S128x64, .i1⟩
  | .hbm, ⟨22, _⟩ => ⟨S_, .i32⟩
  | .hbm, ⟨23, _⟩ => ⟨S128x64, .i32⟩
  | .hbm, ⟨24, _⟩ => ⟨S128x64, .i32⟩
  | .hbm, ⟨25, _⟩ => ⟨S128x64, .i32⟩
  | .hbm, ⟨26, _⟩ => ⟨S_, .i32⟩
  | .hbm, ⟨27, _⟩ => ⟨S64, .i32⟩
  | .hbm, ⟨28, _⟩ => ⟨S_, .i32⟩
  | .hbm, ⟨29, _⟩ => ⟨S64, .i32⟩
  | .hbm, ⟨30, _⟩ => ⟨S64, .i32⟩
  | .hbm, ⟨31, _⟩ => ⟨S_, .i32⟩
  | .hbm, ⟨32, _⟩ => ⟨S64, .i32⟩
  | .hbm, ⟨33, _⟩ => ⟨S64, .i32⟩
  | .hbm, ⟨34, _⟩ => ⟨S_, .i32⟩
  | .hbm, ⟨35, _⟩ => ⟨S_, .i32⟩
  | .hbm, ⟨36, _⟩ => ⟨S64, .i32⟩
  | .hbm, ⟨37, _⟩ => ⟨S64, .i32⟩
  | .hbm, ⟨38, _⟩ => ⟨S64, .i32⟩
  | .hbm, ⟨39, _⟩ => ⟨S_, .i32⟩
  | .hbm, ⟨40, _⟩ => ⟨S64, .i32⟩
  | .hbm, ⟨41, _⟩ => ⟨S64, .i1⟩
  | .hbm, ⟨42, _⟩ => ⟨S64, .i32⟩
  | .hbm, ⟨43, _⟩ => ⟨S64, .i32⟩
  | .hbm, ⟨44, _⟩ => ⟨S_, .i32⟩
  | .hbm, ⟨45, _⟩ => ⟨S64, .i32⟩
  | .hbm, ⟨46, _⟩ => ⟨S64, .i1⟩
  | .hbm, ⟨47, _⟩ => ⟨S64, .i1⟩
  | .hbm, ⟨48, _⟩ => ⟨S_, .i32⟩
  | .hbm, ⟨49, _⟩ => ⟨S64, .i32⟩
  | .hbm, ⟨50, _⟩ => ⟨S64, .i32⟩
  | .hbm, ⟨51, _⟩ => ⟨S64, .i32⟩
  | .hbm, ⟨52, _⟩ => ⟨S448, .i32⟩
  | .hbm, ⟨53, _⟩ => ⟨S448x1, .i32⟩
  | .hbm, ⟨54, _⟩ => ⟨S_, .i32⟩
  | .hbm, ⟨55, _⟩ => ⟨S_, .i32⟩
  | .hbm, ⟨56, _⟩ => ⟨S64, .i32⟩
  | .hbm, ⟨57, _⟩ => ⟨S1x64, .i32⟩
  | .hbm, ⟨58, _⟩ => ⟨S448x64, .i32⟩
  | .hbm, ⟨59, _⟩ => ⟨S448x64, .i32⟩
  | .hbm, ⟨60, _⟩ => ⟨S448x64, .i1⟩
  | .hbm, ⟨61, _⟩ => ⟨S448x64, .i32⟩
  | .hbm, ⟨62, _⟩ => ⟨S_, .i32⟩
  | .hbm, ⟨63, _⟩ => ⟨S448, .i32⟩
  | .hbm, ⟨64, _⟩ => ⟨S_, .i32⟩
  | .hbm, ⟨65, _⟩ => ⟨S448, .i32⟩
  | .hbm, ⟨66, _⟩ => ⟨S_, .i32⟩
  | .hbm, ⟨67, _⟩ => ⟨S_, .i32⟩
  | .hbm, ⟨68, _⟩ => ⟨S458752x1024, .bf16⟩
  | .hbm, ⟨69, _⟩ => ⟨S458752, .i32⟩
  | .hbm, ⟨70, _⟩ => ⟨S458752x1, .i32⟩
  | .hbm, ⟨71, _⟩ => ⟨S_, .i32⟩
  | .hbm, ⟨72, _⟩ => ⟨S_, .i32⟩
  | .hbm, ⟨73, _⟩ => ⟨S_, .i32⟩
  | .hbm, ⟨74, _⟩ => ⟨S_, .i32⟩
  | .hbm, ⟨75, _⟩ => ⟨S458752x1, .i32⟩
  | .hbm, ⟨76, _⟩ => ⟨S458752x1, .i1⟩
  | .hbm, ⟨77, _⟩ => ⟨S_, .bf16⟩
  | .hbm, ⟨78, _⟩ => ⟨S458752x1024, .bf16⟩
  | .hbm, ⟨79, _⟩ => ⟨S458752x1024, .i1⟩
  | .hbm, ⟨80, _⟩ => ⟨S458752x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x256, .f32⟩
  | .local _ .vmem, ⟨3, _⟩ => ⟨S1x1024x256, .f32⟩
  | .local _ .vmem, ⟨4, _⟩ => ⟨S1x1024x256, .f32⟩
  | .local _ .vmem, ⟨5, _⟩ => ⟨S1x1024x256, .f32⟩
  | .local _ .vmem, ⟨6, _⟩ => ⟨S1x256x1024, .f32⟩
  | .local _ .vmem, ⟨7, _⟩ => ⟨S1x256x1024, .f32⟩
  | .local _ .vmem, ⟨8, _⟩ => ⟨S1024x1024, .bf16⟩
  | .local _ .vmem, ⟨9, _⟩ => ⟨S1024x1024, .bf16⟩
  | .local _ .smem, ⟨0, _⟩ => ⟨S448, .i32⟩
  | .local _ .smem, ⟨1, _⟩ => ⟨S1, .i32⟩
  | _, _ => ⟨S128x64, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v2 : Ref sig .tc := ⟨.hbm, 25, rfl⟩
abbrev main_c_1 : Ref sig .tc := ⟨.hbm, 26, rfl⟩
abbrev main_v3 : Ref sig .tc := ⟨.hbm, 27, rfl⟩
abbrev main_c_2 : Ref sig .tc := ⟨.hbm, 28, rfl⟩
abbrev main_v4 : Ref sig .tc := ⟨.hbm, 29, rfl⟩
abbrev main_v5 : Ref sig .tc := ⟨.hbm, 30, rfl⟩
abbrev main_c_3 : Ref sig .tc := ⟨.hbm, 31, rfl⟩
abbrev main_v6 : Ref sig .tc := ⟨.hbm, 32, rfl⟩
abbrev main_v7 : Ref sig .tc := ⟨.hbm, 33, rfl⟩
abbrev main_c_4 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_c : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_c_0 : Ref sig .tc := ⟨.hbm, 48, rfl⟩
abbrev main_call1_v12 : Ref sig .tc := ⟨.hbm, 49, rfl⟩
abbrev main_call1_v13 : Ref sig .tc := ⟨.hbm, 50, rfl⟩
abbrev main_v8 : Ref sig .tc := ⟨.hbm, 51, rfl⟩
abbrev main_v9 : Ref sig .tc := ⟨.hbm, 52, rfl⟩
abbrev main_v10 : Ref sig .tc := ⟨.hbm, 53, rfl⟩
abbrev main_call2_call0_c : Ref sig .tc := ⟨.hbm, 54, rfl⟩
abbrev main_call2_call0_v0 : Ref sig .tc := ⟨.hbm, 55, rfl⟩
abbrev main_v11 : Ref sig .tc := ⟨.hbm, 56, rfl⟩
abbrev main_v12 : Ref sig .tc := ⟨.hbm, 57, rfl⟩
abbrev main_v13 : Ref sig .tc := ⟨.hbm, 58, rfl⟩
abbrev main_v14 : Ref sig .tc := ⟨.hbm, 59, rfl⟩
abbrev main_v15 : Ref sig .tc := ⟨.hbm, 60, rfl⟩
abbrev main_v16 : Ref sig .tc := ⟨.hbm, 61, rfl⟩
abbrev main_c_5 : Ref sig .tc := ⟨.hbm, 62, rfl⟩
abbrev main_v17 : Ref sig .tc := ⟨.hbm, 63, rfl⟩
abbrev main_c_6 : Ref sig .tc := ⟨.hbm, 64, rfl⟩
abbrev main_v18 : Ref sig .tc := ⟨.hbm, 65, rfl⟩
abbrev main_c_7 : Ref sig .tc := ⟨.hbm, 66, rfl⟩
abbrev main_v20 : Ref sig .tc := ⟨.hbm, 67, rfl⟩
abbrev main_v22 : Ref sig .tc := ⟨.hbm, 68, rfl⟩
abbrev main_v23 : Ref sig .tc := ⟨.hbm, 69, rfl⟩
abbrev main_v24 : Ref sig .tc := ⟨.hbm, 70, rfl⟩
abbrev main_c_8 : Ref sig .tc := ⟨.hbm, 71, rfl⟩
abbrev main_v25 : Ref sig .tc := ⟨.hbm, 72, rfl⟩
abbrev main_c_9 : Ref sig .tc := ⟨.hbm, 73, rfl⟩
abbrev main_v26 : Ref sig .tc := ⟨.hbm, 74, rfl⟩
abbrev main_v27 : Ref sig .tc := ⟨.hbm, 75, rfl⟩
abbrev main_v28 : Ref sig .tc := ⟨.hbm, 76, rfl⟩
abbrev main_cst : Ref sig .tc := ⟨.hbm, 77, rfl⟩
abbrev main_v29 : Ref sig .tc := ⟨.hbm, 78, rfl⟩
abbrev main_call3_v0 : Ref sig .tc := ⟨.hbm, 79, rfl⟩
abbrev main_v30 : Ref sig .tc := ⟨.hbm, 80, rfl⟩
abbrev main_v19 : Ref sig .tc := ⟨.smem, 0, rfl⟩
abbrev main_v21 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![448], ![false]⟩

abbrev pre0 : Pipeline.Prefetch sig := ⟨2, ![main_v19.idx, main_v21.idx], fun | 0 => main_v19.names | 1 => main_v21.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S448.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S448) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S448.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S448) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S448.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S448) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ExpertsRefIdeal.lean ====
abbrev S128x64 : Shape := ⟨2, ![128, 64]⟩
abbrev S458752x1024 : Shape := ⟨2, ![458752, 1024]⟩
abbrev S64x1024x256 : Shape := ⟨3, ![64, 1024, 256]⟩
abbrev S64x256x1024 : Shape := ⟨3, ![64, 256, 1024]⟩
abbrev S_ : Shape := ⟨0, ![]⟩
abbrev S64 : Shape := ⟨1, ![64]⟩
abbrev S1x64 : Shape := ⟨2, ![1, 64]⟩
abbrev S64x1 : Shape := ⟨2, ![64, 1]⟩
abbrev S64x64 : Shape := ⟨2, ![64, 64]⟩
abbrev S458752 : Shape := ⟨1, ![458752]⟩
abbrev S458752x1 : Shape := ⟨2, ![458752, 1]⟩
abbrev S458752x64 : Shape := ⟨2, ![458752, 64]⟩
abbrev S458752x64x256 : Shape := ⟨3, ![458752, 64, 256]⟩
abbrev S458752x64x1 : Shape := ⟨3, ![458752, 64, 1]⟩

abbrev nBuf : Space → Nat
  | .hbm => 101
  | .vmem => 0
  | .smem => 0
  | _ => 0

abbrev bufTy : (tb : Table) → Fin (tcTables nBuf tb) → BufTy
  | .hbm, ⟨0, _⟩ => ⟨S128x64, .i32⟩
  | .hbm, ⟨1, _⟩ => ⟨S458752x1024, .bf16⟩
  | .hbm, ⟨2, _⟩ => ⟨S64x1024x256, .f32⟩
  | .hbm, ⟨3, _⟩ => ⟨S64x1024x256, .f32⟩
  | .hbm, ⟨4, _⟩ => ⟨S64x256x1024, .f32⟩
  | .hbm, ⟨5, _⟩ => ⟨S_, .i32⟩
  | .hbm, ⟨6, _⟩ => ⟨S128x64, .i32⟩
  | .hbm, ⟨7, _⟩ => ⟨S128x64, .i32⟩
  | .hbm, ⟨8, _⟩ => ⟨S_, .i32⟩
  | .hbm, ⟨9, _⟩ => ⟨S_, .i32⟩
  | .hbm, ⟨10, _⟩ => ⟨S128x64, .i32⟩
  | .hbm, ⟨11, _⟩ => ⟨S128x64, .i32⟩
  | .hbm, ⟨12, _⟩ => ⟨S128x64, .i32⟩
  | .hbm, ⟨13, _⟩ => ⟨S_, .i32⟩
  | .hbm, ⟨14, _⟩ => ⟨S128x64, .i32⟩
  | .hbm, ⟨15, _⟩ => ⟨S128x64, .i1⟩
  | .hbm, ⟨16, _⟩ => ⟨S128x64, .i32⟩
  | .hbm, ⟨17, _⟩ => ⟨S128x64, .i32⟩
  | .hbm, ⟨18, _⟩ => ⟨S_, .i32⟩
  | .hbm, ⟨19, _⟩ => ⟨S128x64, .i32⟩
  | .hbm, ⟨20, _⟩ => ⟨S128x64, .i1⟩
  | .hbm, ⟨21, _⟩ => ⟨S128x64, .i1⟩
  | .hbm, ⟨22, _⟩ => ⟨S_, .i32⟩
  | .hbm, ⟨23, _⟩ => ⟨S128x64, .i32⟩
  | .hbm, ⟨24, _⟩ => ⟨S128x64, .i32⟩
  | .hbm, ⟨25, _⟩ => ⟨S128x64, .i32⟩
  | .hbm, ⟨26, _⟩ => ⟨S_, .i32⟩
  | .hbm, ⟨27, _⟩ => ⟨S64, .i32⟩
  | .hbm, ⟨28, _⟩ => ⟨S_, .i32⟩
  | .hbm, ⟨29, _⟩ => ⟨S64, .i32⟩
  | .hbm, ⟨30, _⟩ => ⟨S64, .i32⟩
  | .hbm, ⟨31, _⟩ => ⟨S_, .i32⟩
  | .hbm, ⟨32, _⟩ => ⟨S_, .i32⟩
  | .hbm, ⟨33, _⟩ => ⟨S64, .i32⟩
  | .hbm, ⟨34, _⟩ => ⟨S64, .i32⟩
  | .hbm, ⟨35, _⟩ => ⟨S64, .i32⟩
  | .hbm, ⟨36, _⟩ => ⟨S_, .i32⟩
  | .hbm, ⟨37, _⟩ => ⟨S64, .i32⟩
  | .hbm, ⟨38, _⟩ => ⟨S64, .i1⟩
  | .hbm, ⟨39, _⟩ => ⟨S64, .i32⟩
  | .hbm, ⟨40, _⟩ => ⟨S64, .i32⟩
  | .hbm, ⟨41, _⟩ => ⟨S_, .i32⟩
  | .hbm, ⟨42, _⟩ => ⟨S64, .i32⟩
  | .hbm, ⟨43, _⟩ => ⟨S64, .i1⟩
  | .hbm, ⟨44, _⟩ => ⟨S64, .i1⟩
  | .hbm, ⟨45, _⟩ => ⟨S_, .i32⟩
  | .hbm, ⟨46, _⟩ => ⟨S64, .i32⟩
  | .hbm, ⟨47, _⟩ => ⟨S64, .i32⟩
  | .hbm, ⟨48, _⟩ => ⟨S64, .i32⟩
  | .hbm, ⟨49, _⟩ => ⟨S64, .i32⟩
  | .hbm, ⟨50, _⟩ => ⟨S1x64, .i32⟩
  | .hbm, ⟨51, _⟩ => ⟨S64x1, .i32⟩
  | .hbm, ⟨52, _⟩ => ⟨S64x64, .i32⟩
  | .hbm, ⟨53, _⟩ => ⟨S64x64, .i32⟩
  | .hbm, ⟨54, _⟩ => ⟨S64x64, .i1⟩
  | .hbm, ⟨55, _⟩ => ⟨S1x64, .i32⟩
  | .hbm, ⟨56, _⟩ => ⟨S_, .i32⟩
  | .hbm, ⟨57, _⟩ => ⟨S_, .i32⟩
  | .hbm, ⟨58, _⟩ => ⟨S64x64, .i32⟩
  | .hbm, ⟨59, _⟩ => ⟨S64x64, .i32⟩
  | .hbm, ⟨60, _⟩ => ⟨S64x64, .i32⟩
  | .hbm, ⟨61, _⟩ => ⟨S_, .i32⟩
  | .hbm, ⟨62, _⟩ => ⟨S64, .i32⟩
  | .hbm, ⟨63, _⟩ => ⟨S_, .i32⟩
  | .hbm, ⟨64, _⟩ => ⟨S64, .i32⟩
  | .hbm, ⟨65, _⟩ => ⟨S64, .i32⟩
  | .hbm, ⟨66, _⟩ => ⟨S458752, .i32⟩
  | .hbm, ⟨67, _⟩ => ⟨S458752x1, .i32⟩
  | .hbm, ⟨68, _⟩ => ⟨S1x64, .i32⟩
  | .hbm, ⟨69, _⟩ => ⟨S458752x64, .i32⟩
  | .hbm, ⟨70, _⟩ => ⟨S458752x64, .i32⟩
  | .hbm, ⟨71, _⟩ => ⟨S458752x64, .i1⟩
  | .hbm, ⟨72, _⟩ => ⟨S1x64, .i32⟩
  | .hbm, ⟨73, _⟩ => ⟨S1x64, .i32⟩
  | .hbm, ⟨74, _⟩ => ⟨S_, .i32⟩
  | .hbm, ⟨75, _⟩ => ⟨S1x64, .i32⟩
  | .hbm, ⟨76, _⟩ => ⟨S1x64, .i32⟩
  | .hbm, ⟨77, _⟩ => ⟨S1x64, .i32⟩
  | .hbm, ⟨78, _⟩ => ⟨S458752x64, .i32⟩
  | .hbm, ⟨79, _⟩ => ⟨S458752x64, .i32⟩
  | .hbm, ⟨80, _⟩ => ⟨S458752x64, .i1⟩
  | .hbm, ⟨81, _⟩ => ⟨S458752x64, .i1⟩
  | .hbm, ⟨82, _⟩ => ⟨S458752x64, .f32⟩
  | .hbm, ⟨83, _⟩ => ⟨S458752x1024, .f32⟩
  | .hbm, ⟨84, _⟩ => ⟨S458752x64x256, .f32⟩
  | .hbm, ⟨85, _⟩ => ⟨S458752x64x256, .f32⟩
  | .hbm, ⟨86, _⟩ => ⟨S458752x64x256, .f32⟩
  | .hbm, ⟨87, _⟩ => ⟨S458752x64x256, .f32⟩
  | .hbm, ⟨88, _⟩ => ⟨S_, .f32⟩
  | .hbm, ⟨89, _⟩ => ⟨S458752x64x256, .f32⟩
  | .hbm, ⟨90, _⟩ => ⟨S458752x64x256, .f32⟩
  | .hbm, ⟨91, _⟩ => ⟨S_, .f32⟩
  | .hbm, ⟨92, _⟩ => ⟨S458752x64x256, .f32⟩
  | .hbm, ⟨93, _⟩ => ⟨S458752x64x256, .f32⟩
  | .hbm, ⟨94, _⟩ => ⟨S458752x64x256, .f32⟩
  | .hbm, ⟨95, _⟩ => ⟨S458752x64x256, .f32⟩
  | .hbm, ⟨96, _⟩ => ⟨S458752x64x1, .f32⟩
  | .hbm, ⟨97, _⟩ => ⟨S458752x64x256, .f32⟩
  | .hbm, ⟨98, _⟩ => ⟨S458752x64x256, .f32⟩
  | .hbm, ⟨99, _⟩ => ⟨S458752x1024, .f32⟩
  | .hbm, ⟨100, _⟩ => ⟨S458752x1024, .bf16⟩
  | _, _ => ⟨S128x64, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v2 : Ref sig .tc := ⟨.hbm, 25, rfl⟩
abbrev main_c_1 : Ref sig .tc := ⟨.hbm, 26, rfl⟩
abbrev main_v3 : Ref sig .tc := ⟨.hbm, 27, rfl⟩
abbrev main_c_2 : Ref sig .tc := ⟨.hbm, 28, rfl⟩
abbrev main_v4 : Ref sig .tc := ⟨.hbm, 29, rfl⟩
abbrev main_v5 : Ref sig .tc := ⟨.hbm, 30, rfl⟩
abbrev main_c_3 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_c : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_0 : Ref sig .tc := ⟨.hbm, 45, rfl⟩
abbrev main_call1_v12 : Ref sig .tc := ⟨.hbm, 46, rfl⟩
abbrev main_call1_v13 : Ref sig .tc := ⟨.hbm, 47, rfl⟩
abbrev main_v6 : Ref sig .tc := ⟨.hbm, 48, rfl⟩
abbrev main_v7 : Ref sig .tc := ⟨.hbm, 49, rfl⟩
abbrev main_v8 : Ref sig .tc := ⟨.hbm, 50, rfl⟩
abbrev main_v9 : Ref sig .tc := ⟨.hbm, 51, rfl⟩
abbrev main_v10 : Ref sig .tc := ⟨.hbm, 52, rfl⟩
abbrev main_v11 : Ref sig .tc := ⟨.hbm, 53, rfl⟩
abbrev main_v12 : Ref sig .tc := ⟨.hbm, 54, rfl⟩
abbrev main_v13 : Ref sig .tc := ⟨.hbm, 55, rfl⟩
abbrev main_c_4 : Ref sig .tc := ⟨.hbm, 56, rfl⟩
abbrev main_call2_v0 : Ref sig .tc := ⟨.hbm, 57, rfl⟩
abbrev main_call2_v1 : Ref sig .tc := ⟨.hbm, 58, rfl⟩
abbrev main_call2_v2 : Ref sig .tc := ⟨.hbm, 59, rfl⟩
abbrev main_v14 : Ref sig .tc := ⟨.hbm, 60, rfl⟩
abbrev main_c_5 : Ref sig .tc := ⟨.hbm, 61, rfl⟩
abbrev main_v15 : Ref sig .tc := ⟨.hbm, 62, rfl⟩
abbrev main_c_6 : Ref sig .tc := ⟨.hbm, 63, rfl⟩
abbrev main_v16 : Ref sig .tc := ⟨.hbm, 64, rfl⟩
abbrev main_v17 : Ref sig .tc := ⟨.hbm, 65, rfl⟩
abbrev main_v18 : Ref sig .tc := ⟨.hbm, 66, rfl⟩
abbrev main_v19 : Ref sig .tc := ⟨.hbm, 67, rfl⟩
abbrev main_v20 : Ref sig .tc := ⟨.hbm, 68, rfl⟩
abbrev main_v21 : Ref sig .tc := ⟨.hbm, 69, rfl⟩
abbrev main_v22 : Ref sig .tc := ⟨.hbm, 70, rfl⟩
abbrev main_v23 : Ref sig .tc := ⟨.hbm, 71, rfl⟩
abbrev main_v24 : Ref sig .tc := ⟨.hbm, 72, rfl⟩
abbrev main_v25 : Ref sig .tc := ⟨.hbm, 73, rfl⟩
abbrev main_c_7 : Ref sig .tc := ⟨.hbm, 74, rfl⟩
abbrev main_v26 : Ref sig .tc := ⟨.hbm, 75, rfl⟩
abbrev main_v27 : Ref sig .tc := ⟨.hbm, 76, rfl⟩
abbrev main_v28 : Ref sig .tc := ⟨.hbm, 77, rfl⟩
abbrev main_v29 : Ref sig .tc := ⟨.hbm, 78, rfl⟩
abbrev main_v30 : Ref sig .tc := ⟨.hbm, 79, rfl⟩
abbrev main_v31 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_v35 : Ref sig .tc := ⟨.hbm, 84, rfl⟩
abbrev main_v36 : Ref sig .tc := ⟨.hbm, 85, rfl⟩
abbrev main_call3_v0 : Ref sig .tc := ⟨.hbm, 86, rfl⟩
abbrev main_call3_v1 : Ref sig .tc := ⟨.hbm, 87, rfl⟩
abbrev main_call3_cst : Ref sig .tc := ⟨.hbm, 88, rfl⟩
abbrev main_call3_v2 : Ref sig .tc := ⟨.hbm, 89, rfl⟩
abbrev main_call3_v3 : Ref sig .tc := ⟨.hbm, 90, rfl⟩
abbrev main_call3_cst_0 : Ref sig .tc := ⟨.hbm, 91, rfl⟩
abbrev main_call3_v4 : Ref sig .tc := ⟨.hbm, 92, rfl⟩
abbrev main_call3_v5 : Ref sig .tc := ⟨.hbm, 93, rfl⟩
abbrev main_v37 : Ref sig .tc := ⟨.hbm, 94, rfl⟩
abbrev main_v38 : Ref sig .tc := ⟨.hbm, 95, rfl⟩
abbrev main_v39 : Ref sig .tc := ⟨.hbm, 96, rfl⟩
abbrev main_v40 : Ref sig .tc := ⟨.hbm, 97, rfl⟩
abbrev main_v41 : Ref sig .tc := ⟨.hbm, 98, rfl⟩
abbrev main_v42 : Ref sig .tc := ⟨.hbm, 99, rfl⟩
abbrev main_v43 : Ref sig .tc := ⟨.hbm, 100, rfl⟩

abbrev nD : Nat := 1
abbrev τ : Topo := Topo.v7x

variable {F : FTy → Type} [FloatOps F]
-- ==== Proof.Visit.lean ====
module
public import proofs.«01_k».proof.Proof.Gen.KernelIdeal.Skeleton
public import proofs.«01_k».proof.Proof.Gen.KernelIdeal.Points
public import Idealize.ShloMosaic.Lib.Tactic
public import Idealize.ShloMosaic.PureOps.BitExact
@[expose] public section
/-! The values of one visit: a tile of 128 queries against one, two or three tiles of 128 keys, as functions of
the blocks that are read. A tile holds two heads of 64 lanes each; its columns are the keys of the first head followed
by the keys of the second. -/
noncomputable section
namespace Cert.Proof.Attn
open Cert.KernelIdeal Cert.KernelIdeal.Gen
open Idealize.ShloMosaic

variable {F : FTy → Type} [FloatOps F] [Named F]

/-- Four values, one for each tile of 128 lanes. -/
structure Quad (α : Type) where
  p0 : α
  p1 : α
  p2 : α
  p3 : α

/-- The running sums of one query tile: outputs and carried sums for each tile of lanes, and the smallest carried sum. -/
structure St (F : FTy → Type) where
  acc : Quad (Vec F S128x128 .f32)
  car : Quad (Vec F S128x256 .f32)
  mn : F .f32

/-- The rows of a block, twice: first with only the first head's lanes, then with only the second's. -/
def splitRows (v2 : IVec S1x128 1) (k : Vec F S1x128x128 .bf16) : Vec F S256x128 .bf16 :=
  concatenate S256x128 0
    [⟨S128x128, select (broadcastTo S128x128 (shapeCast S1x128 v2 shapeCasts_S1x128_S1x128) broadcasts_S1x128_S128x128)
        (shapeCast S128x128 k shapeCasts_S1x128x128_S128x128) (broadcast S128x128 (Scalar.ofBits .bf16 0x0000#16))⟩,
     ⟨S128x128, select (broadcastTo S128x128 (shapeCast S1x128 v2 shapeCasts_S1x128_S1x128) broadcasts_S1x128_S128x128)
        (broadcast S128x128 (Scalar.ofBits .bf16 0x0000#16)) (shapeCast S128x128 k shapeCasts_S1x128x128_S128x128)⟩]
    concatenates_S128x128_S128x128_S256x128_d0

/-- The logits, in units of a factor two. -/
def zT (v2 : IVec S1x128 1) (q k : Vec F S1x128x128 .bf16) : Vec F S128x256 .f32 :=
  matmul dot_S128x128_S256x128_S128x256_1_1_0_0_n_n none (shapeCast S128x128 q shapeCasts_S1x128x128_S128x128) (splitRows v2 k)
    (constant S128x256 .f32 0x00000000#32)

/-- The softplus of the logits, in units of a factor two. -/
def spT (z : Vec F S128x256 .f32) : Vec F S128x256 .f32 :=
  addf (maximumf z (broadcast S128x256 (Scalar.ofBits .f32 0x00000000#32)))
    (mulf (log (addf (broadcast S128x256 (Scalar.ofBits .f32 0x3F800000#32))
        (exp2 (subf (broadcast S128x256 (Scalar.ofBits .f32 0x00000000#32)) (absf z)))))
      (broadcast S128x256 (Named.named κ "inv_ln2" 0x3FB8AA3B#32)))

/-- The pairs of the diagonal tile where the key is strictly before the query. -/
def mask : IVec S128x256 1 :=
  cmpi .slt
    (select (cmpi .sge (iota .tc S128x256 32 [1] iota_S128x256_d1_w32) (broadcast S128x256 128#32))
      (subi (iota .tc S128x256 32 [1] iota_S128x256_d1_w32) (broadcast S128x256 128#32)) (iota .tc S128x256 32 [1] iota_S128x256_d1_w32))
    (iota .tc S128x256 32 [0] iota_S128x256_d0_w32)

def msk (x : Vec F S128x256 .f32) : Vec F S128x256 .f32 :=
  select mask x (broadcast S128x256 (Scalar.ofBits .f32 0x00000000#32))

/-- Softplus for one tile of lanes, as a summand. -/
def rnd (x : Vec F S128x256 .f32) : Vec F S128x256 .bf16 := truncf .bf16 x bitsLt_bf16_f32

def triT (tri : Vec F S256x512 .bf16) : Vec F S256x512 .bf16 := shapeCast S256x512 tri shapeCasts_S256x512_S256x512

def sums1 (s : Quad (Vec F S128x256 .f32)) (tri : Vec F S256x512 .bf16) : Vec F S512x512 .f32 :=
  matmul dot_S512x256_S256x512_S512x512_1_0_0_1_n_n none
    (concatenate S512x256 0 [⟨S128x256, rnd s.p0⟩, ⟨S128x256, rnd s.p1⟩, ⟨S128x256, rnd s.p2⟩, ⟨S128x256, rnd s.p3⟩]
      concatenates_S128x256_S128x256_S128x256_S128x256_S512x256_d0)
    (triT tri) (constant S512x512 .f32 0x00000000#32)

def sums2 (s t : Quad (Vec F S128x256 .f32)) (tri : Vec F S256x512 .bf16) : Vec F S1024x512 .f32 :=
  matmul dot_S1024x256_S256x512_S1024x512_1_0_0_1_n_n none
    (concatenate S1024x256 0 [⟨S128x256, rnd s.p0⟩, ⟨S128x256, rnd s.p1⟩, ⟨S128x256, rnd s.p2⟩, ⟨S128x256, rnd s.p3⟩,
      ⟨S128x256, rnd t.p0⟩, ⟨S128x256, rnd t.p1⟩, ⟨S128x256, rnd t.p2⟩, ⟨S128x256, rnd t.p3⟩]
      concatenates_S128x256_S128x256_S128x256_S128x256_S128x256_S128x256_S128x256_S128x256_S1024x256_d0)
    (triT tri) (constant S1024x512 .f32 0x00000000#32)

def sums3 (s t u : Quad (Vec F S128x256 .f32)) (tri : Vec F S256x512 .bf16) : Vec F S1536x512 .f32 :=
  matmul dot_S1536x256_S256x512_S1536x512_1_0_0_1_n_n none
    (concatenate S1536x256 0 [⟨S128x256, rnd s.p0⟩, ⟨S128x256, rnd s.p1⟩, ⟨S128x256, rnd s.p2⟩, ⟨S128x256, rnd s.p3⟩,
      ⟨S128x256, rnd t.p0⟩, ⟨S128x256, rnd t.p1⟩, ⟨S128x256, rnd t.p2⟩, ⟨S128x256, rnd t.p3⟩,
      ⟨S128x256, rnd u.p0⟩, ⟨S128x256, rnd u.p1⟩, ⟨S128x256, rnd u.p2⟩, ⟨S128x256, rnd u.p3⟩]
      concatenates_S128x256_S128x256_S128x256_S128x256_S128x256_S128x256_S128x256_S128x256_S128x256_S128x256_S128x256_S128x256_S1536x256_d0)
    (triT tri) (constant S1536x512 .f32 0x00000000#32)

/-- The four row blocks of a table of sums. -/
def cut1 (x : Vec F S512x512 .f32) : Quad (Vec F S128x512 .f32) :=
  ⟨extractStridedSlice S128x512 ![0, 0] x slices_S512x512_o0_0_S128x512,
   extractStridedSlice S128x512 ![128, 0] x slices_S512x512_o128_0_S128x512,
   extractStridedSlice S128x512 ![256, 0] x slices_S512x512_o256_0_S128x512,
   extractStridedSlice S128x512 ![384, 0] x slices_S512x512_o384_0_S128x512⟩

def cut2a (x : Vec F S1024x512 .f32) : Quad (Vec F S128x512 .f32) :=
  ⟨extractStridedSlice S128x512 ![0, 0] x slices_S1024x512_o0_0_S128x512,
   extractStridedSlice S128x512 ![128, 0] x slices_S1024x512_o128_0_S128x512,
   extractStridedSlice S128x512 ![256, 0] x slices_S1024x512_o256_0_S128x512,
   extractStridedSlice S128x512 ![384, 0] x slices_S1024x512_o384_0_S128x512⟩

def cut2b (x : Vec F S1024x512 .f32) : Quad (Vec F S128x512 .f32) :=
  ⟨extractStridedSlice S128x512 ![512, 0] x slices_S1024x512_o512_0_S128x512,
   extractStridedSlice S128x512 ![640, 0] x slices_S1024x512_o640_0_S128x512,
   extractStridedSlice S128x512 ![768, 0] x slices_S1024x512_o768_0_S128x512,
   extractStridedSlice S128x512 ![896, 0] x slices_S1024x512_o896_0_S128x512⟩

def cut3a (x : Vec F S1536x512 .f32) : Quad (Vec F S128x512 .f32) :=
  ⟨extractStridedSlice S128x512 ![0, 0] x slices_S1536x512_o0_0_S128x512,
   extractStridedSlice S128x512 ![128, 0] x slices_S1536x512_o128_0_S128x512,
   extractStridedSlice S128x512 ![256, 0] x slices_S1536x512_o256_0_S128x512,
   extractStridedSlice S128x512 ![384, 0] x slices_S1536x512_o384_0_S128x512⟩

def cut3b (x : Vec F S1536x512 .f32) : Quad (Vec F S128x512 .f32) :=
  ⟨extractStridedSlice S128x512 ![512, 0] x slices_S1536x512_o512_0_S128x512,
   extractStridedSlice S128x512 ![640, 0] x slices_S1536x512_o640_0_S128x512,
   extractStridedSlice S128x512 ![768, 0] x slices_S1536x512_o768_0_S128x512,
   extractStridedSlice S128x512 ![896, 0] x slices_S1536x512_o896_0_S128x512⟩

def cut3c (x : Vec F S1536x512 .f32) : Quad (Vec F S128x512 .f32) :=
  ⟨extractStridedSlice S128x512 ![1024, 0] x slices_S1536x512_o1024_0_S128x512,
   extractStridedSlice S128x512 ![1152, 0] x slices_S1536x512_o1152_0_S128x512,
   extractStridedSlice S128x512 ![1280, 0] x slices_S1536x512_o1280_0_S128x512,
   extractStridedSlice S128x512 ![1408, 0] x slices_S1536x512_o1408_0_S128x512⟩

/-- The weights of one tile: logit less its softplus, less everything strictly later. -/
def wT (z sp : Vec F S128x256 .f32) (su : Vec F S128x512 .f32) (car : Vec F S128x256 .f32) : Vec F S128x256 .f32 :=
  exp2 (subf (subf z sp) (addf (extractStridedSlice S128x256 ![0, 0] su slices_S128x512_o0_0_S128x256) car))

def accT (v2 : IVec S1x128 1) (acc : Vec F S128x128 .f32) (w : Vec F S128x256 .f32) (v : Vec F S1x128x128 .bf16) :
    Vec F S128x128 .f32 :=
  addf acc (matmul dot_S128x256_S256x128_S128x128_1_0_0_1_n_n none (rnd w) (splitRows v2 v) (constant S128x128 .f32 0x00000000#32))

def carT (car : Vec F S128x256 .f32) (su : Vec F S128x512 .f32) : Vec F S128x256 .f32 :=
  addf car (extractStridedSlice S128x256 ![0, 256] su slices_S128x512_o0_256_S128x256)

def smallest (c : Quad (Vec F S128x256 .f32)) : F .f32 :=
  extractAt ![0, 0, 0] (shapeCast S1x1x1 (multiReduction .minimumf [1, 2] S1
    (shapeCast S1x128x256 (minimumf (minimumf (minimumf c.p0 c.p1) c.p2) c.p3) shapeCasts_S128x256_S1x128x256)
    0x7F800000#32 reduces_S1x128x256_S1 (.inl rfl) rfl) shapeCasts_S1_S1x1x1) inpos_S1x1x1_p0_0_0

def sc128 (x : Vec F S128x128 .f32) : Vec F S128x128 .f32 := shapeCast S128x128 x shapeCasts_S128x128_S128x128
def sc256 (x : Vec F S128x256 .f32) : Vec F S128x256 .f32 := shapeCast S128x256 x shapeCasts_S128x256_S128x256

def Quad.map {α β : Type} (f : α → β) (x : Quad α) : Quad β := ⟨f x.p0, f x.p1, f x.p2, f x.p3⟩
def Quad.map2 {α β γ : Type} (f : α → β → γ) (x : Quad α) (y : Quad β) : Quad γ :=
  ⟨f x.p0 y.p0, f x.p1 y.p1, f x.p2 y.p2, f x.p3 y.p3⟩

/-- Logits and softplus for one key tile. -/
def zQ (v2 : IVec S1x128 1) (q k : Quad (Vec F S1x128x128 .bf16)) : Quad (Vec F S128x256 .f32) := Quad.map2 (zT v2) q k

/-- The state after an unmasked key tile. -/
def plain (v2 : IVec S1x128 1) (z : Quad (Vec F S128x256 .f32)) (su : Quad (Vec F S128x512 .f32))
    (v : Quad (Vec F S1x128x128 .bf16)) (acc : Quad (Vec F S128x128 .f32)) (car : Quad (Vec F S128x256 .f32)) :
    Quad (Vec F S128x128 .f32) :=
  ⟨accT v2 acc.p0 (wT z.p0 (spT z.p0) su.p0 car.p0) v.p0, accT v2 acc.p1 (wT z.p1 (spT z.p1) su.p1 car.p1) v.p1,
   accT v2 acc.p2 (wT z.p2 (spT z.p2) su.p2 car.p2) v.p2, accT v2 acc.p3 (wT z.p3 (spT z.p3) su.p3 car.p3) v.p3⟩

/-- The outputs after the diagonal key tile. -/
def diag (v2 : IVec S1x128 1) (z : Quad (Vec F S128x256 .f32)) (su : Quad (Vec F S128x512 .f32))
    (v : Quad (Vec F S1x128x128 .bf16)) (acc : Quad (Vec F S128x128 .f32)) (car : Quad (Vec F S128x256 .f32)) :
    Quad (Vec F S128x128 .f32) :=
  ⟨accT v2 acc.p0 (msk (wT z.p0 (msk (spT z.p0)) su.p0 car.p0)) v.p0, accT v2 acc.p1 (msk (wT z.p1 (msk (spT z.p1)) su.p1 car.p1)) v.p1,
   accT v2 acc.p2 (msk (wT z.p2 (msk (spT z.p2)) su.p2 car.p2)) v.p2, accT v2 acc.p3 (msk (wT z.p3 (msk (spT z.p3)) su.p3 car.p3)) v.p3⟩

def carQ (car : Quad (Vec F S128x256 .f32)) (su : Quad (Vec F S128x512 .f32)) : Quad (Vec F S128x256 .f32) := Quad.map2 carT car su

def fin (acc : Quad (Vec F S128x128 .f32)) (car : Quad (Vec F S128x256 .f32)) : St F :=
  ⟨acc.map sc128, car.map sc256, smallest car⟩

/-- One visit of a single earlier key tile. -/
def step (v2 : IVec S1x128 1) (q : Quad (Vec F S1x128x128 .bf16)) (tri : Vec F S256x512 .bf16)
    (k v : Quad (Vec F S1x128x128 .bf16)) (s : St F) : St F :=
  let su := cut1 (sums1 ((zQ v2 q k).map spT) tri)
  fin (plain v2 (zQ v2 q k) su v s.acc s.car) (carQ s.car su)

/-- The sums before the first visit. -/
def zero128 : Vec F S128x128 .f32 := shapeCast S128x128 (broadcast S128x128 (Scalar.ofBits .f32 0x00000000#32)) shapeCasts_S128x128_S128x128
def zero256 : Vec F S128x256 .f32 := shapeCast S128x256 (broadcast S128x256 (Scalar.ofBits .f32 0x00000000#32)) shapeCasts_S128x256_S128x256
def accZ : Quad (Vec F S128x128 .f32) := ⟨zero128, zero128, zero128, zero128⟩
def carZ : Quad (Vec F S128x256 .f32) := ⟨zero256, zero256, zero256, zero256⟩

/-- The first visit, to the diagonal key tile alone. -/
def first1 (v2 : IVec S1x128 1) (q : Quad (Vec F S1x128x128 .bf16)) (tri : Vec F S256x512 .bf16)
    (a₀ : Quad (Vec F S128x128 .f32)) (c₀ : Quad (Vec F S128x256 .f32))
    (k v : Quad (Vec F S1x128x128 .bf16)) : St F :=
  let su := cut1 (sums1 ((zQ v2 q k).map fun z => msk (spT z)) tri)
  fin (diag v2 (zQ v2 q k) su v a₀ c₀) (carQ c₀ su)

/-- The first visit, to the diagonal key tile and the one before. -/
def first2 (v2 : IVec S1x128 1) (q : Quad (Vec F S1x128x128 .bf16)) (tri : Vec F S256x512 .bf16)
    (a₀ : Quad (Vec F S128x128 .f32)) (c₀ : Quad (Vec F S128x256 .f32))
    (k v k' v' : Quad (Vec F S1x128x128 .bf16)) : St F :=
  let su := sums2 ((zQ v2 q k).map fun z => msk (spT z)) ((zQ v2 q k').map spT) tri
  let a := diag v2 (zQ v2 q k) (cut2a su) v a₀ c₀
  let c := carQ c₀ (cut2a su)
  fin (plain v2 (zQ v2 q k') (cut2b su) v' a c) (carQ c (cut2b su))

/-- The first visit, to the diagonal key tile and the two before. -/
def first3 (v2 : IVec S1x128 1) (q : Quad (Vec F S1x128x128 .bf16)) (tri : Vec F S256x512 .bf16)
    (a₀ : Quad (Vec F S128x128 .f32)) (c₀ : Quad (Vec F S128x256 .f32))
    (k v k' v' k'' v'' : Quad (Vec F S1x128x128 .bf16)) : St F :=
  let su := sums3 ((zQ v2 q k).map fun z => msk (spT z)) ((zQ v2 q k').map spT) ((zQ v2 q k'').map spT) tri
  let a := diag v2 (zQ v2 q k) (cut3a su) v a₀ c₀
  let c := carQ c₀ (cut3a su)
  let a' := plain v2 (zQ v2 q k') (cut3b su) v' a c
  let c' := carQ c (cut3b su)
  fin (plain v2 (zQ v2 q k'') (cut3c su) v'' a' c') (carQ c' (cut3c su))

/-- The mask of the first head's lanes. -/
def headMask : IVec S1x128 1 := cmpi .slt (iota .tc S1x128 32 [1] iota_S1x128_d1_w32) (broadcast S1x128 64#32)

end Cert.Proof.Attn
-- ==== Proof.Kit.lean ====
module
public import proofs.«01_k».proof.Proof.Visit
public import proofs.«01_k».proof.Proof.Gen.KernelIdeal.Launch
public import Idealize.ShloMosaic.Lib.Pipeline.Frame
public import Idealize.ShloMosaic.Lib.WritesUnit
public import Idealize.ShloMosaic.Lib.WholeRead
public import Idealize.ShloMosaic.Lib.ValueIdxCore
@[expose] public section
/-! Loads and stores of whole buffers and of tiles, read as functions of what the buffers hold. -/
noncomputable section
namespace Cert.Proof.Attn
open Cert.KernelIdeal Cert.KernelIdeal.Gen
open Idealize.ShloMosaic

abbrev 𝒱₀ : Variants := Variants.nat
variable {F : FTy → Type} [FloatOps F] [Named F]

theorem pos3 (n : ℕ) [NeZero n] : ∀ a : Fin 3, 0 < (⟨3, ![1, n, 512]⟩ : Shape).size a
  | 0 => Nat.one_pos
  | 1 => Nat.pos_of_neZero n
  | 2 => (by decide : 0 < 512)

/-- A tile of 128 rows from row `r` and 128 lanes from lane `l`. -/
def tile {e : EltTy} {n : ℕ} [NeZero n] (x : Vec F ⟨3, ![1, n, 512]⟩ e) (r l : ℕ) : Vec F S1x128x128 e := fun y =>
  x fun a => ⟨((![0, r, l] : Fin 3 → ℕ) a + y a) % (⟨3, ![1, n, 512]⟩ : Shape).size a, Nat.mod_lt _ (pos3 n a)⟩

theorem tile_eq {e : EltTy} {n : ℕ} [NeZero n] {M : Memref sig .tc .vmem ⟨3, ![1, n, 512]⟩ e} (h : M.IsWhole) (x : Vec F ⟨3, ![1, n, 512]⟩ e)
    (off : Fin 3 → ℕ) (r l : ℕ) (ho : off = ![0, r, l])
    (inb : ∀ a, off a + S1x128x128.size a ≤ (⟨3, ![1, n, 512]⟩ : Shape).size a) :
    View.readAt (Elt F) M.view (Rect.unit (s := ⟨3, ![1, n, 512]⟩) off S1x128x128.size inb).toLoadRect (h.unread x) = tile x r l := by
  subst ho
  funext y
  refine (h.readAt_unread x _ y).trans (congrArg x (funext fun a => Fin.ext ?_))
  have hy : (y a).val < S1x128x128.size a := (y a).isLt
  have := inb a
  show (![0, r, l] : Fin 3 → ℕ) a + 1 * (y a).val = ((![0, r, l] : Fin 3 → ℕ) a + (y a).val) % _
  rw [Nat.one_mul, Nat.mod_eq_of_lt (by omega)]

/-- The four tiles of lanes of 128 rows from row `r`. -/
def quad {e : EltTy} {n : ℕ} [NeZero n] (x : Vec F ⟨3, ![1, n, 512]⟩ e) (r : ℕ) : Quad (Vec F S1x128x128 e) :=
  ⟨tile x r 0, tile x r 128, tile x r 256, tile x r 384⟩

theorem whole_eq {e : EltTy} {s : Shape} {M : Memref sig .tc .vmem s e} (h : M.IsWhole) (x : Vec F s e)
    (off : Fin s.rank → ℕ) (ho : off = fun _ => 0) (inb : ∀ a, off a + s.size a ≤ s.size a) :
    View.readAt (Elt F) M.view (Rect.unit (s := s) off s.size inb).toLoadRect (h.unread x) = x := by
  subst ho
  funext y
  refine (h.readAt_unread x _ y).trans (congrArg x (funext fun a => Fin.ext ?_))
  show 0 + 1 * (y a).val = (y a).val
  omega

theorem off2 : (![0, 0] : Fin 2 → ℕ) = fun _ => 0 := by funext a; revert a; decide

/-- What a buffer holds after it was stored whole. -/
theorem read_one {e : EltTy} {s : Shape} (v : View sig .tc .vmem s e) (f : v.ty.Contents (Elt F)) (off : Fin s.rank → ℕ)
    (ho : off = fun _ => 0) (inb : ∀ a, off a + s.size a ≤ s.size a) (w X : Vec F s e) (T L : List (View.Piece (Elt F) s e))
    (hL : L = (⟨Rect.unit (s := s) off s.size inb, w⟩ : View.Piece (Elt F) s e) :: T) (hw : w = X) :
    v.read (Elt F) (v.writes (Elt F) f L) = X := by
  subst hL hw
  funext y
  refine View.read_writes_cons_unit_of_mem v f inb w T y y ho fun a => ?_
  simp

/-- A load of a whole buffer that was just stored whole reads the stored value. -/
theorem cov_one {e : EltTy} {s : Shape} (v : View sig .tc .vmem s e) (off : Fin s.rank → ℕ)
    (ho : off = fun _ => 0) (inb inb' : ∀ a, off a + s.size a ≤ s.size a) (w : Vec F s e) :
    v.readCov (Val := Elt F) [(⟨Rect.unit (s := s) off s.size inb, w⟩ : View.Piece (Elt F) s e)] (Rect.unit (s := s) off s.size inb').toLoadRect = w := by
  funext y
  refine View.read_writes_cons_unit_of_mem v v.junk inb w [] _ y ho fun a => ?_
  subst ho
  show 0 + 1 * (y a).val = 0 + (y a).val
  omega

theorem accZ_eq (A0 A1 A2 A3 : Memref sig .tc .vmem S128x128 .f32) : accZ (F := F) =
    ⟨A0.view.readCov (Val := Elt F) [(⟨Rect.unit (s := S128x128) ![0, 0] S128x128.size inb_S128x128_S128x128_0_0, zero128⟩ : View.Piece (Elt F) S128x128 .f32)] (Rect.unit (s := S128x128) ![0, 0] S128x128.size inb_S128x128_S128x128_0_0).toLoadRect,
     A1.view.readCov (Val := Elt F) [(⟨Rect.unit (s := S128x128) ![0, 0] S128x128.size inb_S128x128_S128x128_0_0, zero128⟩ : View.Piece (Elt F) S128x128 .f32)] (Rect.unit (s := S128x128) ![0, 0] S128x128.size inb_S128x128_S128x128_0_0).toLoadRect,
     A2.view.readCov (Val := Elt F) [(⟨Rect.unit (s := S128x128) ![0, 0] S128x128.size inb_S128x128_S128x128_0_0, zero128⟩ : View.Piece (Elt F) S128x128 .f32)] (Rect.unit (s := S128x128) ![0, 0] S128x128.size inb_S128x128_S128x128_0_0).toLoadRect,
     A3.view.readCov (Val := Elt F) [(⟨Rect.unit (s := S128x128) ![0, 0] S128x128.size inb_S128x128_S128x128_0_0, zero128⟩ : View.Piece (Elt F) S128x128 .f32)] (Rect.unit (s := S128x128) ![0, 0] S128x128.size inb_S128x128_S128x128_0_0).toLoadRect⟩ := by
  unfold accZ
  congr 1 <;> exact (cov_one (s := S128x128) _ ![0, 0] off2 _ _ zero128).symm

theorem carZ_eq (C0 C1 C2 C3 : Memref sig .tc .vmem S128x256 .f32) : carZ (F := F) =
    ⟨C0.view.readCov (Val := Elt F) [(⟨Rect.unit (s := S128x256) ![0, 0] S128x256.size inb_S128x256_S128x256_0_0, zero256⟩ : View.Piece (Elt F) S128x256 .f32)] (Rect.unit (s := S128x256) ![0, 0] S128x256.size inb_S128x256_S128x256_0_0).toLoadRect,
     C1.view.readCov (Val := Elt F) [(⟨Rect.unit (s := S128x256) ![0, 0] S128x256.size inb_S128x256_S128x256_0_0, zero256⟩ : View.Piece (Elt F) S128x256 .f32)] (Rect.unit (s := S128x256) ![0, 0] S128x256.size inb_S128x256_S128x256_0_0).toLoadRect,
     C2.view.readCov (Val := Elt F) [(⟨Rect.unit (s := S128x256) ![0, 0] S128x256.size inb_S128x256_S128x256_0_0, zero256⟩ : View.Piece (Elt F) S128x256 .f32)] (Rect.unit (s := S128x256) ![0, 0] S128x256.size inb_S128x256_S128x256_0_0).toLoadRect,
     C3.view.readCov (Val := Elt F) [(⟨Rect.unit (s := S128x256) ![0, 0] S128x256.size inb_S128x256_S128x256_0_0, zero256⟩ : View.Piece (Elt F) S128x256 .f32)] (Rect.unit (s := S128x256) ![0, 0] S128x256.size inb_S128x256_S128x256_0_0).toLoadRect⟩ := by
  unfold carZ
  congr 1 <;> exact (cov_one (s := S128x256) _ ![0, 0] off2 _ _ zero256).symm

/-- The rows of one query tile's result, in the result's format. -/
def outT (a : Quad (Vec F S128x128 .f32)) : Vec F S1x128x512 .bf16 := k0_pay432 a.p0 a.p1 a.p2 a.p3

/-- A block of the result: the first query tile's rows, then the second's. -/
def outBlk (u w : Vec F S1x128x512 .bf16) : Vec F S1x256x512 .bf16 := fun y =>
  if h : (y (1 : Fin 3)).val < 128 then u (ValueIdx.ix3 (y (0 : Fin 3)) ⟨(y (1 : Fin 3)).val, h⟩ (y (2 : Fin 3)))
  else w (ValueIdx.ix3 (y (0 : Fin 3)) ⟨(y (1 : Fin 3)).val - 128, by
    have h3 : (y (1 : Fin 3)).val < 256 := (y (1 : Fin 3)).isLt
    show _ < 128
    omega⟩ (y (2 : Fin 3)))

/-- What a block of the result holds after both halves were stored. -/
theorem read_two (v : View sig .tc .vmem S1x256x512 .bf16) (f : v.ty.Contents (Elt F)) (u w U W : Vec F S1x128x512 .bf16)
    (T L : List (View.Piece (Elt F) S1x256x512 .bf16))
    (hL : L = (⟨Rect.unit (s := S1x256x512) ![0, 128, 0] S1x128x512.size inb_S1x256x512_S1x128x512_0_128_0, w⟩ : View.Piece (Elt F) S1x256x512 .bf16) ::
      (⟨Rect.unit (s := S1x256x512) ![0, 0, 0] S1x128x512.size inb_S1x256x512_S1x128x512_0_0_0, u⟩ : View.Piece (Elt F) S1x256x512 .bf16) :: T)
    (hu : u = U) (hw : w = W) :
    v.read (Elt F) (v.writes (Elt F) f L) = outBlk U W := by
  subst hL hu hw
  funext y
  unfold outBlk
  have h3 : (y (1 : Fin 3)).val < 256 := (y (1 : Fin 3)).isLt
  split
  · rename_i h
    refine (View.read_writes_cons_unit_of_not_mem v f _ w _ y rfl (1 : Fin 3) (Or.inl h)).trans ?_
    refine View.read_writes_cons_unit_of_mem v f _ u T y _ rfl fun a => ?_
    match a with
    | 0 => exact (Nat.zero_add _).symm
    | 1 => exact (Nat.zero_add _).symm
    | 2 => exact (Nat.zero_add _).symm
  · rename_i h
    refine View.read_writes_cons_unit_of_mem v f _ w _ y _ rfl fun a => ?_
    match a with
    | 0 => exact (Nat.zero_add _).symm
    | 1 => show (y (1 : Fin 3)).val = 128 + ((y (1 : Fin 3)).val - 128); omega
    | 2 => exact (Nat.zero_add _).symm

end Cert.Proof.Attn
-- ==== Proof.Trip1.lean ====
module
public import proofs.«01_k».proof.Proof.Kit
@[expose] public section
/-! One round of the loop over earlier key tiles for the first 128 queries of a block. -/
noncomputable section
namespace Cert.Proof.Attn
open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
local notation "𝕄" => MT nD τ sig Unit (Elt F) ℕ (Idealize.ShloMosaic.UR sig nD τ) ℕ

set_option maxHeartbeats 4000000 in
theorem trip1 (c : Dev nD) (i : grid0.Coords)
    (M2 : Memref sig .tc .vmem S1x256x512 .bf16) (h2 : M2.IsWhole) (M3 : Memref sig .tc .vmem S1x4096x512 .bf16) (h3 : M3.IsWhole)
    (M4 : Memref sig .tc .vmem S1x4096x512 .bf16) (h4 : M4.IsWhole) (M5 : Memref sig .tc .vmem S256x512 .bf16) (h5 : M5.IsWhole)
    (A0 : Memref sig .tc .vmem S128x128 .f32) (hA0 : A0.IsWhole) (A1 : Memref sig .tc .vmem S128x128 .f32) (hA1 : A1.IsWhole) (A2 : Memref sig .tc .vmem S128x128 .f32) (hA2 : A2.IsWhole) (A3 : Memref sig .tc .vmem S128x128 .f32) (hA3 : A3.IsWhole)
    (C0 : Memref sig .tc .vmem S128x256 .f32) (hC0 : C0.IsWhole) (C1 : Memref sig .tc .vmem S128x256 .f32) (hC1 : C1.IsWhole) (C2 : Memref sig .tc .vmem S128x256 .f32) (hC2 : C2.IsWhole) (C3 : Memref sig .tc .vmem S128x256 .f32) (hC3 : C3.IsWhole)
    (v2 : IVec S1x128 1) (j : BitVec 32) (a : Quad (Vec F S128x128 .f32)) (d : Quad (Vec F S128x256 .f32)) (mn : F .f32) (hw : k0_chk1 j)
    (ht : Scalar.andi (Scalar.cmpi .sge j 0#32) (Scalar.cmpf .olt mn (Named.named κ "underflow" 0x432E0000#32)) = 1#1)
    (x2 : Vec F S1x256x512 .bf16) (x3 x4 : Vec F S1x4096x512 .bf16) (x5 : Vec F S256x512 .bf16) (Y : St F)
    (hY : Y = step v2 (quad (n := 256) x2 0) x5 (quad (n := 4096) x3 (k0_mult7 j).toNat) (quad (n := 4096) x4 (k0_mult7 j).toNat) ⟨a, d, mn⟩)
    (k : Option ℕ) (E : Set ℕ) (K : BitVec 32 × F .f32 → sProp 𝕄) :
    (owns (c : Thread nD τ) M2 fullShare x2 ∗ owns (c : Thread nD τ) M3 fullShare x3 ∗ owns (c : Thread nD τ) M4 fullShare x4 ∗ owns (c : Thread nD τ) M5 fullShare x5 ∗
      owns (c : Thread nD τ) A0 fullShare a.p0 ∗ owns (c : Thread nD τ) A1 fullShare a.p1 ∗ owns (c : Thread nD τ) A2 fullShare a.p2 ∗ owns (c : Thread nD τ) A3 fullShare a.p3 ∗
      owns (c : Thread nD τ) C0 fullShare d.p0 ∗ owns (c : Thread nD τ) C1 fullShare d.p1 ∗ owns (c : Thread nD τ) C2 fullShare d.p2 ∗ owns (c : Thread nD τ) C3 fullShare d.p3 ∗
      (∀ (j' : BitVec 32) (mn' : F .f32), ⌜j' = Scalar.subi j 1#32⌝ -∗ ⌜mn' = Y.mn⌝ -∗
      (owns (c : Thread nD τ) M2 fullShare x2 ∗ owns (c : Thread nD τ) M3 fullShare x3 ∗ owns (c : Thread nD τ) M4 fullShare x4 ∗ owns (c : Thread nD τ) M5 fullShare x5 ∗
      owns (c : Thread nD τ) A0 fullShare Y.acc.p0 ∗ owns (c : Thread nD τ) A1 fullShare Y.acc.p1 ∗ owns (c : Thread nD τ) A2 fullShare Y.acc.p2 ∗ owns (c : Thread nD τ) A3 fullShare Y.acc.p3 ∗
      owns (c : Thread nD τ) C0 fullShare Y.car.p0 ∗ owns (c : Thread nD τ) C1 fullShare Y.car.p1 ∗ owns (c : Thread nD τ) C2 fullShare Y.car.p2 ∗ owns (c : Thread nD τ) C3 fullShare Y.car.p3) -∗
          wp frame (wpE (defs₀ (F := F)) 𝒱₀ (c : Thread nD τ) k) E
            (Prog.op (.call (1 : (Λ₀ F).Label) ⟨i, M2, h2, M3, h3, v2, M5, h5, C0, hC0, A0, hA0, M4, h4, C1, hC1, A1, hA1, C2, hC2, A2, hA2, C3, hC3, A3, hA3, j', mn'⟩) Prog.ret) K))
        ⊢ wp frame (wpE (defs₀ (F := F)) 𝒱₀ (c : Thread nD τ) k) E
            (cc0_while1 i M2 h2 M3 h3 v2 M5 h5 C0 hC0 A0 hA0 M4 h4 C1 hC1 A1 hA1 C2 hC2 A2 hA2 C3 hC3 A3 hA3 j mn) K := by
  simp only [quad, ← tile_eq (n := 256) h2 x2 _ 0 0 rfl inb_S1x256x512_S1x128x128_0_0_0, ← tile_eq (n := 256) h2 x2 _ 0 128 rfl inb_S1x256x512_S1x128x128_0_0_128, ← tile_eq (n := 256) h2 x2 _ 0 256 rfl inb_S1x256x512_S1x128x128_0_0_256, ← tile_eq (n := 256) h2 x2 _ 0 384 rfl inb_S1x256x512_S1x128x128_0_0_384,
    ← tile_eq (n := 4096) h3 x3 _ (k0_mult7 j).toNat 0 rfl (k0_off13_inb j hw), ← tile_eq (n := 4096) h3 x3 _ (k0_mult7 j).toNat 128 rfl (k0_off14_inb j hw), ← tile_eq (n := 4096) h3 x3 _ (k0_mult7 j).toNat 256 rfl (k0_off15_inb j hw), ← tile_eq (n := 4096) h3 x3 _ (k0_mult7 j).toNat 384 rfl (k0_off16_inb j hw),
    ← tile_eq (n := 4096) h4 x4 _ (k0_mult7 j).toNat 0 rfl (k0_off13_inb j hw), ← tile_eq (n := 4096) h4 x4 _ (k0_mult7 j).toNat 128 rfl (k0_off14_inb j hw), ← tile_eq (n := 4096) h4 x4 _ (k0_mult7 j).toNat 256 rfl (k0_off15_inb j hw), ← tile_eq (n := 4096) h4 x4 _ (k0_mult7 j).toNat 384 rfl (k0_off16_inb j hw)] at hY
  obtain ⟨a0, a1, a2, a3⟩ := a
  obtain ⟨d0, d1, d2, d3⟩ := d
  rw [← whole_eq h5 x5 _ off2 inb_S256x512_S256x512_0_0,
    ← whole_eq hA0 a0 _ off2 inb_S128x128_S128x128_0_0, ← whole_eq hA1 a1 _ off2 inb_S128x128_S128x128_0_0, ← whole_eq hA2 a2 _ off2 inb_S128x128_S128x128_0_0, ← whole_eq hA3 a3 _ off2 inb_S128x128_S128x128_0_0,
    ← whole_eq hC0 d0 _ off2 inb_S128x256_S128x256_0_0, ← whole_eq hC1 d1 _ off2 inb_S128x256_S128x256_0_0, ← whole_eq hC2 d2 _ off2 inb_S128x256_S128x256_0_0, ← whole_eq hC3 d3 _ off2 inb_S128x256_S128x256_0_0] at hY
  unfold owns
  iintro ⟨⟨%f2, %hf2, H2⟩, ⟨%f3, %hf3, H3⟩, ⟨%f4, %hf4, H4⟩, ⟨%f5, %hf5, H5⟩, ⟨%g0, %hg0, HA0⟩, ⟨%g1, %hg1, HA1⟩, ⟨%g2, %hg2, HA2⟩, ⟨%g3, %hg3, HA3⟩,
      ⟨%k0, %hk0, HC0⟩, ⟨%k1, %hk1, HC1⟩, ⟨%k2, %hk2, HC2⟩, ⟨%k3, %hk3, HC3⟩, Hk⟩
  obtain rfl := h2.eq_unread hf2; obtain rfl := h3.eq_unread hf3; obtain rfl := h4.eq_unread hf4; obtain rfl := h5.eq_unread hf5
  obtain rfl := hA0.eq_unread hg0; obtain rfl := hA1.eq_unread hg1; obtain rfl := hA2.eq_unread hg2; obtain rfl := hA3.eq_unread hg3
  obtain rfl := hC0.eq_unread hk0; obtain rfl := hC1.eq_unread hk1; obtain rfl := hC2.eq_unread hk2; obtain rfl := hC3.eq_unread hk3
  sl_unfold [cc0_while1]
  sl_exec!
  iapply Hk
  · ipureintro; rfl
  · ipureintro; rw [hY]; sl_kernel_rfl
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [HA0]
  · iexists _; isplitr; swap; · iexact HA0
    ipureintro; rw [hY]; exact read_one _ _ _ off2 inb_S128x128_S128x128_0_0 _ _ [] _ rfl (by sl_kernel_rfl)
  isplitl [HA1]
  · iexists _; isplitr; swap; · iexact HA1
    ipureintro; rw [hY]; exact read_one _ _ _ off2 inb_S128x128_S128x128_0_0 _ _ [] _ rfl (by sl_kernel_rfl)
  isplitl [HA2]
  · iexists _; isplitr; swap; · iexact HA2
    ipureintro; rw [hY]; exact read_one _ _ _ off2 inb_S128x128_S128x128_0_0 _ _ [] _ rfl (by sl_kernel_rfl)
  isplitl [HA3]
  · iexists _; isplitr; swap; · iexact HA3
    ipureintro; rw [hY]; exact read_one _ _ _ off2 inb_S128x128_S128x128_0_0 _ _ [] _ rfl (by sl_kernel_rfl)
  isplitl [HC0]
  · iexists _; isplitr; swap; · iexact HC0
    ipureintro; rw [hY]; exact read_one _ _ _ off2 inb_S128x256_S128x256_0_0 _ _ [] _ rfl (by sl_kernel_rfl)
  isplitl [HC1]
  · iexists _; isplitr; swap; · iexact HC1
    ipureintro; rw [hY]; exact read_one _ _ _ off2 inb_S128x256_S128x256_0_0 _ _ [] _ rfl (by sl_kernel_rfl)
  isplitl [HC2]
  · iexists _; isplitr; swap; · iexact HC2
    ipureintro; rw [hY]; exact read_one _ _ _ off2 inb_S128x256_S128x256_0_0 _ _ [] _ rfl (by sl_kernel_rfl)
  iexists _; isplitr; swap; · iexact HC3
  ipureintro; rw [hY]; exact read_one _ _ _ off2 inb_S128x256_S128x256_0_0 _ _ [] _ rfl (by sl_kernel_rfl)

end Cert.Proof.Attn
-- ==== Proof.Trip2.lean ====
module
public import proofs.«01_k».proof.Proof.Kit
@[expose] public section
/-! One round of the loop over earlier key tiles for the second 128 queries of a block. -/
noncomputable section
namespace Cert.Proof.Attn
open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
local notation "𝕄" => MT nD τ sig Unit (Elt F) ℕ (Idealize.ShloMosaic.UR sig nD τ) ℕ

set_option maxHeartbeats 4000000 in
theorem trip2 (c : Dev nD) (i : grid0.Coords)
    (M2 : Memref sig .tc .vmem S1x256x512 .bf16) (h2 : M2.IsWhole) (M3 : Memref sig .tc .vmem S1x4096x512 .bf16) (h3 : M3.IsWhole)
    (M4 : Memref sig .tc .vmem S1x4096x512 .bf16) (h4 : M4.IsWhole) (M5 : Memref sig .tc .vmem S256x512 .bf16) (h5 : M5.IsWhole)
    (A0 : Memref sig .tc .vmem S128x128 .f32) (hA0 : A0.IsWhole) (A1 : Memref sig .tc .vmem S128x128 .f32) (hA1 : A1.IsWhole) (A2 : Memref sig .tc .vmem S128x128 .f32) (hA2 : A2.IsWhole) (A3 : Memref sig .tc .vmem S128x128 .f32) (hA3 : A3.IsWhole)
    (C0 : Memref sig .tc .vmem S128x256 .f32) (hC0 : C0.IsWhole) (C1 : Memref sig .tc .vmem S128x256 .f32) (hC1 : C1.IsWhole) (C2 : Memref sig .tc .vmem S128x256 .f32) (hC2 : C2.IsWhole) (C3 : Memref sig .tc .vmem S128x256 .f32) (hC3 : C3.IsWhole)
    (v2 : IVec S1x128 1) (j : BitVec 32) (a : Quad (Vec F S128x128 .f32)) (d : Quad (Vec F S128x256 .f32)) (mn : F .f32) (hw : k0_chk2 j)
    (ht : Scalar.andi (Scalar.cmpi .sge j 0#32) (Scalar.cmpf .olt mn (Named.named κ "underflow" 0x432E0000#32)) = 1#1)
    (x2 : Vec F S1x256x512 .bf16) (x3 x4 : Vec F S1x4096x512 .bf16) (x5 : Vec F S256x512 .bf16) (Y : St F)
    (hY : Y = step v2 (quad (n := 256) x2 128) x5 (quad (n := 4096) x3 (k0_mult14 j).toNat) (quad (n := 4096) x4 (k0_mult14 j).toNat) ⟨a, d, mn⟩)
    (k : Option ℕ) (E : Set ℕ) (K : BitVec 32 × F .f32 → sProp 𝕄) :
    (owns (c : Thread nD τ) M2 fullShare x2 ∗ owns (c : Thread nD τ) M3 fullShare x3 ∗ owns (c : Thread nD τ) M4 fullShare x4 ∗ owns (c : Thread nD τ) M5 fullShare x5 ∗
      owns (c : Thread nD τ) A0 fullShare a.p0 ∗ owns (c : Thread nD τ) A1 fullShare a.p1 ∗ owns (c : Thread nD τ) A2 fullShare a.p2 ∗ owns (c : Thread nD τ) A3 fullShare a.p3 ∗
      owns (c : Thread nD τ) C0 fullShare d.p0 ∗ owns (c : Thread nD τ) C1 fullShare d.p1 ∗ owns (c : Thread nD τ) C2 fullShare d.p2 ∗ owns (c : Thread nD τ) C3 fullShare d.p3 ∗
      (∀ (j' : BitVec 32) (mn' : F .f32), ⌜j' = Scalar.subi j 1#32⌝ -∗ ⌜mn' = Y.mn⌝ -∗
      (owns (c : Thread nD τ) M2 fullShare x2 ∗ owns (c : Thread nD τ) M3 fullShare x3 ∗ owns (c : Thread nD τ) M4 fullShare x4 ∗ owns (c : Thread nD τ) M5 fullShare x5 ∗
      owns (c : Thread nD τ) A0 fullShare Y.acc.p0 ∗ owns (c : Thread nD τ) A1 fullShare Y.acc.p1 ∗ owns (c : Thread nD τ) A2 fullShare Y.acc.p2 ∗ owns (c : Thread nD τ) A3 fullShare Y.acc.p3 ∗
      owns (c : Thread nD τ) C0 fullShare Y.car.p0 ∗ owns (c : Thread nD τ) C1 fullShare Y.car.p1 ∗ owns (c : Thread nD τ) C2 fullShare Y.car.p2 ∗ owns (c : Thread nD τ) C3 fullShare Y.car.p3) -∗
          wp frame (wpE (defs₀ (F := F)) 𝒱₀ (c : Thread nD τ) k) E
            (Prog.op (.call (2 : (Λ₀ F).Label) ⟨i, M2, h2, M3, h3, v2, M5, h5, C0, hC0, A0, hA0, M4, h4, C1, hC1, A1, hA1, C2, hC2, A2, hA2, C3, hC3, A3, hA3, j', mn'⟩) Prog.ret) K))
        ⊢ wp frame (wpE (defs₀ (F := F)) 𝒱₀ (c : Thread nD τ) k) E
            (cc0_while2 i M2 h2 M3 h3 v2 M5 h5 C0 hC0 A0 hA0 M4 h4 C1 hC1 A1 hA1 C2 hC2 A2 hA2 C3 hC3 A3 hA3 j mn) K := by
  simp only [quad, ← tile_eq (n := 256) h2 x2 _ 128 0 rfl inb_S1x256x512_S1x128x128_0_128_0, ← tile_eq (n := 256) h2 x2 _ 128 128 rfl inb_S1x256x512_S1x128x128_0_128_128, ← tile_eq (n := 256) h2 x2 _ 128 256 rfl inb_S1x256x512_S1x128x128_0_128_256, ← tile_eq (n := 256) h2 x2 _ 128 384 rfl inb_S1x256x512_S1x128x128_0_128_384,
    ← tile_eq (n := 4096) h3 x3 _ (k0_mult14 j).toNat 0 rfl (k0_off29_inb j hw), ← tile_eq (n := 4096) h3 x3 _ (k0_mult14 j).toNat 128 rfl (k0_off30_inb j hw), ← tile_eq (n := 4096) h3 x3 _ (k0_mult14 j).toNat 256 rfl (k0_off31_inb j hw), ← tile_eq (n := 4096) h3 x3 _ (k0_mult14 j).toNat 384 rfl (k0_off32_inb j hw),
    ← tile_eq (n := 4096) h4 x4 _ (k0_mult14 j).toNat 0 rfl (k0_off29_inb j hw), ← tile_eq (n := 4096) h4 x4 _ (k0_mult14 j).toNat 128 rfl (k0_off30_inb j hw), ← tile_eq (n := 4096) h4 x4 _ (k0_mult14 j).toNat 256 rfl (k0_off31_inb j hw), ← tile_eq (n := 4096) h4 x4 _ (k0_mult14 j).toNat 384 rfl (k0_off32_inb j hw)] at hY
  obtain ⟨a0, a1, a2, a3⟩ := a
  obtain ⟨d0, d1, d2, d3⟩ := d
  rw [← whole_eq h5 x5 _ off2 inb_S256x512_S256x512_0_0,
    ← whole_eq hA0 a0 _ off2 inb_S128x128_S128x128_0_0, ← whole_eq hA1 a1 _ off2 inb_S128x128_S128x128_0_0, ← whole_eq hA2 a2 _ off2 inb_S128x128_S128x128_0_0, ← whole_eq hA3 a3 _ off2 inb_S128x128_S128x128_0_0,
    ← whole_eq hC0 d0 _ off2 inb_S128x256_S128x256_0_0, ← whole_eq hC1 d1 _ off2 inb_S128x256_S128x256_0_0, ← whole_eq hC2 d2 _ off2 inb_S128x256_S128x256_0_0, ← whole_eq hC3 d3 _ off2 inb_S128x256_S128x256_0_0] at hY
  unfold owns
  iintro ⟨⟨%f2, %hf2, H2⟩, ⟨%f3, %hf3, H3⟩, ⟨%f4, %hf4, H4⟩, ⟨%f5, %hf5, H5⟩, ⟨%g0, %hg0, HA0⟩, ⟨%g1, %hg1, HA1⟩, ⟨%g2, %hg2, HA2⟩, ⟨%g3, %hg3, HA3⟩,
      ⟨%k0, %hk0, HC0⟩, ⟨%k1, %hk1, HC1⟩, ⟨%k2, %hk2, HC2⟩, ⟨%k3, %hk3, HC3⟩, Hk⟩
  obtain rfl := h2.eq_unread hf2; obtain rfl := h3.eq_unread hf3; obtain rfl := h4.eq_unread hf4; obtain rfl := h5.eq_unread hf5
  obtain rfl := hA0.eq_unread hg0; obtain rfl := hA1.eq_unread hg1; obtain rfl := hA2.eq_unread hg2; obtain rfl := hA3.eq_unread hg3
  obtain rfl := hC0.eq_unread hk0; obtain rfl := hC1.eq_unread hk1; obtain rfl := hC2.eq_unread hk2; obtain rfl := hC3.eq_unread hk3
  sl_unfold [cc0_while2]
  sl_exec!
  iapply Hk
  · ipureintro; rfl
  · ipureintro; rw [hY]; sl_kernel_rfl
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [HA0]
  · iexists _; isplitr; swap; · iexact HA0
    ipureintro; rw [hY]; exact read_one _ _ _ off2 inb_S128x128_S128x128_0_0 _ _ [] _ rfl (by sl_kernel_rfl)
  isplitl [HA1]
  · iexists _; isplitr; swap; · iexact HA1
    ipureintro; rw [hY]; exact read_one _ _ _ off2 inb_S128x128_S128x128_0_0 _ _ [] _ rfl (by sl_kernel_rfl)
  isplitl [HA2]
  · iexists _; isplitr; swap; · iexact HA2
    ipureintro; rw [hY]; exact read_one _ _ _ off2 inb_S128x128_S128x128_0_0 _ _ [] _ rfl (by sl_kernel_rfl)
  isplitl [HA3]
  · iexists _; isplitr; swap; · iexact HA3
    ipureintro; rw [hY]; exact read_one _ _ _ off2 inb_S128x128_S128x128_0_0 _ _ [] _ rfl (by sl_kernel_rfl)
  isplitl [HC0]
  · iexists _; isplitr; swap; · iexact HC0
    ipureintro; rw [hY]; exact read_one _ _ _ off2 inb_S128x256_S128x256_0_0 _ _ [] _ rfl (by sl_kernel_rfl)
  isplitl [HC1]
  · iexists _; isplitr; swap; · iexact HC1
    ipureintro; rw [hY]; exact read_one _ _ _ off2 inb_S128x256_S128x256_0_0 _ _ [] _ rfl (by sl_kernel_rfl)
  isplitl [HC2]
  · iexists _; isplitr; swap; · iexact HC2
    ipureintro; rw [hY]; exact read_one _ _ _ off2 inb_S128x256_S128x256_0_0 _ _ [] _ rfl (by sl_kernel_rfl)
  iexists _; isplitr; swap; · iexact HC3
  ipureintro; rw [hY]; exact read_one _ _ _ off2 inb_S128x256_S128x256_0_0 _ _ [] _ rfl (by sl_kernel_rfl)

end Cert.Proof.Attn
-- ==== Proof.Loop.lean ====
module
public import proofs.«01_k».proof.Proof.Trip1
public import proofs.«01_k».proof.Proof.Trip2
@[expose] public section
/-! The loops over earlier key tiles: a loop entered with `k` key tiles left ends in the state that a pure recursion gives. -/
noncomputable section
namespace Cert.Proof.Attn
open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
local notation "𝕄" => MT nD τ sig Unit (Elt F) ℕ (Idealize.ShloMosaic.UR sig nD τ) ℕ

/-- The state after a visit of key tile `n`, for the queries from row `r` of the block. -/
def earlier (v2 : IVec S1x128 1) (x2 : Vec F S1x256x512 .bf16) (x3 x4 : Vec F S1x4096x512 .bf16) (x5 : Vec F S256x512 .bf16) (r n : ℕ) (s : St F) : St F :=
  step v2 (quad (n := 256) x2 r) x5 (quad (n := 4096) x3 (128 * n)) (quad (n := 4096) x4 (128 * n)) s

/-- Visit key tiles `k - 1`, `k - 2`, … for as long as the smallest carried sum stays below the bound. -/
def runDown (f : ℕ → St F → St F) : ℕ → St F → St F
  | 0, s => s
  | k + 1, s => if Scalar.cmpf .olt s.mn (Named.named κ "underflow" 0x432E0000#32) = 1#1 then runDown f k (f k s) else s

/-- The loop counter with `k` key tiles left. -/
def ctr (k : ℕ) : BitVec 32 := BitVec.ofNat 32 k - 1#32

theorem ctr_sub (k : ℕ) : Scalar.subi (ctr (k + 1)) 1#32 = ctr k := by
  show (BitVec.ofNat 32 (k + 1) - 1#32) - 1#32 = BitVec.ofNat 32 k - 1#32
  rw [BitVec.ofNat_add]; exact congrArg (· - 1#32) (BitVec.add_sub_cancel _ _)

theorem sge_ctr : ∀ k, k < 32 → Scalar.cmpi .sge (ctr (k + 1)) 0#32 = 1#1 := by decide
theorem mult1 : ∀ k, k < 32 → (k0_mult7 (ctr (k + 1))).toNat = 128 * k := by decide
theorem mult2 : ∀ k, k < 32 → (k0_mult14 (ctr (k + 1))).toNat = 128 * k := by decide
theorem chk1 : ∀ k, k < 32 → k0_chk1 (ctr (k + 1)) := by decide
theorem chk2 : ∀ k, k < 32 → k0_chk2 (ctr (k + 1)) := by decide

theorem and_one (b : BitVec 1) : Scalar.andi 1#1 b = b := by
  revert b; decide
theorem test_succ (k : ℕ) (hk : k < 32) {mn u : F .f32} (h : Scalar.cmpf .olt mn u = 1#1) :
    Scalar.andi (Scalar.cmpi .sge (ctr (k + 1)) 0#32) (Scalar.cmpf .olt mn u) = 1#1 := by
  rw [sge_ctr k hk, h]; decide

theorem and_right (a : BitVec 1) : ∀ b : BitVec 1, ¬ b = 1#1 → ¬ Scalar.andi a b = 1#1 := by
  revert a; decide
theorem test_not (a : BitVec 1) {mn u : F .f32} (h : ¬ Scalar.cmpf .olt mn u = 1#1) :
    (Scalar.andi a (Scalar.cmpf .olt mn u) = 1#1) = False := eq_false (and_right a _ h)
theorem and_zero (b : BitVec 1) : ¬ Scalar.andi (Scalar.cmpi .sge (ctr 0) 0#32) b = 1#1 := by
  revert b; decide
theorem test_zero (mn u : F .f32) : (Scalar.andi (Scalar.cmpi .sge (ctr 0) 0#32) (Scalar.cmpf .olt mn u) = 1#1) = False := eq_false (and_zero _)

/-- The twelve buffers a visit uses, the running sums at `s`. -/
def held (c : Dev nD) (M2 : Memref sig .tc .vmem S1x256x512 .bf16) (M3 M4 : Memref sig .tc .vmem S1x4096x512 .bf16) (M5 : Memref sig .tc .vmem S256x512 .bf16)
    (A0 A1 A2 A3 : Memref sig .tc .vmem S128x128 .f32) (C0 C1 C2 C3 : Memref sig .tc .vmem S128x256 .f32)
    (x2 : Vec F S1x256x512 .bf16) (x3 x4 : Vec F S1x4096x512 .bf16) (x5 : Vec F S256x512 .bf16) (s : St F) : sProp 𝕄 :=
  iprop(owns (c : Thread nD τ) M2 fullShare x2 ∗ owns (c : Thread nD τ) M3 fullShare x3 ∗ owns (c : Thread nD τ) M4 fullShare x4 ∗ owns (c : Thread nD τ) M5 fullShare x5 ∗
      owns (c : Thread nD τ) A0 fullShare s.acc.p0 ∗ owns (c : Thread nD τ) A1 fullShare s.acc.p1 ∗ owns (c : Thread nD τ) A2 fullShare s.acc.p2 ∗ owns (c : Thread nD τ) A3 fullShare s.acc.p3 ∗
      owns (c : Thread nD τ) C0 fullShare s.car.p0 ∗ owns (c : Thread nD τ) C1 fullShare s.car.p1 ∗ owns (c : Thread nD τ) C2 fullShare s.car.p2 ∗ owns (c : Thread nD τ) C3 fullShare s.car.p3)

/-- Holding the buffers at a state, a loop returns and leaves them at the state `f` gives. -/
def spec (H : St F → sProp 𝕄) (f : St F → St F) (s : St F) : sWPT 𝕄 (BitVec 32 × F .f32) := do
  sWPT.consume (H s)
  let r ← sWPT.arbitrary
  sWPT.produce (H (f s))
  pure r

theorem spec_apply (H : St F → sProp 𝕄) (f : St F → St F) (s : St F) (K : BitVec 32 × F .f32 → sProp 𝕄) :
    spec H f s K = iprop(H s ∗ (∀ r, H (f s) -∗ K r)) := rfl

theorem loop1 (c : Dev nD) (i : grid0.Coords)
    (M2 : Memref sig .tc .vmem S1x256x512 .bf16) (h2 : M2.IsWhole) (M3 : Memref sig .tc .vmem S1x4096x512 .bf16) (h3 : M3.IsWhole)
    (M4 : Memref sig .tc .vmem S1x4096x512 .bf16) (h4 : M4.IsWhole) (M5 : Memref sig .tc .vmem S256x512 .bf16) (h5 : M5.IsWhole)
    (A0 : Memref sig .tc .vmem S128x128 .f32) (hA0 : A0.IsWhole) (A1 : Memref sig .tc .vmem S128x128 .f32) (hA1 : A1.IsWhole) (A2 : Memref sig .tc .vmem S128x128 .f32) (hA2 : A2.IsWhole) (A3 : Memref sig .tc .vmem S128x128 .f32) (hA3 : A3.IsWhole)
    (C0 : Memref sig .tc .vmem S128x256 .f32) (hC0 : C0.IsWhole) (C1 : Memref sig .tc .vmem S128x256 .f32) (hC1 : C1.IsWhole) (C2 : Memref sig .tc .vmem S128x256 .f32) (hC2 : C2.IsWhole) (C3 : Memref sig .tc .vmem S128x256 .f32) (hC3 : C3.IsWhole)
    (v2 : IVec S1x128 1) (x2 : Vec F S1x256x512 .bf16) (x3 x4 : Vec F S1x4096x512 .bf16) (x5 : Vec F S256x512 .bf16) (E : Set ℕ) :
    ∀ k, k ≤ 32 → ∀ (s : St F) (K : BitVec 32 × F .f32 → sProp 𝕄),
      spec (held c M2 M3 M4 M5 A0 A1 A2 A3 C0 C1 C2 C3 x2 x3 x4 x5) (runDown (earlier v2 x2 x3 x4 x5 0) k) s K
        ⊢ wp frame (wpE (defs₀ (F := F)) 𝒱₀ (c : Thread nD τ) (some k)) E
            (defs₀ (F := F) .tc 1 ⟨i, M2, h2, M3, h3, v2, M5, h5, C0, hC0, A0, hA0, M4, h4, C1, hC1, A1, hA1, C2, hC2, A2, hA2, C3, hC3, A3, hA3, ctr k, s.mn⟩) K := by
  intro k
  induction k with
  | zero =>
    intro _ s K
    rw [spec_apply]
    show _ ⊢ wp frame (wpE (defs₀ (F := F)) 𝒱₀ (c : Thread nD τ) (some 0)) E
      (cc0_while1 i M2 h2 M3 h3 v2 M5 h5 C0 hC0 A0 hA0 M4 h4 C1 hC1 A1 hA1 C2 hC2 A2 hA2 C3 hC3 A3 hA3 (ctr 0) s.mn) K
    unfold cc0_while1
    simp only [test_zero, ↓reduceIte, Prog.pure_eq_ret]
    iintro ⟨H, Hk⟩
    rw [wp_ret]; imodintro
    iapply Hk
    simp only [runDown]
    iexact H
  | succ k ih =>
    intro hk s K
    rw [spec_apply]
    show _ ⊢ wp frame (wpE (defs₀ (F := F)) 𝒱₀ (c : Thread nD τ) (some (k + 1))) E
      (cc0_while1 i M2 h2 M3 h3 v2 M5 h5 C0 hC0 A0 hA0 M4 h4 C1 hC1 A1 hA1 C2 hC2 A2 hA2 C3 hC3 A3 hA3 (ctr (k + 1)) s.mn) K
    by_cases ht : Scalar.cmpf .olt s.mn (Named.named κ "underflow" 0x432E0000#32) = 1#1
    · have hr : runDown (earlier v2 x2 x3 x4 x5 0) (k + 1) s = runDown (earlier v2 x2 x3 x4 x5 0) k (earlier v2 x2 x3 x4 x5 0 k s) := if_pos ht
      obtain ⟨Y, hY⟩ : ∃ Y, Y = earlier v2 x2 x3 x4 x5 0 k s := ⟨_, rfl⟩
      rw [hr, ← hY]
      iintro ⟨H, Hk⟩
      unfold held
      iapply (trip1 c i M2 h2 M3 h3 M4 h4 M5 h5 A0 hA0 A1 hA1 A2 hA2 A3 hA3 C0 hC0 C1 hC1 C2 hC2 C3 hC3 v2 (ctr (k + 1)) s.acc s.car s.mn
        (chk1 k (by omega)) (test_succ k (by omega) ht) x2 x3 x4 x5 Y
        (by rw [hY, mult1 k (by omega)]; rfl) (some (k + 1)) E K)
      icases H with ⟨H2, H3, H4, H5, HA0, HA1, HA2, HA3, HC0, HC1, HC2, HC3⟩
      isplitl [H2]; · iexact H2
      isplitl [H3]; · iexact H3
      isplitl [H4]; · iexact H4
      isplitl [H5]; · iexact H5
      isplitl [HA0]; · iexact HA0
      isplitl [HA1]; · iexact HA1
      isplitl [HA2]; · iexact HA2
      isplitl [HA3]; · iexact HA3
      isplitl [HC0]; · iexact HC0
      isplitl [HC1]; · iexact HC1
      isplitl [HC2]; · iexact HC2
      isplitl [HC3]; · iexact HC3
      iintro %j' %mn' %hj %hm H
      subst hj hm
      rw [ctr_sub k]
      iapply (wp_call_spec 𝒱₀ (c : Thread nD τ) (some (k + 1)) E
        (spec (held c M2 M3 M4 M5 A0 A1 A2 A3 C0 C1 C2 C3 x2 x3 x4 x5) (runDown (earlier v2 x2 x3 x4 x5 0) k) Y) k
        (fun u hu => by cases hu; exact Nat.lt_succ_self k) (ih (by omega) Y))
      rw [spec_apply]
      isplitl [H]; · unfold held; iexact H
      iintro %r H
      rw [wp_ret]; imodintro
      iapply Hk
      unfold held
      iexact H
    · have hr : runDown (earlier v2 x2 x3 x4 x5 0) (k + 1) s = s := if_neg ht
      rw [hr]
      unfold cc0_while1
      simp only [test_not _ ht, ↓reduceIte, Prog.pure_eq_ret]
      iintro ⟨H, Hk⟩
      rw [wp_ret]; imodintro
      iapply Hk
      iexact H

theorem loop2 (c : Dev nD) (i : grid0.Coords)
    (M2 : Memref sig .tc .vmem S1x256x512 .bf16) (h2 : M2.IsWhole) (M3 : Memref sig .tc .vmem S1x4096x512 .bf16) (h3 : M3.IsWhole)
    (M4 : Memref sig .tc .vmem S1x4096x512 .bf16) (h4 : M4.IsWhole) (M5 : Memref sig .tc .vmem S256x512 .bf16) (h5 : M5.IsWhole)
    (A0 : Memref sig .tc .vmem S128x128 .f32) (hA0 : A0.IsWhole) (A1 : Memref sig .tc .vmem S128x128 .f32) (hA1 : A1.IsWhole) (A2 : Memref sig .tc .vmem S128x128 .f32) (hA2 : A2.IsWhole) (A3 : Memref sig .tc .vmem S128x128 .f32) (hA3 : A3.IsWhole)
    (C0 : Memref sig .tc .vmem S128x256 .f32) (hC0 : C0.IsWhole) (C1 : Memref sig .tc .vmem S128x256 .f32) (hC1 : C1.IsWhole) (C2 : Memref sig .tc .vmem S128x256 .f32) (hC2 : C2.IsWhole) (C3 : Memref sig .tc .vmem S128x256 .f32) (hC3 : C3.IsWhole)
    (v2 : IVec S1x128 1) (x2 : Vec F S1x256x512 .bf16) (x3 x4 : Vec F S1x4096x512 .bf16) (x5 : Vec F S256x512 .bf16) (E : Set ℕ) :
    ∀ k, k ≤ 32 → ∀ (s : St F) (K : BitVec 32 × F .f32 → sProp 𝕄),
      spec (held c M2 M3 M4 M5 A0 A1 A2 A3 C0 C1 C2 C3 x2 x3 x4 x5) (runDown (earlier v2 x2 x3 x4 x5 128) k) s K
        ⊢ wp frame (wpE (defs₀ (F := F)) 𝒱₀ (c : Thread nD τ) (some k)) E
            (defs₀ (F := F) .tc 2 ⟨i, M2, h2, M3, h3, v2, M5, h5, C0, hC0, A0, hA0, M4, h4, C1, hC1, A1, hA1, C2, hC2, A2, hA2, C3, hC3, A3, hA3, ctr k, s.mn⟩) K := by
  intro k
  induction k with
  | zero =>
    intro _ s K
    rw [spec_apply]
    show _ ⊢ wp frame (wpE (defs₀ (F := F)) 𝒱₀ (c : Thread nD τ) (some 0)) E
      (cc0_while2 i M2 h2 M3 h3 v2 M5 h5 C0 hC0 A0 hA0 M4 h4 C1 hC1 A1 hA1 C2 hC2 A2 hA2 C3 hC3 A3 hA3 (ctr 0) s.mn) K
    unfold cc0_while2
    simp only [test_zero, ↓reduceIte, Prog.pure_eq_ret]
    iintro ⟨H, Hk⟩
    rw [wp_ret]; imodintro
    iapply Hk
    simp only [runDown]
    iexact H
  | succ k ih =>
    intro hk s K
    rw [spec_apply]
    show _ ⊢ wp frame (wpE (defs₀ (F := F)) 𝒱₀ (c : Thread nD τ) (some (k + 1))) E
      (cc0_while2 i M2 h2 M3 h3 v2 M5 h5 C0 hC0 A0 hA0 M4 h4 C1 hC1 A1 hA1 C2 hC2 A2 hA2 C3 hC3 A3 hA3 (ctr (k + 1)) s.mn) K
    by_cases ht : Scalar.cmpf .olt s.mn (Named.named κ "underflow" 0x432E0000#32) = 1#1
    · have hr : runDown (earlier v2 x2 x3 x4 x5 128) (k + 1) s = runDown (earlier v2 x2 x3 x4 x5 128) k (earlier v2 x2 x3 x4 x5 128 k s) := if_pos ht
      obtain ⟨Y, hY⟩ : ∃ Y, Y = earlier v2 x2 x3 x4 x5 128 k s := ⟨_, rfl⟩
      rw [hr, ← hY]
      iintro ⟨H, Hk⟩
      unfold held
      iapply (trip2 c i M2 h2 M3 h3 M4 h4 M5 h5 A0 hA0 A1 hA1 A2 hA2 A3 hA3 C0 hC0 C1 hC1 C2 hC2 C3 hC3 v2 (ctr (k + 1)) s.acc s.car s.mn
        (chk2 k (by omega)) (test_succ k (by omega) ht) x2 x3 x4 x5 Y
        (by rw [hY, mult2 k (by omega)]; rfl) (some (k + 1)) E K)
      icases H with ⟨H2, H3, H4, H5, HA0, HA1, HA2, HA3, HC0, HC1, HC2, HC3⟩
      isplitl [H2]; · iexact H2
      isplitl [H3]; · iexact H3
      isplitl [H4]; · iexact H4
      isplitl [H5]; · iexact H5
      isplitl [HA0]; · iexact HA0
      isplitl [HA1]; · iexact HA1
      isplitl [HA2]; · iexact HA2
      isplitl [HA3]; · iexact HA3
      isplitl [HC0]; · iexact HC0
      isplitl [HC1]; · iexact HC1
      isplitl [HC2]; · iexact HC2
      isplitl [HC3]; · iexact HC3
      iintro %j' %mn' %hj %hm H
      subst hj hm
      rw [ctr_sub k]
      iapply (wp_call_spec 𝒱₀ (c : Thread nD τ) (some (k + 1)) E
        (spec (held c M2 M3 M4 M5 A0 A1 A2 A3 C0 C1 C2 C3 x2 x3 x4 x5) (runDown (earlier v2 x2 x3 x4 x5 128) k) Y) k
        (fun u hu => by cases hu; exact Nat.lt_succ_self k) (ih (by omega) Y))
      rw [spec_apply]
      isplitl [H]; · unfold held; iexact H
      iintro %r H
      rw [wp_ret]; imodintro
      iapply Hk
      unfold held
      iexact H
    · have hr : runDown (earlier v2 x2 x3 x4 x5 128) (k + 1) s = s := if_neg ht
      rw [hr]
      unfold cc0_while2
      simp only [test_not _ ht, ↓reduceIte, Prog.pure_eq_ret]
      iintro ⟨H, Hk⟩
      rw [wp_ret]; imodintro
      iapply Hk
      iexact H

/-- A loop counter that leaves `k` key tiles to visit. -/
def Entry (k : ℕ) (j : BitVec 32) : Prop := (j = ctr k ∧ k ≤ 32) ∨ (k = 0 ∧ Scalar.cmpi .sge j 0#32 = 0#1)

theorem and_zero' (b : BitVec 1) : (Scalar.andi 0#1 b = 1#1) = False := eq_false (by revert b; decide)

theorem rowA : ∀ n, n < 16 → ∀ b, b < 3 → b ≤ 2 * n →
    (Scalar.muli (Scalar.subi (Scalar.addi (Scalar.muli (BitVec.ofNat 32 n) 2#32) 0#32) (BitVec.ofNat 32 b)) 128#32).toNat = 128 * (2 * n - b) := by decide
theorem rowB : ∀ n, n < 16 → ∀ b, b < 3 → b ≤ 2 * n + 1 →
    (Scalar.muli (Scalar.subi (Scalar.addi (Scalar.muli (BitVec.ofNat 32 n) 2#32) 1#32) (BitVec.ofNat 32 b)) 128#32).toNat = 128 * (2 * n + 1 - b) := by decide
theorem entA : ∀ n, n < 16 → Entry (2 * n - 2) (Scalar.subi (Scalar.subi (Scalar.addi (Scalar.muli (BitVec.ofNat 32 n) 2#32) 0#32) 1#32) 2#32) := by
  unfold Entry; decide
theorem entB : ∀ n, n < 16 → Entry (2 * n - 1) (Scalar.subi (Scalar.subi (Scalar.addi (Scalar.muli (BitVec.ofNat 32 n) 2#32) 1#32) 1#32) 2#32) := by
  unfold Entry; decide

theorem enter1 (c : Dev nD) (i : grid0.Coords)
    (M2 : Memref sig .tc .vmem S1x256x512 .bf16) (h2 : M2.IsWhole) (M3 : Memref sig .tc .vmem S1x4096x512 .bf16) (h3 : M3.IsWhole)
    (M4 : Memref sig .tc .vmem S1x4096x512 .bf16) (h4 : M4.IsWhole) (M5 : Memref sig .tc .vmem S256x512 .bf16) (h5 : M5.IsWhole)
    (A0 : Memref sig .tc .vmem S128x128 .f32) (hA0 : A0.IsWhole) (A1 : Memref sig .tc .vmem S128x128 .f32) (hA1 : A1.IsWhole) (A2 : Memref sig .tc .vmem S128x128 .f32) (hA2 : A2.IsWhole) (A3 : Memref sig .tc .vmem S128x128 .f32) (hA3 : A3.IsWhole)
    (C0 : Memref sig .tc .vmem S128x256 .f32) (hC0 : C0.IsWhole) (C1 : Memref sig .tc .vmem S128x256 .f32) (hC1 : C1.IsWhole) (C2 : Memref sig .tc .vmem S128x256 .f32) (hC2 : C2.IsWhole) (C3 : Memref sig .tc .vmem S128x256 .f32) (hC3 : C3.IsWhole)
    (x2 : Vec F S1x256x512 .bf16) (x3 x4 : Vec F S1x4096x512 .bf16) (x5 : Vec F S256x512 .bf16) (E : Set ℕ) (k : ℕ) (s : St F)
    {α : Type} (kk : BitVec 32 × F .f32 → Prog (TpuEff nD τ sig (Elt F) (Λ₀ F) .tc) α) (K : α → sProp 𝕄)
    (v2 : IVec S1x128 1) (j : BitVec 32) (mn : F .f32) :
    (⌜v2 = headMask⌝ ∗ ⌜Entry k j⌝ ∗ ⌜mn = s.mn⌝ ∗ held c M2 M3 M4 M5 A0 A1 A2 A3 C0 C1 C2 C3 x2 x3 x4 x5 s ∗
      (∀ r, held c M2 M3 M4 M5 A0 A1 A2 A3 C0 C1 C2 C3 x2 x3 x4 x5 (runDown (earlier headMask x2 x3 x4 x5 0) k s) -∗
        wp frame (wpE (defs₀ (F := F)) 𝒱₀ (c : Thread nD τ) none) E (kk r) K))
    ⊢ wp frame (wpE (defs₀ (F := F)) 𝒱₀ (c : Thread nD τ) none) E
        (Prog.op (.call (1 : (Λ₀ F).Label) ⟨i, M2, h2, M3, h3, v2, M5, h5, C0, hC0, A0, hA0, M4, h4, C1, hC1, A1, hA1, C2, hC2, A2, hA2, C3, hC3, A3, hA3, j, mn⟩) kk) K := by
  iintro ⟨%hv, %hE, %hm, H, Hk⟩
  subst hv hm
  rcases hE with ⟨rfl, hk⟩ | ⟨rfl, hj⟩
  · iapply (wp_call_spec 𝒱₀ (c : Thread nD τ) none E
      (spec (held c M2 M3 M4 M5 A0 A1 A2 A3 C0 C1 C2 C3 x2 x3 x4 x5) (runDown (earlier headMask x2 x3 x4 x5 0) k) s) k
      (fun u hu => nomatch hu) (loop1 c i M2 h2 M3 h3 M4 h4 M5 h5 A0 hA0 A1 hA1 A2 hA2 A3 hA3 C0 hC0 C1 hC1 C2 hC2 C3 hC3 headMask x2 x3 x4 x5 E k hk s))
    rw [spec_apply]
    isplitl [H]; · iexact H
    iintro %r H
    iapply Hk
    iexact H
  · iapply (wp_call_spec 𝒱₀ (c : Thread nD τ) none E (spec (held c M2 M3 M4 M5 A0 A1 A2 A3 C0 C1 C2 C3 x2 x3 x4 x5) (fun s => s) s) 0
      (fun u hu => nomatch hu) (fun K' => by
        rw [spec_apply]
        show _ ⊢ wp frame (wpE (defs₀ (F := F)) 𝒱₀ (c : Thread nD τ) (some 0)) E (cc0_while1 i M2 h2 M3 h3 headMask M5 h5 C0 hC0 A0 hA0 M4 h4 C1 hC1 A1 hA1 C2 hC2 A2 hA2 C3 hC3 A3 hA3 j s.mn) K'
        unfold cc0_while1
        simp only [hj, and_zero', ↓reduceIte, Prog.pure_eq_ret]
        iintro ⟨H, Hk⟩
        rw [wp_ret]; imodintro
        iapply Hk
        iexact H))
    rw [spec_apply]
    isplitl [H]; · iexact H
    iintro %r H
    iapply Hk
    simp only [runDown]
    iexact H

theorem enter2 (c : Dev nD) (i : grid0.Coords)
    (M2 : Memref sig .tc .vmem S1x256x512 .bf16) (h2 : M2.IsWhole) (M3 : Memref sig .tc .vmem S1x4096x512 .bf16) (h3 : M3.IsWhole)
    (M4 : Memref sig .tc .vmem S1x4096x512 .bf16) (h4 : M4.IsWhole) (M5 : Memref sig .tc .vmem S256x512 .bf16) (h5 : M5.IsWhole)
    (A0 : Memref sig .tc .vmem S128x128 .f32) (hA0 : A0.IsWhole) (A1 : Memref sig .tc .vmem S128x128 .f32) (hA1 : A1.IsWhole) (A2 : Memref sig .tc .vmem S128x128 .f32) (hA2 : A2.IsWhole) (A3 : Memref sig .tc .vmem S128x128 .f32) (hA3 : A3.IsWhole)
    (C0 : Memref sig .tc .vmem S128x256 .f32) (hC0 : C0.IsWhole) (C1 : Memref sig .tc .vmem S128x256 .f32) (hC1 : C1.IsWhole) (C2 : Memref sig .tc .vmem S128x256 .f32) (hC2 : C2.IsWhole) (C3 : Memref sig .tc .vmem S128x256 .f32) (hC3 : C3.IsWhole)
    (x2 : Vec F S1x256x512 .bf16) (x3 x4 : Vec F S1x4096x512 .bf16) (x5 : Vec F S256x512 .bf16) (E : Set ℕ) (k : ℕ) (s : St F)
    {α : Type} (kk : BitVec 32 × F .f32 → Prog (TpuEff nD τ sig (Elt F) (Λ₀ F) .tc) α) (K : α → sProp 𝕄)
    (v2 : IVec S1x128 1) (j : BitVec 32) (mn : F .f32) :
    (⌜v2 = headMask⌝ ∗ ⌜Entry k j⌝ ∗ ⌜mn = s.mn⌝ ∗ held c M2 M3 M4 M5 A0 A1 A2 A3 C0 C1 C2 C3 x2 x3 x4 x5 s ∗
      (∀ r, held c M2 M3 M4 M5 A0 A1 A2 A3 C0 C1 C2 C3 x2 x3 x4 x5 (runDown (earlier headMask x2 x3 x4 x5 128) k s) -∗
        wp frame (wpE (defs₀ (F := F)) 𝒱₀ (c : Thread nD τ) none) E (kk r) K))
    ⊢ wp frame (wpE (defs₀ (F := F)) 𝒱₀ (c : Thread nD τ) none) E
        (Prog.op (.call (2 : (Λ₀ F).Label) ⟨i, M2, h2, M3, h3, v2, M5, h5, C0, hC0, A0, hA0, M4, h4, C1, hC1, A1, hA1, C2, hC2, A2, hA2, C3, hC3, A3, hA3, j, mn⟩) kk) K := by
  iintro ⟨%hv, %hE, %hm, H, Hk⟩
  subst hv hm
  rcases hE with ⟨rfl, hk⟩ | ⟨rfl, hj⟩
  · iapply (wp_call_spec 𝒱₀ (c : Thread nD τ) none E
      (spec (held c M2 M3 M4 M5 A0 A1 A2 A3 C0 C1 C2 C3 x2 x3 x4 x5) (runDown (earlier headMask x2 x3 x4 x5 128) k) s) k
      (fun u hu => nomatch hu) (loop2 c i M2 h2 M3 h3 M4 h4 M5 h5 A0 hA0 A1 hA1 A2 hA2 A3 hA3 C0 hC0 C1 hC1 C2 hC2 C3 hC3 headMask x2 x3 x4 x5 E k hk s))
    rw [spec_apply]
    isplitl [H]; · iexact H
    iintro %r H
    iapply Hk
    iexact H
  · iapply (wp_call_spec 𝒱₀ (c : Thread nD τ) none E (spec (held c M2 M3 M4 M5 A0 A1 A2 A3 C0 C1 C2 C3 x2 x3 x4 x5) (fun s => s) s) 0
      (fun u hu => nomatch hu) (fun K' => by
        rw [spec_apply]
        show _ ⊢ wp frame (wpE (defs₀ (F := F)) 𝒱₀ (c : Thread nD τ) (some 0)) E (cc0_while2 i M2 h2 M3 h3 headMask M5 h5 C0 hC0 A0 hA0 M4 h4 C1 hC1 A1 hA1 C2 hC2 A2 hA2 C3 hC3 A3 hA3 j s.mn) K'
        unfold cc0_while2
        simp only [hj, and_zero', ↓reduceIte, Prog.pure_eq_ret]
        iintro ⟨H, Hk⟩
        rw [wp_ret]; imodintro
        iapply Hk
        iexact H))
    rw [spec_apply]
    isplitl [H]; · iexact H
    iintro %r H
    iapply Hk
    simp only [runDown]
    iexact H

end Cert.Proof.Attn
-- ==== Proof.Body0.lean ====
module
public import proofs.«01_k».proof.Proof.Loop
@[expose] public section
/-! The whole body at a first block of queries. -/
noncomputable section
namespace Cert.Proof.Attn
open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
local notation "𝕄" => MT nD τ sig Unit (Elt F) ℕ (Idealize.ShloMosaic.UR sig nD τ) ℕ

set_option maxHeartbeats 64000000 in
theorem body0 (c : Dev nD) (i : grid0.Coords) (hi : (i 1).val = 0) (k1 : ¬ k0_cond1 i = 1#1) (k3 : k0_cond3 i = 1#1) (k4 : ¬ k0_cond4 i = 1#1)
    (M2 : Memref sig .tc .vmem S1x256x512 .bf16) (h2 : M2.IsWhole) (M3 : Memref sig .tc .vmem S1x4096x512 .bf16) (h3 : M3.IsWhole)
    (M4 : Memref sig .tc .vmem S1x4096x512 .bf16) (h4 : M4.IsWhole) (M5 : Memref sig .tc .vmem S256x512 .bf16) (h5 : M5.IsWhole)
    (M6 : Memref sig .tc .vmem S1x256x512 .bf16) (h6 : M6.IsWhole)
    (A0 : Memref sig .tc .vmem S128x128 .f32) (hA0 : A0.IsWhole) (A1 : Memref sig .tc .vmem S128x128 .f32) (hA1 : A1.IsWhole) (A2 : Memref sig .tc .vmem S128x128 .f32) (hA2 : A2.IsWhole) (A3 : Memref sig .tc .vmem S128x128 .f32) (hA3 : A3.IsWhole)
    (C0 : Memref sig .tc .vmem S128x256 .f32) (hC0 : C0.IsWhole) (C1 : Memref sig .tc .vmem S128x256 .f32) (hC1 : C1.IsWhole) (C2 : Memref sig .tc .vmem S128x256 .f32) (hC2 : C2.IsWhole) (C3 : Memref sig .tc .vmem S128x256 .f32) (hC3 : C3.IsWhole)
    (x2 x6 : Vec F S1x256x512 .bf16) (x3 x4 : Vec F S1x4096x512 .bf16) (x5 : Vec F S256x512 .bf16) (s Y1 Y2 : St F)
    (hY1 : Y1 = first1 headMask (quad (n := 256) x2 0) x5 accZ carZ (quad (n := 4096) x3 (128 * (2 * (i 1).val - 0))) (quad (n := 4096) x4 (128 * (2 * (i 1).val - 0))))
    (hY2 : Y2 = first2 headMask (quad (n := 256) x2 128) x5 accZ carZ (quad (n := 4096) x3 (128 * (2 * (i 1).val + 1 - 0))) (quad (n := 4096) x4 (128 * (2 * (i 1).val + 1 - 0))) (quad (n := 4096) x3 (128 * (2 * (i 1).val + 1 - 1))) (quad (n := 4096) x4 (128 * (2 * (i 1).val + 1 - 1))))
    (E : Set ℕ) (K : PUnit → sProp 𝕄) :
    (held c M2 M3 M4 M5 A0 A1 A2 A3 C0 C1 C2 C3 x2 x3 x4 x5 s ∗ owns (c : Thread nD τ) M6 fullShare x6 ∗
      (held c M2 M3 M4 M5 A0 A1 A2 A3 C0 C1 C2 C3 x2 x3 x4 x5 (runDown (earlier headMask x2 x3 x4 x5 128) (2 * (i 1).val - 1) Y2) ∗
        owns (c : Thread nD τ) M6 fullShare (outBlk (outT (runDown (earlier headMask x2 x3 x4 x5 0) (2 * (i 1).val - 2) Y1).acc) (outT (runDown (earlier headMask x2 x3 x4 x5 128) (2 * (i 1).val - 1) Y2).acc)) -∗ K ⟨⟩))
        ⊢ wp frame (wpE (defs₀ (F := F)) 𝒱₀ (c : Thread nD τ) none) E
            (cc0_stick_breaking_attention i M2 h2 M3 h3 M4 h4 M5 h5 M6 h6 A0 hA0 A1 hA1 A2 hA2 A3 hA3 C0 hC0 C1 hC1 C2 hC2 C3 hC3) K := by
  rw [accZ_eq A0 A1 A2 A3, carZ_eq C0 C1 C2 C3] at hY1
  simp only [quad, ← tile_eq (n := 256) h2 x2 _ 0 0 rfl inb_S1x256x512_S1x128x128_0_0_0,
    ← tile_eq (n := 256) h2 x2 _ 0 128 rfl inb_S1x256x512_S1x128x128_0_0_128,
    ← tile_eq (n := 256) h2 x2 _ 0 256 rfl inb_S1x256x512_S1x128x128_0_0_256,
    ← tile_eq (n := 256) h2 x2 _ 0 384 rfl inb_S1x256x512_S1x128x128_0_0_384,
    ← tile_eq (n := 4096) h3 x3 (k0_off9 i) (128 * (2 * (i 1).val - 0)) 0 (congrArg (fun r => (![0, r, 0] : Fin 3 → ℕ)) (rowA (i 1).val (i 1).isLt 0 (by omega) (by omega))) (k0_off9_inb i k1),
    ← tile_eq (n := 4096) h3 x3 (k0_off10 i) (128 * (2 * (i 1).val - 0)) 128 (congrArg (fun r => (![0, r, 128] : Fin 3 → ℕ)) (rowA (i 1).val (i 1).isLt 0 (by omega) (by omega))) (k0_off10_inb i k1),
    ← tile_eq (n := 4096) h3 x3 (k0_off11 i) (128 * (2 * (i 1).val - 0)) 256 (congrArg (fun r => (![0, r, 256] : Fin 3 → ℕ)) (rowA (i 1).val (i 1).isLt 0 (by omega) (by omega))) (k0_off11_inb i k1),
    ← tile_eq (n := 4096) h3 x3 (k0_off12 i) (128 * (2 * (i 1).val - 0)) 384 (congrArg (fun r => (![0, r, 384] : Fin 3 → ℕ)) (rowA (i 1).val (i 1).isLt 0 (by omega) (by omega))) (k0_off12_inb i k1),
    ← tile_eq (n := 4096) h4 x4 (k0_off9 i) (128 * (2 * (i 1).val - 0)) 0 (congrArg (fun r => (![0, r, 0] : Fin 3 → ℕ)) (rowA (i 1).val (i 1).isLt 0 (by omega) (by omega))) (k0_off9_inb i k1),
    ← tile_eq (n := 4096) h4 x4 (k0_off10 i) (128 * (2 * (i 1).val - 0)) 128 (congrArg (fun r => (![0, r, 128] : Fin 3 → ℕ)) (rowA (i 1).val (i 1).isLt 0 (by omega) (by omega))) (k0_off10_inb i k1),
    ← tile_eq (n := 4096) h4 x4 (k0_off11 i) (128 * (2 * (i 1).val - 0)) 256 (congrArg (fun r => (![0, r, 256] : Fin 3 → ℕ)) (rowA (i 1).val (i 1).isLt 0 (by omega) (by omega))) (k0_off11_inb i k1),
    ← tile_eq (n := 4096) h4 x4 (k0_off12 i) (128 * (2 * (i 1).val - 0)) 384 (congrArg (fun r => (![0, r, 384] : Fin 3 → ℕ)) (rowA (i 1).val (i 1).isLt 0 (by omega) (by omega))) (k0_off12_inb i k1)] at hY1
  rw [← whole_eq h5 x5 _ off2 inb_S256x512_S256x512_0_0] at hY1
  rw [accZ_eq A0 A1 A2 A3, carZ_eq C0 C1 C2 C3] at hY2
  simp only [quad, ← tile_eq (n := 256) h2 x2 _ 128 0 rfl inb_S1x256x512_S1x128x128_0_128_0,
    ← tile_eq (n := 256) h2 x2 _ 128 128 rfl inb_S1x256x512_S1x128x128_0_128_128,
    ← tile_eq (n := 256) h2 x2 _ 128 256 rfl inb_S1x256x512_S1x128x128_0_128_256,
    ← tile_eq (n := 256) h2 x2 _ 128 384 rfl inb_S1x256x512_S1x128x128_0_128_384,
    ← tile_eq (n := 4096) h3 x3 (k0_off21 i 0#32) (128 * (2 * (i 1).val + 1 - 0)) 0 (congrArg (fun r => (![0, r, 0] : Fin 3 → ℕ)) (rowB (i 1).val (i 1).isLt 0 (by omega) (by omega))) (k0_off21_inb i k3 k4 0),
    ← tile_eq (n := 4096) h3 x3 (k0_off22 i 0#32) (128 * (2 * (i 1).val + 1 - 0)) 128 (congrArg (fun r => (![0, r, 128] : Fin 3 → ℕ)) (rowB (i 1).val (i 1).isLt 0 (by omega) (by omega))) (k0_off22_inb i k3 k4 0),
    ← tile_eq (n := 4096) h3 x3 (k0_off23 i 0#32) (128 * (2 * (i 1).val + 1 - 0)) 256 (congrArg (fun r => (![0, r, 256] : Fin 3 → ℕ)) (rowB (i 1).val (i 1).isLt 0 (by omega) (by omega))) (k0_off23_inb i k3 k4 0),
    ← tile_eq (n := 4096) h3 x3 (k0_off24 i 0#32) (128 * (2 * (i 1).val + 1 - 0)) 384 (congrArg (fun r => (![0, r, 384] : Fin 3 → ℕ)) (rowB (i 1).val (i 1).isLt 0 (by omega) (by omega))) (k0_off24_inb i k3 k4 0),
    ← tile_eq (n := 4096) h4 x4 (k0_off21 i 0#32) (128 * (2 * (i 1).val + 1 - 0)) 0 (congrArg (fun r => (![0, r, 0] : Fin 3 → ℕ)) (rowB (i 1).val (i 1).isLt 0 (by omega) (by omega))) (k0_off21_inb i k3 k4 0),
    ← tile_eq (n := 4096) h4 x4 (k0_off22 i 0#32) (128 * (2 * (i 1).val + 1 - 0)) 128 (congrArg (fun r => (![0, r, 128] : Fin 3 → ℕ)) (rowB (i 1).val (i 1).isLt 0 (by omega) (by omega))) (k0_off22_inb i k3 k4 0),
    ← tile_eq (n := 4096) h4 x4 (k0_off23 i 0#32) (128 * (2 * (i 1).val + 1 - 0)) 256 (congrArg (fun r => (![0, r, 256] : Fin 3 → ℕ)) (rowB (i 1).val (i 1).isLt 0 (by omega) (by omega))) (k0_off23_inb i k3 k4 0),
    ← tile_eq (n := 4096) h4 x4 (k0_off24 i 0#32) (128 * (2 * (i 1).val + 1 - 0)) 384 (congrArg (fun r => (![0, r, 384] : Fin 3 → ℕ)) (rowB (i 1).val (i 1).isLt 0 (by omega) (by omega))) (k0_off24_inb i k3 k4 0),
    ← tile_eq (n := 4096) h3 x3 (k0_off21 i 1#32) (128 * (2 * (i 1).val + 1 - 1)) 0 (congrArg (fun r => (![0, r, 0] : Fin 3 → ℕ)) (rowB (i 1).val (i 1).isLt 1 (by omega) (by omega))) (k0_off21_inb i k3 k4 1),
    ← tile_eq (n := 4096) h3 x3 (k0_off22 i 1#32) (128 * (2 * (i 1).val + 1 - 1)) 128 (congrArg (fun r => (![0, r, 128] : Fin 3 → ℕ)) (rowB (i 1).val (i 1).isLt 1 (by omega) (by omega))) (k0_off22_inb i k3 k4 1),
    ← tile_eq (n := 4096) h3 x3 (k0_off23 i 1#32) (128 * (2 * (i 1).val + 1 - 1)) 256 (congrArg (fun r => (![0, r, 256] : Fin 3 → ℕ)) (rowB (i 1).val (i 1).isLt 1 (by omega) (by omega))) (k0_off23_inb i k3 k4 1),
    ← tile_eq (n := 4096) h3 x3 (k0_off24 i 1#32) (128 * (2 * (i 1).val + 1 - 1)) 384 (congrArg (fun r => (![0, r, 384] : Fin 3 → ℕ)) (rowB (i 1).val (i 1).isLt 1 (by omega) (by omega))) (k0_off24_inb i k3 k4 1),
    ← tile_eq (n := 4096) h4 x4 (k0_off21 i 1#32) (128 * (2 * (i 1).val + 1 - 1)) 0 (congrArg (fun r => (![0, r, 0] : Fin 3 → ℕ)) (rowB (i 1).val (i 1).isLt 1 (by omega) (by omega))) (k0_off21_inb i k3 k4 1),
    ← tile_eq (n := 4096) h4 x4 (k0_off22 i 1#32) (128 * (2 * (i 1).val + 1 - 1)) 128 (congrArg (fun r => (![0, r, 128] : Fin 3 → ℕ)) (rowB (i 1).val (i 1).isLt 1 (by omega) (by omega))) (k0_off22_inb i k3 k4 1),
    ← tile_eq (n := 4096) h4 x4 (k0_off23 i 1#32) (128 * (2 * (i 1).val + 1 - 1)) 256 (congrArg (fun r => (![0, r, 256] : Fin 3 → ℕ)) (rowB (i 1).val (i 1).isLt 1 (by omega) (by omega))) (k0_off23_inb i k3 k4 1),
    ← tile_eq (n := 4096) h4 x4 (k0_off24 i 1#32) (128 * (2 * (i 1).val + 1 - 1)) 384 (congrArg (fun r => (![0, r, 384] : Fin 3 → ℕ)) (rowB (i 1).val (i 1).isLt 1 (by omega) (by omega))) (k0_off24_inb i k3 k4 1)] at hY2
  rw [← whole_eq h5 x5 _ off2 inb_S256x512_S256x512_0_0] at hY2
  unfold held owns
  iintro ⟨⟨⟨%f2, %hf2, H2⟩, ⟨%f3, %hf3, H3⟩, ⟨%f4, %hf4, H4⟩, ⟨%f5, %hf5, H5⟩, ⟨%g0, %hg0, HA0⟩, ⟨%g1, %hg1, HA1⟩, ⟨%g2, %hg2, HA2⟩, ⟨%g3, %hg3, HA3⟩,
      ⟨%e0, %he0, HC0⟩, ⟨%e1, %he1, HC1⟩, ⟨%e2, %he2, HC2⟩, ⟨%e3, %he3, HC3⟩⟩, ⟨%f6, %hf6, H6⟩, Hk⟩
  obtain rfl := h2.eq_unread hf2; obtain rfl := h3.eq_unread hf3; obtain rfl := h4.eq_unread hf4; obtain rfl := h5.eq_unread hf5
  clear hf2 hf3 hf4 hf5 hg0 hg1 hg2 hg3 he0 he1 he2 he3
  sl_unfold [cc0_stick_breaking_attention]
  sl_exec!
  iapply (enter1 c i M2 h2 M3 h3 M4 h4 M5 h5 A0 hA0 A1 hA1 A2 hA2 A3 hA3 C0 hC0 C1 hC1 C2 hC2 C3 hC3 x2 x3 x4 x5 E (2 * (i 1).val - 2) Y1)
  isplitr; · ipureintro; rfl
  isplitr; · ipureintro; exact entA (i 1).val (i 1).isLt
  isplitr; · ipureintro; rw [hY1]; sl_kernel_rfl
  unfold held owns
  isplitl [H2 H3 H4 H5 HA0 HA1 HA2 HA3 HC0 HC1 HC2 HC3]
  · isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [HA0]
    · iexists _; isplitr; swap; · iexact HA0
      ipureintro; rw [hY1]; exact read_one _ _ _ off2 inb_S128x128_S128x128_0_0 _ _ _ _ rfl (by sl_kernel_rfl)
    isplitl [HA1]
    · iexists _; isplitr; swap; · iexact HA1
      ipureintro; rw [hY1]; exact read_one _ _ _ off2 inb_S128x128_S128x128_0_0 _ _ _ _ rfl (by sl_kernel_rfl)
    isplitl [HA2]
    · iexists _; isplitr; swap; · iexact HA2
      ipureintro; rw [hY1]; exact read_one _ _ _ off2 inb_S128x128_S128x128_0_0 _ _ _ _ rfl (by sl_kernel_rfl)
    isplitl [HA3]
    · iexists _; isplitr; swap; · iexact HA3
      ipureintro; rw [hY1]; exact read_one _ _ _ off2 inb_S128x128_S128x128_0_0 _ _ _ _ rfl (by sl_kernel_rfl)
    isplitl [HC0]
    · iexists _; isplitr; swap; · iexact HC0
      ipureintro; rw [hY1]; exact read_one _ _ _ off2 inb_S128x256_S128x256_0_0 _ _ _ _ rfl (by sl_kernel_rfl)
    isplitl [HC1]
    · iexists _; isplitr; swap; · iexact HC1
      ipureintro; rw [hY1]; exact read_one _ _ _ off2 inb_S128x256_S128x256_0_0 _ _ _ _ rfl (by sl_kernel_rfl)
    isplitl [HC2]
    · iexists _; isplitr; swap; · iexact HC2
      ipureintro; rw [hY1]; exact read_one _ _ _ off2 inb_S128x256_S128x256_0_0 _ _ _ _ rfl (by sl_kernel_rfl)
    iexists _; isplitr; swap; · iexact HC3
    ipureintro; rw [hY1]; exact read_one _ _ _ off2 inb_S128x256_S128x256_0_0 _ _ _ _ rfl (by sl_kernel_rfl)
  iintro %r H
  obtain ⟨r1, r2⟩ := r
  generalize hZ1 : (runDown (earlier headMask x2 x3 x4 x5 0) (2 * (i 1).val - 2) Y1) = Z1
  icases H with ⟨⟨%f2, %hf2, H2⟩, ⟨%f3, %hf3, H3⟩, ⟨%f4, %hf4, H4⟩, ⟨%f5, %hf5, H5⟩, ⟨%g0, %hg0, HA0⟩, ⟨%g1, %hg1, HA1⟩, ⟨%g2, %hg2, HA2⟩, ⟨%g3, %hg3, HA3⟩,
    ⟨%e0, %he0, HC0⟩, ⟨%e1, %he1, HC1⟩, ⟨%e2, %he2, HC2⟩, ⟨%e3, %he3, HC3⟩⟩
  obtain rfl := h2.eq_unread hf2; obtain rfl := h3.eq_unread hf3; obtain rfl := h4.eq_unread hf4; obtain rfl := h5.eq_unread hf5
  obtain rfl := hA0.eq_unread hg0; obtain rfl := hA1.eq_unread hg1; obtain rfl := hA2.eq_unread hg2; obtain rfl := hA3.eq_unread hg3
  obtain rfl := hC0.eq_unread he0; obtain rfl := hC1.eq_unread he1; obtain rfl := hC2.eq_unread he2; obtain rfl := hC3.eq_unread he3
  clear hf2 hf3 hf4 hf5 hg0 hg1 hg2 hg3 he0 he1 he2 he3
  sl_exec!
  iapply (enter2 c i M2 h2 M3 h3 M4 h4 M5 h5 A0 hA0 A1 hA1 A2 hA2 A3 hA3 C0 hC0 C1 hC1 C2 hC2 C3 hC3 x2 x3 x4 x5 E (2 * (i 1).val - 1) Y2)
  isplitr; · ipureintro; rfl
  isplitr; · ipureintro; exact entB (i 1).val (i 1).isLt
  isplitr; · ipureintro; rw [hY2]; sl_kernel_rfl
  unfold held owns
  isplitl [H2 H3 H4 H5 HA0 HA1 HA2 HA3 HC0 HC1 HC2 HC3]
  · isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [HA0]
    · iexists _; isplitr; swap; · iexact HA0
      ipureintro; rw [hY2]; exact read_one _ _ _ off2 inb_S128x128_S128x128_0_0 _ _ _ _ rfl (by sl_kernel_rfl)
    isplitl [HA1]
    · iexists _; isplitr; swap; · iexact HA1
      ipureintro; rw [hY2]; exact read_one _ _ _ off2 inb_S128x128_S128x128_0_0 _ _ _ _ rfl (by sl_kernel_rfl)
    isplitl [HA2]
    · iexists _; isplitr; swap; · iexact HA2
      ipureintro; rw [hY2]; exact read_one _ _ _ off2 inb_S128x128_S128x128_0_0 _ _ _ _ rfl (by sl_kernel_rfl)
    isplitl [HA3]
    · iexists _; isplitr; swap; · iexact HA3
      ipureintro; rw [hY2]; exact read_one _ _ _ off2 inb_S128x128_S128x128_0_0 _ _ _ _ rfl (by sl_kernel_rfl)
    isplitl [HC0]
    · iexists _; isplitr; swap; · iexact HC0
      ipureintro; rw [hY2]; exact read_one _ _ _ off2 inb_S128x256_S128x256_0_0 _ _ _ _ rfl (by sl_kernel_rfl)
    isplitl [HC1]
    · iexists _; isplitr; swap; · iexact HC1
      ipureintro; rw [hY2]; exact read_one _ _ _ off2 inb_S128x256_S128x256_0_0 _ _ _ _ rfl (by sl_kernel_rfl)
    isplitl [HC2]
    · iexists _; isplitr; swap; · iexact HC2
      ipureintro; rw [hY2]; exact read_one _ _ _ off2 inb_S128x256_S128x256_0_0 _ _ _ _ rfl (by sl_kernel_rfl)
    iexists _; isplitr; swap; · iexact HC3
    ipureintro; rw [hY2]; exact read_one _ _ _ off2 inb_S128x256_S128x256_0_0 _ _ _ _ rfl (by sl_kernel_rfl)
  iintro %r H
  obtain ⟨r1, r2⟩ := r
  generalize hZ2 : (runDown (earlier headMask x2 x3 x4 x5 128) (2 * (i 1).val - 1) Y2) = Z2
  icases H with ⟨⟨%f2, %hf2, H2⟩, ⟨%f3, %hf3, H3⟩, ⟨%f4, %hf4, H4⟩, ⟨%f5, %hf5, H5⟩, ⟨%g0, %hg0, HA0⟩, ⟨%g1, %hg1, HA1⟩, ⟨%g2, %hg2, HA2⟩, ⟨%g3, %hg3, HA3⟩,
    ⟨%e0, %he0, HC0⟩, ⟨%e1, %he1, HC1⟩, ⟨%e2, %he2, HC2⟩, ⟨%e3, %he3, HC3⟩⟩
  obtain rfl := h2.eq_unread hf2; obtain rfl := h3.eq_unread hf3; obtain rfl := h4.eq_unread hf4; obtain rfl := h5.eq_unread hf5
  obtain rfl := hA0.eq_unread hg0; obtain rfl := hA1.eq_unread hg1; obtain rfl := hA2.eq_unread hg2; obtain rfl := hA3.eq_unread hg3
  obtain rfl := hC0.eq_unread he0; obtain rfl := hC1.eq_unread he1; obtain rfl := hC2.eq_unread he2; obtain rfl := hC3.eq_unread he3
  clear hf2 hf3 hf4 hf5 hg0 hg1 hg2 hg3 he0 he1 he2 he3
  sl_exec!
  sl_step
  iapply Hk
  isplitl [H2 H3 H4 H5 HA0 HA1 HA2 HA3 HC0 HC1 HC2 HC3]
  · isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [HA0]
    · iexists _; isplitr; · ipureintro; exact hA0.read_unread _
      iexact HA0
    isplitl [HA1]
    · iexists _; isplitr; · ipureintro; exact hA1.read_unread _
      iexact HA1
    isplitl [HA2]
    · iexists _; isplitr; · ipureintro; exact hA2.read_unread _
      iexact HA2
    isplitl [HA3]
    · iexists _; isplitr; · ipureintro; exact hA3.read_unread _
      iexact HA3
    isplitl [HC0]
    · iexists _; isplitr; · ipureintro; exact hC0.read_unread _
      iexact HC0
    isplitl [HC1]
    · iexists _; isplitr; · ipureintro; exact hC1.read_unread _
      iexact HC1
    isplitl [HC2]
    · iexists _; isplitr; · ipureintro; exact hC2.read_unread _
      iexact HC2
    iexists _; isplitr; · ipureintro; exact hC3.read_unread _
    iexact HC3
  · iexists _; isplitr; swap; · iexact H6
    ipureintro
    have w1 : Z1 = ⟨⟨Z1.acc.p0, Z1.acc.p1, Z1.acc.p2, Z1.acc.p3⟩, Z1.car, Z1.mn⟩ := rfl
    refine read_two _ _ _ _ _ _ _ _ rfl ?_ ?_
    · show k0_pay432 _ _ _ _ = k0_pay432 _ _ _ _
      congr 1 <;> exact whole_eq (by assumption) _ _ off2 _
    · show k0_pay432 _ _ _ _ = k0_pay432 _ _ _ _
      congr 1 <;> exact whole_eq (by assumption) _ _ off2 _

end Cert.Proof.Attn
-- ==== Proof.Body1.lean ====
module
public import proofs.«01_k».proof.Proof.Loop
@[expose] public section
/-! The whole body at a later block of queries. -/
noncomputable section
namespace Cert.Proof.Attn
open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
local notation "𝕄" => MT nD τ sig Unit (Elt F) ℕ (Idealize.ShloMosaic.UR sig nD τ) ℕ

set_option maxHeartbeats 64000000 in
theorem body1 (c : Dev nD) (i : grid0.Coords) (hi : 1 ≤ (i 1).val) (k1 : k0_cond1 i = 1#1) (k2 : k0_cond2 i = 1#1) (k3 : k0_cond3 i = 1#1) (k4 : k0_cond4 i = 1#1)
    (M2 : Memref sig .tc .vmem S1x256x512 .bf16) (h2 : M2.IsWhole) (M3 : Memref sig .tc .vmem S1x4096x512 .bf16) (h3 : M3.IsWhole)
    (M4 : Memref sig .tc .vmem S1x4096x512 .bf16) (h4 : M4.IsWhole) (M5 : Memref sig .tc .vmem S256x512 .bf16) (h5 : M5.IsWhole)
    (M6 : Memref sig .tc .vmem S1x256x512 .bf16) (h6 : M6.IsWhole)
    (A0 : Memref sig .tc .vmem S128x128 .f32) (hA0 : A0.IsWhole) (A1 : Memref sig .tc .vmem S128x128 .f32) (hA1 : A1.IsWhole) (A2 : Memref sig .tc .vmem S128x128 .f32) (hA2 : A2.IsWhole) (A3 : Memref sig .tc .vmem S128x128 .f32) (hA3 : A3.IsWhole)
    (C0 : Memref sig .tc .vmem S128x256 .f32) (hC0 : C0.IsWhole) (C1 : Memref sig .tc .vmem S128x256 .f32) (hC1 : C1.IsWhole) (C2 : Memref sig .tc .vmem S128x256 .f32) (hC2 : C2.IsWhole) (C3 : Memref sig .tc .vmem S128x256 .f32) (hC3 : C3.IsWhole)
    (x2 x6 : Vec F S1x256x512 .bf16) (x3 x4 : Vec F S1x4096x512 .bf16) (x5 : Vec F S256x512 .bf16) (s Y1 Y2 : St F)
    (hY1 : Y1 = first3 headMask (quad (n := 256) x2 0) x5 accZ carZ (quad (n := 4096) x3 (128 * (2 * (i 1).val - 0))) (quad (n := 4096) x4 (128 * (2 * (i 1).val - 0))) (quad (n := 4096) x3 (128 * (2 * (i 1).val - 1))) (quad (n := 4096) x4 (128 * (2 * (i 1).val - 1))) (quad (n := 4096) x3 (128 * (2 * (i 1).val - 2))) (quad (n := 4096) x4 (128 * (2 * (i 1).val - 2))))
    (hY2 : Y2 = first3 headMask (quad (n := 256) x2 128) x5 accZ carZ (quad (n := 4096) x3 (128 * (2 * (i 1).val + 1 - 0))) (quad (n := 4096) x4 (128 * (2 * (i 1).val + 1 - 0))) (quad (n := 4096) x3 (128 * (2 * (i 1).val + 1 - 1))) (quad (n := 4096) x4 (128 * (2 * (i 1).val + 1 - 1))) (quad (n := 4096) x3 (128 * (2 * (i 1).val + 1 - 2))) (quad (n := 4096) x4 (128 * (2 * (i 1).val + 1 - 2))))
    (E : Set ℕ) (K : PUnit → sProp 𝕄) :
    (held c M2 M3 M4 M5 A0 A1 A2 A3 C0 C1 C2 C3 x2 x3 x4 x5 s ∗ owns (c : Thread nD τ) M6 fullShare x6 ∗
      (held c M2 M3 M4 M5 A0 A1 A2 A3 C0 C1 C2 C3 x2 x3 x4 x5 (runDown (earlier headMask x2 x3 x4 x5 128) (2 * (i 1).val - 1) Y2) ∗
        owns (c : Thread nD τ) M6 fullShare (outBlk (outT (runDown (earlier headMask x2 x3 x4 x5 0) (2 * (i 1).val - 2) Y1).acc) (outT (runDown (earlier headMask x2 x3 x4 x5 128) (2 * (i 1).val - 1) Y2).acc)) -∗ K ⟨⟩))
        ⊢ wp frame (wpE (defs₀ (F := F)) 𝒱₀ (c : Thread nD τ) none) E
            (cc0_stick_breaking_attention i M2 h2 M3 h3 M4 h4 M5 h5 M6 h6 A0 hA0 A1 hA1 A2 hA2 A3 hA3 C0 hC0 C1 hC1 C2 hC2 C3 hC3) K := by
  rw [accZ_eq A0 A1 A2 A3, carZ_eq C0 C1 C2 C3] at hY1
  simp only [quad, ← tile_eq (n := 256) h2 x2 _ 0 0 rfl inb_S1x256x512_S1x128x128_0_0_0,
    ← tile_eq (n := 256) h2 x2 _ 0 128 rfl inb_S1x256x512_S1x128x128_0_0_128,
    ← tile_eq (n := 256) h2 x2 _ 0 256 rfl inb_S1x256x512_S1x128x128_0_0_256,
    ← tile_eq (n := 256) h2 x2 _ 0 384 rfl inb_S1x256x512_S1x128x128_0_0_384,
    ← tile_eq (n := 4096) h3 x3 (k0_off1 i 0#32) (128 * (2 * (i 1).val - 0)) 0 (congrArg (fun r => (![0, r, 0] : Fin 3 → ℕ)) (rowA (i 1).val (i 1).isLt 0 (by omega) (by omega))) (k0_off1_inb i k1 k2 0),
    ← tile_eq (n := 4096) h3 x3 (k0_off2 i 0#32) (128 * (2 * (i 1).val - 0)) 128 (congrArg (fun r => (![0, r, 128] : Fin 3 → ℕ)) (rowA (i 1).val (i 1).isLt 0 (by omega) (by omega))) (k0_off2_inb i k1 k2 0),
    ← tile_eq (n := 4096) h3 x3 (k0_off3 i 0#32) (128 * (2 * (i 1).val - 0)) 256 (congrArg (fun r => (![0, r, 256] : Fin 3 → ℕ)) (rowA (i 1).val (i 1).isLt 0 (by omega) (by omega))) (k0_off3_inb i k1 k2 0),
    ← tile_eq (n := 4096) h3 x3 (k0_off4 i 0#32) (128 * (2 * (i 1).val - 0)) 384 (congrArg (fun r => (![0, r, 384] : Fin 3 → ℕ)) (rowA (i 1).val (i 1).isLt 0 (by omega) (by omega))) (k0_off4_inb i k1 k2 0),
    ← tile_eq (n := 4096) h4 x4 (k0_off1 i 0#32) (128 * (2 * (i 1).val - 0)) 0 (congrArg (fun r => (![0, r, 0] : Fin 3 → ℕ)) (rowA (i 1).val (i 1).isLt 0 (by omega) (by omega))) (k0_off1_inb i k1 k2 0),
    ← tile_eq (n := 4096) h4 x4 (k0_off2 i 0#32) (128 * (2 * (i 1).val - 0)) 128 (congrArg (fun r => (![0, r, 128] : Fin 3 → ℕ)) (rowA (i 1).val (i 1).isLt 0 (by omega) (by omega))) (k0_off2_inb i k1 k2 0),
    ← tile_eq (n := 4096) h4 x4 (k0_off3 i 0#32) (128 * (2 * (i 1).val - 0)) 256 (congrArg (fun r => (![0, r, 256] : Fin 3 → ℕ)) (rowA (i 1).val (i 1).isLt 0 (by omega) (by omega))) (k0_off3_inb i k1 k2 0),
    ← tile_eq (n := 4096) h4 x4 (k0_off4 i 0#32) (128 * (2 * (i 1).val - 0)) 384 (congrArg (fun r => (![0, r, 384] : Fin 3 → ℕ)) (rowA (i 1).val (i 1).isLt 0 (by omega) (by omega))) (k0_off4_inb i k1 k2 0),
    ← tile_eq (n := 4096) h3 x3 (k0_off1 i 1#32) (128 * (2 * (i 1).val - 1)) 0 (congrArg (fun r => (![0, r, 0] : Fin 3 → ℕ)) (rowA (i 1).val (i 1).isLt 1 (by omega) (by omega))) (k0_off1_inb i k1 k2 1),
    ← tile_eq (n := 4096) h3 x3 (k0_off2 i 1#32) (128 * (2 * (i 1).val - 1)) 128 (congrArg (fun r => (![0, r, 128] : Fin 3 → ℕ)) (rowA (i 1).val (i 1).isLt 1 (by omega) (by omega))) (k0_off2_inb i k1 k2 1),
    ← tile_eq (n := 4096) h3 x3 (k0_off3 i 1#32) (128 * (2 * (i 1).val - 1)) 256 (congrArg (fun r => (![0, r, 256] : Fin 3 → ℕ)) (rowA (i 1).val (i 1).isLt 1 (by omega) (by omega))) (k0_off3_inb i k1 k2 1),
    ← tile_eq (n := 4096) h3 x3 (k0_off4 i 1#32) (128 * (2 * (i 1).val - 1)) 384 (congrArg (fun r => (![0, r, 384] : Fin 3 → ℕ)) (rowA (i 1).val (i 1).isLt 1 (by omega) (by omega))) (k0_off4_inb i k1 k2 1),
    ← tile_eq (n := 4096) h4 x4 (k0_off1 i 1#32) (128 * (2 * (i 1).val - 1)) 0 (congrArg (fun r => (![0, r, 0] : Fin 3 → ℕ)) (rowA (i 1).val (i 1).isLt 1 (by omega) (by omega))) (k0_off1_inb i k1 k2 1),
    ← tile_eq (n := 4096) h4 x4 (k0_off2 i 1#32) (128 * (2 * (i 1).val - 1)) 128 (congrArg (fun r => (![0, r, 128] : Fin 3 → ℕ)) (rowA (i 1).val (i 1).isLt 1 (by omega) (by omega))) (k0_off2_inb i k1 k2 1),
    ← tile_eq (n := 4096) h4 x4 (k0_off3 i 1#32) (128 * (2 * (i 1).val - 1)) 256 (congrArg (fun r => (![0, r, 256] : Fin 3 → ℕ)) (rowA (i 1).val (i 1).isLt 1 (by omega) (by omega))) (k0_off3_inb i k1 k2 1),
    ← tile_eq (n := 4096) h4 x4 (k0_off4 i 1#32) (128 * (2 * (i 1).val - 1)) 384 (congrArg (fun r => (![0, r, 384] : Fin 3 → ℕ)) (rowA (i 1).val (i 1).isLt 1 (by omega) (by omega))) (k0_off4_inb i k1 k2 1),
    ← tile_eq (n := 4096) h3 x3 (k0_off1 i 2#32) (128 * (2 * (i 1).val - 2)) 0 (congrArg (fun r => (![0, r, 0] : Fin 3 → ℕ)) (rowA (i 1).val (i 1).isLt 2 (by omega) (by omega))) (k0_off1_inb i k1 k2 2),
    ← tile_eq (n := 4096) h3 x3 (k0_off2 i 2#32) (128 * (2 * (i 1).val - 2)) 128 (congrArg (fun r => (![0, r, 128] : Fin 3 → ℕ)) (rowA (i 1).val (i 1).isLt 2 (by omega) (by omega))) (k0_off2_inb i k1 k2 2),
    ← tile_eq (n := 4096) h3 x3 (k0_off3 i 2#32) (128 * (2 * (i 1).val - 2)) 256 (congrArg (fun r => (![0, r, 256] : Fin 3 → ℕ)) (rowA (i 1).val (i 1).isLt 2 (by omega) (by omega))) (k0_off3_inb i k1 k2 2),
    ← tile_eq (n := 4096) h3 x3 (k0_off4 i 2#32) (128 * (2 * (i 1).val - 2)) 384 (congrArg (fun r => (![0, r, 384] : Fin 3 → ℕ)) (rowA (i 1).val (i 1).isLt 2 (by omega) (by omega))) (k0_off4_inb i k1 k2 2),
    ← tile_eq (n := 4096) h4 x4 (k0_off1 i 2#32) (128 * (2 * (i 1).val - 2)) 0 (congrArg (fun r => (![0, r, 0] : Fin 3 → ℕ)) (rowA (i 1).val (i 1).isLt 2 (by omega) (by omega))) (k0_off1_inb i k1 k2 2),
    ← tile_eq (n := 4096) h4 x4 (k0_off2 i 2#32) (128 * (2 * (i 1).val - 2)) 128 (congrArg (fun r => (![0, r, 128] : Fin 3 → ℕ)) (rowA (i 1).val (i 1).isLt 2 (by omega) (by omega))) (k0_off2_inb i k1 k2 2),
    ← tile_eq (n := 4096) h4 x4 (k0_off3 i 2#32) (128 * (2 * (i 1).val - 2)) 256 (congrArg (fun r => (![0, r, 256] : Fin 3 → ℕ)) (rowA (i 1).val (i 1).isLt 2 (by omega) (by omega))) (k0_off3_inb i k1 k2 2),
    ← tile_eq (n := 4096) h4 x4 (k0_off4 i 2#32) (128 * (2 * (i 1).val - 2)) 384 (congrArg (fun r => (![0, r, 384] : Fin 3 → ℕ)) (rowA (i 1).val (i 1).isLt 2 (by omega) (by omega))) (k0_off4_inb i k1 k2 2)] at hY1
  rw [← whole_eq h5 x5 _ off2 inb_S256x512_S256x512_0_0] at hY1
  rw [accZ_eq A0 A1 A2 A3, carZ_eq C0 C1 C2 C3] at hY2
  simp only [quad, ← tile_eq (n := 256) h2 x2 _ 128 0 rfl inb_S1x256x512_S1x128x128_0_128_0,
    ← tile_eq (n := 256) h2 x2 _ 128 128 rfl inb_S1x256x512_S1x128x128_0_128_128,
    ← tile_eq (n := 256) h2 x2 _ 128 256 rfl inb_S1x256x512_S1x128x128_0_128_256,
    ← tile_eq (n := 256) h2 x2 _ 128 384 rfl inb_S1x256x512_S1x128x128_0_128_384,
    ← tile_eq (n := 4096) h3 x3 (k0_off17 i 0#32) (128 * (2 * (i 1).val + 1 - 0)) 0 (congrArg (fun r => (![0, r, 0] : Fin 3 → ℕ)) (rowB (i 1).val (i 1).isLt 0 (by omega) (by omega))) (k0_off17_inb i k3 k4 0),
    ← tile_eq (n := 4096) h3 x3 (k0_off18 i 0#32) (128 * (2 * (i 1).val + 1 - 0)) 128 (congrArg (fun r => (![0, r, 128] : Fin 3 → ℕ)) (rowB (i 1).val (i 1).isLt 0 (by omega) (by omega))) (k0_off18_inb i k3 k4 0),
    ← tile_eq (n := 4096) h3 x3 (k0_off19 i 0#32) (128 * (2 * (i 1).val + 1 - 0)) 256 (congrArg (fun r => (![0, r, 256] : Fin 3 → ℕ)) (rowB (i 1).val (i 1).isLt 0 (by omega) (by omega))) (k0_off19_inb i k3 k4 0),
    ← tile_eq (n := 4096) h3 x3 (k0_off20 i 0#32) (128 * (2 * (i 1).val + 1 - 0)) 384 (congrArg (fun r => (![0, r, 384] : Fin 3 → ℕ)) (rowB (i 1).val (i 1).isLt 0 (by omega) (by omega))) (k0_off20_inb i k3 k4 0),
    ← tile_eq (n := 4096) h4 x4 (k0_off17 i 0#32) (128 * (2 * (i 1).val + 1 - 0)) 0 (congrArg (fun r => (![0, r, 0] : Fin 3 → ℕ)) (rowB (i 1).val (i 1).isLt 0 (by omega) (by omega))) (k0_off17_inb i k3 k4 0),
    ← tile_eq (n := 4096) h4 x4 (k0_off18 i 0#32) (128 * (2 * (i 1).val + 1 - 0)) 128 (congrArg (fun r => (![0, r, 128] : Fin 3 → ℕ)) (rowB (i 1).val (i 1).isLt 0 (by omega) (by omega))) (k0_off18_inb i k3 k4 0),
    ← tile_eq (n := 4096) h4 x4 (k0_off19 i 0#32) (128 * (2 * (i 1).val + 1 - 0)) 256 (congrArg (fun r => (![0, r, 256] : Fin 3 → ℕ)) (rowB (i 1).val (i 1).isLt 0 (by omega) (by omega))) (k0_off19_inb i k3 k4 0),
    ← tile_eq (n := 4096) h4 x4 (k0_off20 i 0#32) (128 * (2 * (i 1).val + 1 - 0)) 384 (congrArg (fun r => (![0, r, 384] : Fin 3 → ℕ)) (rowB (i 1).val (i 1).isLt 0 (by omega) (by omega))) (k0_off20_inb i k3 k4 0),
    ← tile_eq (n := 4096) h3 x3 (k0_off17 i 1#32) (128 * (2 * (i 1).val + 1 - 1)) 0 (congrArg (fun r => (![0, r, 0] : Fin 3 → ℕ)) (rowB (i 1).val (i 1).isLt 1 (by omega) (by omega))) (k0_off17_inb i k3 k4 1),
    ← tile_eq (n := 4096) h3 x3 (k0_off18 i 1#32) (128 * (2 * (i 1).val + 1 - 1)) 128 (congrArg (fun r => (![0, r, 128] : Fin 3 → ℕ)) (rowB (i 1).val (i 1).isLt 1 (by omega) (by omega))) (k0_off18_inb i k3 k4 1),
    ← tile_eq (n := 4096) h3 x3 (k0_off19 i 1#32) (128 * (2 * (i 1).val + 1 - 1)) 256 (congrArg (fun r => (![0, r, 256] : Fin 3 → ℕ)) (rowB (i 1).val (i 1).isLt 1 (by omega) (by omega))) (k0_off19_inb i k3 k4 1),
    ← tile_eq (n := 4096) h3 x3 (k0_off20 i 1#32) (128 * (2 * (i 1).val + 1 - 1)) 384 (congrArg (fun r => (![0, r, 384] : Fin 3 → ℕ)) (rowB (i 1).val (i 1).isLt 1 (by omega) (by omega))) (k0_off20_inb i k3 k4 1),
    ← tile_eq (n := 4096) h4 x4 (k0_off17 i 1#32) (128 * (2 * (i 1).val + 1 - 1)) 0 (congrArg (fun r => (![0, r, 0] : Fin 3 → ℕ)) (rowB (i 1).val (i 1).isLt 1 (by omega) (by omega))) (k0_off17_inb i k3 k4 1),
    ← tile_eq (n := 4096) h4 x4 (k0_off18 i 1#32) (128 * (2 * (i 1).val + 1 - 1)) 128 (congrArg (fun r => (![0, r, 128] : Fin 3 → ℕ)) (rowB (i 1).val (i 1).isLt 1 (by omega) (by omega))) (k0_off18_inb i k3 k4 1),
    ← tile_eq (n := 4096) h4 x4 (k0_off19 i 1#32) (128 * (2 * (i 1).val + 1 - 1)) 256 (congrArg (fun r => (![0, r, 256] : Fin 3 → ℕ)) (rowB (i 1).val (i 1).isLt 1 (by omega) (by omega))) (k0_off19_inb i k3 k4 1),
    ← tile_eq (n := 4096) h4 x4 (k0_off20 i 1#32) (128 * (2 * (i 1).val + 1 - 1)) 384 (congrArg (fun r => (![0, r, 384] : Fin 3 → ℕ)) (rowB (i 1).val (i 1).isLt 1 (by omega) (by omega))) (k0_off20_inb i k3 k4 1),
    ← tile_eq (n := 4096) h3 x3 (k0_off17 i 2#32) (128 * (2 * (i 1).val + 1 - 2)) 0 (congrArg (fun r => (![0, r, 0] : Fin 3 → ℕ)) (rowB (i 1).val (i 1).isLt 2 (by omega) (by omega))) (k0_off17_inb i k3 k4 2),
    ← tile_eq (n := 4096) h3 x3 (k0_off18 i 2#32) (128 * (2 * (i 1).val + 1 - 2)) 128 (congrArg (fun r => (![0, r, 128] : Fin 3 → ℕ)) (rowB (i 1).val (i 1).isLt 2 (by omega) (by omega))) (k0_off18_inb i k3 k4 2),
    ← tile_eq (n := 4096) h3 x3 (k0_off19 i 2#32) (128 * (2 * (i 1).val + 1 - 2)) 256 (congrArg (fun r => (![0, r, 256] : Fin 3 → ℕ)) (rowB (i 1).val (i 1).isLt 2 (by omega) (by omega))) (k0_off19_inb i k3 k4 2),
    ← tile_eq (n := 4096) h3 x3 (k0_off20 i 2#32) (128 * (2 * (i 1).val + 1 - 2)) 384 (congrArg (fun r => (![0, r, 384] : Fin 3 → ℕ)) (rowB (i 1).val (i 1).isLt 2 (by omega) (by omega))) (k0_off20_inb i k3 k4 2),
    ← tile_eq (n := 4096) h4 x4 (k0_off17 i 2#32) (128 * (2 * (i 1).val + 1 - 2)) 0 (congrArg (fun r => (![0, r, 0] : Fin 3 → ℕ)) (rowB (i 1).val (i 1).isLt 2 (by omega) (by omega))) (k0_off17_inb i k3 k4 2),
    ← tile_eq (n := 4096) h4 x4 (k0_off18 i 2#32) (128 * (2 * (i 1).val + 1 - 2)) 128 (congrArg (fun r => (![0, r, 128] : Fin 3 → ℕ)) (rowB (i 1).val (i 1).isLt 2 (by omega) (by omega))) (k0_off18_inb i k3 k4 2),
    ← tile_eq (n := 4096) h4 x4 (k0_off19 i 2#32) (128 * (2 * (i 1).val + 1 - 2)) 256 (congrArg (fun r => (![0, r, 256] : Fin 3 → ℕ)) (rowB (i 1).val (i 1).isLt 2 (by omega) (by omega))) (k0_off19_inb i k3 k4 2),
    ← tile_eq (n := 4096) h4 x4 (k0_off20 i 2#32) (128 * (2 * (i 1).val + 1 - 2)) 384 (congrArg (fun r => (![0, r, 384] : Fin 3 → ℕ)) (rowB (i 1).val (i 1).isLt 2 (by omega) (by omega))) (k0_off20_inb i k3 k4 2)] at hY2
  rw [← whole_eq h5 x5 _ off2 inb_S256x512_S256x512_0_0] at hY2
  unfold held owns
  iintro ⟨⟨⟨%f2, %hf2, H2⟩, ⟨%f3, %hf3, H3⟩, ⟨%f4, %hf4, H4⟩, ⟨%f5, %hf5, H5⟩, ⟨%g0, %hg0, HA0⟩, ⟨%g1, %hg1, HA1⟩, ⟨%g2, %hg2, HA2⟩, ⟨%g3, %hg3, HA3⟩,
      ⟨%e0, %he0, HC0⟩, ⟨%e1, %he1, HC1⟩, ⟨%e2, %he2, HC2⟩, ⟨%e3, %he3, HC3⟩⟩, ⟨%f6, %hf6, H6⟩, Hk⟩
  obtain rfl := h2.eq_unread hf2; obtain rfl := h3.eq_unread hf3; obtain rfl := h4.eq_unread hf4; obtain rfl := h5.eq_unread hf5
  clear hf2 hf3 hf4 hf5 hg0 hg1 hg2 hg3 he0 he1 he2 he3
  sl_unfold [cc0_stick_breaking_attention]
  sl_exec!
  iapply (enter1 c i M2 h2 M3 h3 M4 h4 M5 h5 A0 hA0 A1 hA1 A2 hA2 A3 hA3 C0 hC0 C1 hC1 C2 hC2 C3 hC3 x2 x3 x4 x5 E (2 * (i 1).val - 2) Y1)
  isplitr; · ipureintro; rfl
  isplitr; · ipureintro; exact entA (i 1).val (i 1).isLt
  isplitr; · ipureintro; rw [hY1]; sl_kernel_rfl
  unfold held owns
  isplitl [H2 H3 H4 H5 HA0 HA1 HA2 HA3 HC0 HC1 HC2 HC3]
  · isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [HA0]
    · iexists _; isplitr; swap; · iexact HA0
      ipureintro; rw [hY1]; exact read_one _ _ _ off2 inb_S128x128_S128x128_0_0 _ _ _ _ rfl (by sl_kernel_rfl)
    isplitl [HA1]
    · iexists _; isplitr; swap; · iexact HA1
      ipureintro; rw [hY1]; exact read_one _ _ _ off2 inb_S128x128_S128x128_0_0 _ _ _ _ rfl (by sl_kernel_rfl)
    isplitl [HA2]
    · iexists _; isplitr; swap; · iexact HA2
      ipureintro; rw [hY1]; exact read_one _ _ _ off2 inb_S128x128_S128x128_0_0 _ _ _ _ rfl (by sl_kernel_rfl)
    isplitl [HA3]
    · iexists _; isplitr; swap; · iexact HA3
      ipureintro; rw [hY1]; exact read_one _ _ _ off2 inb_S128x128_S128x128_0_0 _ _ _ _ rfl (by sl_kernel_rfl)
    isplitl [HC0]
    · iexists _; isplitr; swap; · iexact HC0
      ipureintro; rw [hY1]; exact read_one _ _ _ off2 inb_S128x256_S128x256_0_0 _ _ _ _ rfl (by sl_kernel_rfl)
    isplitl [HC1]
    · iexists _; isplitr; swap; · iexact HC1
      ipureintro; rw [hY1]; exact read_one _ _ _ off2 inb_S128x256_S128x256_0_0 _ _ _ _ rfl (by sl_kernel_rfl)
    isplitl [HC2]
    · iexists _; isplitr; swap; · iexact HC2
      ipureintro; rw [hY1]; exact read_one _ _ _ off2 inb_S128x256_S128x256_0_0 _ _ _ _ rfl (by sl_kernel_rfl)
    iexists _; isplitr; swap; · iexact HC3
    ipureintro; rw [hY1]; exact read_one _ _ _ off2 inb_S128x256_S128x256_0_0 _ _ _ _ rfl (by sl_kernel_rfl)
  iintro %r H
  obtain ⟨r1, r2⟩ := r
  generalize hZ1 : (runDown (earlier headMask x2 x3 x4 x5 0) (2 * (i 1).val - 2) Y1) = Z1
  icases H with ⟨⟨%f2, %hf2, H2⟩, ⟨%f3, %hf3, H3⟩, ⟨%f4, %hf4, H4⟩, ⟨%f5, %hf5, H5⟩, ⟨%g0, %hg0, HA0⟩, ⟨%g1, %hg1, HA1⟩, ⟨%g2, %hg2, HA2⟩, ⟨%g3, %hg3, HA3⟩,
    ⟨%e0, %he0, HC0⟩, ⟨%e1, %he1, HC1⟩, ⟨%e2, %he2, HC2⟩, ⟨%e3, %he3, HC3⟩⟩
  obtain rfl := h2.eq_unread hf2; obtain rfl := h3.eq_unread hf3; obtain rfl := h4.eq_unread hf4; obtain rfl := h5.eq_unread hf5
  obtain rfl := hA0.eq_unread hg0; obtain rfl := hA1.eq_unread hg1; obtain rfl := hA2.eq_unread hg2; obtain rfl := hA3.eq_unread hg3
  obtain rfl := hC0.eq_unread he0; obtain rfl := hC1.eq_unread he1; obtain rfl := hC2.eq_unread he2; obtain rfl := hC3.eq_unread he3
  clear hf2 hf3 hf4 hf5 hg0 hg1 hg2 hg3 he0 he1 he2 he3
  sl_exec!
  iapply (enter2 c i M2 h2 M3 h3 M4 h4 M5 h5 A0 hA0 A1 hA1 A2 hA2 A3 hA3 C0 hC0 C1 hC1 C2 hC2 C3 hC3 x2 x3 x4 x5 E (2 * (i 1).val - 1) Y2)
  isplitr; · ipureintro; rfl
  isplitr; · ipureintro; exact entB (i 1).val (i 1).isLt
  isplitr; · ipureintro; rw [hY2]; sl_kernel_rfl
  unfold held owns
  isplitl [H2 H3 H4 H5 HA0 HA1 HA2 HA3 HC0 HC1 HC2 HC3]
  · isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [HA0]
    · iexists _; isplitr; swap; · iexact HA0
      ipureintro; rw [hY2]; exact read_one _ _ _ off2 inb_S128x128_S128x128_0_0 _ _ _ _ rfl (by sl_kernel_rfl)
    isplitl [HA1]
    · iexists _; isplitr; swap; · iexact HA1
      ipureintro; rw [hY2]; exact read_one _ _ _ off2 inb_S128x128_S128x128_0_0 _ _ _ _ rfl (by sl_kernel_rfl)
    isplitl [HA2]
    · iexists _; isplitr; swap; · iexact HA2
      ipureintro; rw [hY2]; exact read_one _ _ _ off2 inb_S128x128_S128x128_0_0 _ _ _ _ rfl (by sl_kernel_rfl)
    isplitl [HA3]
    · iexists _; isplitr; swap; · iexact HA3
      ipureintro; rw [hY2]; exact read_one _ _ _ off2 inb_S128x128_S128x128_0_0 _ _ _ _ rfl (by sl_kernel_rfl)
    isplitl [HC0]
    · iexists _; isplitr; swap; · iexact HC0
      ipureintro; rw [hY2]; exact read_one _ _ _ off2 inb_S128x256_S128x256_0_0 _ _ _ _ rfl (by sl_kernel_rfl)
    isplitl [HC1]
    · iexists _; isplitr; swap; · iexact HC1
      ipureintro; rw [hY2]; exact read_one _ _ _ off2 inb_S128x256_S128x256_0_0 _ _ _ _ rfl (by sl_kernel_rfl)
    isplitl [HC2]
    · iexists _; isplitr; swap; · iexact HC2
      ipureintro; rw [hY2]; exact read_one _ _ _ off2 inb_S128x256_S128x256_0_0 _ _ _ _ rfl (by sl_kernel_rfl)
    iexists _; isplitr; swap; · iexact HC3
    ipureintro; rw [hY2]; exact read_one _ _ _ off2 inb_S128x256_S128x256_0_0 _ _ _ _ rfl (by sl_kernel_rfl)
  iintro %r H
  obtain ⟨r1, r2⟩ := r
  generalize hZ2 : (runDown (earlier headMask x2 x3 x4 x5 128) (2 * (i 1).val - 1) Y2) = Z2
  icases H with ⟨⟨%f2, %hf2, H2⟩, ⟨%f3, %hf3, H3⟩, ⟨%f4, %hf4, H4⟩, ⟨%f5, %hf5, H5⟩, ⟨%g0, %hg0, HA0⟩, ⟨%g1, %hg1, HA1⟩, ⟨%g2, %hg2, HA2⟩, ⟨%g3, %hg3, HA3⟩,
    ⟨%e0, %he0, HC0⟩, ⟨%e1, %he1, HC1⟩, ⟨%e2, %he2, HC2⟩, ⟨%e3, %he3, HC3⟩⟩
  obtain rfl := h2.eq_unread hf2; obtain rfl := h3.eq_unread hf3; obtain rfl := h4.eq_unread hf4; obtain rfl := h5.eq_unread hf5
  obtain rfl := hA0.eq_unread hg0; obtain rfl := hA1.eq_unread hg1; obtain rfl := hA2.eq_unread hg2; obtain rfl := hA3.eq_unread hg3
  obtain rfl := hC0.eq_unread he0; obtain rfl := hC1.eq_unread he1; obtain rfl := hC2.eq_unread he2; obtain rfl := hC3.eq_unread he3
  clear hf2 hf3 hf4 hf5 hg0 hg1 hg2 hg3 he0 he1 he2 he3
  sl_exec!
  sl_step
  iapply Hk
  isplitl [H2 H3 H4 H5 HA0 HA1 HA2 HA3 HC0 HC1 HC2 HC3]
  · isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [HA0]
    · iexists _; isplitr; · ipureintro; exact hA0.read_unread _
      iexact HA0
    isplitl [HA1]
    · iexists _; isplitr; · ipureintro; exact hA1.read_unread _
      iexact HA1
    isplitl [HA2]
    · iexists _; isplitr; · ipureintro; exact hA2.read_unread _
      iexact HA2
    isplitl [HA3]
    · iexists _; isplitr; · ipureintro; exact hA3.read_unread _
      iexact HA3
    isplitl [HC0]
    · iexists _; isplitr; · ipureintro; exact hC0.read_unread _
      iexact HC0
    isplitl [HC1]
    · iexists _; isplitr; · ipureintro; exact hC1.read_unread _
      iexact HC1
    isplitl [HC2]
    · iexists _; isplitr; · ipureintro; exact hC2.read_unread _
      iexact HC2
    iexists _; isplitr; · ipureintro; exact hC3.read_unread _
    iexact HC3
  · iexists _; isplitr; swap; · iexact H6
    ipureintro
    have w1 : Z1 = ⟨⟨Z1.acc.p0, Z1.acc.p1, Z1.acc.p2, Z1.acc.p3⟩, Z1.car, Z1.mn⟩ := rfl
    refine read_two _ _ _ _ _ _ _ _ rfl ?_ ?_
    · show k0_pay432 _ _ _ _ = k0_pay432 _ _ _ _
      congr 1 <;> exact whole_eq (by assumption) _ _ off2 _
    · show k0_pay432 _ _ _ _ = k0_pay432 _ _ _ _
      congr 1 <;> exact whole_eq (by assumption) _ _ off2 _

end Cert.Proof.Attn
-- ==== Proof.Run.lean ====
module
public import proofs.«01_k».proof.Proof.Body0
public import proofs.«01_k».proof.Proof.Body1
public import proofs.«01_k».proof.Proof.Gen.KernelIdeal.Points
public import Idealize.ShloMosaic.Lib.Pipeline.FrameBody
@[expose] public section
/-! The run of the whole program: what every grid point leaves, the launch, the frame. -/
noncomputable section
namespace Cert.Proof.Attn
open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F] [Named F]
local notation "𝕄" => MT nD τ sig Unit (Elt F) ℕ (Idealize.ShloMosaic.UR sig nD τ) ℕ

/-- Which branches the kernel takes at a grid point: at the first block of queries a single tile of keys (or two), later three. -/
theorem branch0 : ∀ t : Fin grid0.N, (grid0.coords t 1).val = 0 → ¬ k0_cond1 (grid0.coords t) = 1#1 ∧ k0_cond3 (grid0.coords t) = 1#1 ∧ ¬ k0_cond4 (grid0.coords t) = 1#1 := by
  decide +kernel
theorem branch1 : ∀ t : Fin grid0.N, 1 ≤ (grid0.coords t 1).val → k0_cond1 (grid0.coords t) = 1#1 ∧ k0_cond2 (grid0.coords t) = 1#1 ∧ k0_cond3 (grid0.coords t) = 1#1 ∧ k0_cond4 (grid0.coords t) = 1#1 := by
  decide +kernel

/-- The state after the tile of keys on the diagonal and up to two before it. -/
def start (x2 : Vec F S1x256x512 .bf16) (x3 x4 : Vec F S1x4096x512 .bf16) (x5 : Vec F S256x512 .bf16) (r g : ℕ) : St F :=
  if g = 0 then first1 headMask (quad (n := 256) x2 r) x5 accZ carZ (quad (n := 4096) x3 (128 * (g - 0))) (quad (n := 4096) x4 (128 * (g - 0)))
  else if g = 1 then first2 headMask (quad (n := 256) x2 r) x5 accZ carZ (quad (n := 4096) x3 (128 * (g - 0))) (quad (n := 4096) x4 (128 * (g - 0)))
    (quad (n := 4096) x3 (128 * (g - 1))) (quad (n := 4096) x4 (128 * (g - 1)))
  else first3 headMask (quad (n := 256) x2 r) x5 accZ carZ (quad (n := 4096) x3 (128 * (g - 0))) (quad (n := 4096) x4 (128 * (g - 0)))
    (quad (n := 4096) x3 (128 * (g - 1))) (quad (n := 4096) x4 (128 * (g - 1))) (quad (n := 4096) x3 (128 * (g - 2))) (quad (n := 4096) x4 (128 * (g - 2)))

/-- The state after tile `g` of queries, whose rows begin at row `r` of the block, has met its keys. -/
def visited (x2 : Vec F S1x256x512 .bf16) (x3 x4 : Vec F S1x4096x512 .bf16) (x5 : Vec F S256x512 .bf16) (r g : ℕ) : St F :=
  runDown (earlier headMask x2 x3 x4 x5 r) (g - 2) (start x2 x3 x4 x5 r g)

/-- The block of the result that a grid point writes. -/
def outAt (x2 : Vec F S1x256x512 .bf16) (x3 x4 : Vec F S1x4096x512 .bf16) (x5 : Vec F S256x512 .bf16) (n : ℕ) : Vec F S1x256x512 .bf16 :=
  outBlk (outT (visited x2 x3 x4 x5 0 (2 * n)).acc) (outT (visited x2 x3 x4 x5 128 (2 * n + 1)).acc)

theorem bodyAll (c : Dev nD) (t : Fin grid0.N)
    (M2 : Memref sig .tc .vmem S1x256x512 .bf16) (h2 : M2.IsWhole) (M3 : Memref sig .tc .vmem S1x4096x512 .bf16) (h3 : M3.IsWhole)
    (M4 : Memref sig .tc .vmem S1x4096x512 .bf16) (h4 : M4.IsWhole) (M5 : Memref sig .tc .vmem S256x512 .bf16) (h5 : M5.IsWhole)
    (M6 : Memref sig .tc .vmem S1x256x512 .bf16) (h6 : M6.IsWhole)
    (A0 : Memref sig .tc .vmem S128x128 .f32) (hA0 : A0.IsWhole) (A1 : Memref sig .tc .vmem S128x128 .f32) (hA1 : A1.IsWhole) (A2 : Memref sig .tc .vmem S128x128 .f32) (hA2 : A2.IsWhole) (A3 : Memref sig .tc .vmem S128x128 .f32) (hA3 : A3.IsWhole)
    (C0 : Memref sig .tc .vmem S128x256 .f32) (hC0 : C0.IsWhole) (C1 : Memref sig .tc .vmem S128x256 .f32) (hC1 : C1.IsWhole) (C2 : Memref sig .tc .vmem S128x256 .f32) (hC2 : C2.IsWhole) (C3 : Memref sig .tc .vmem S128x256 .f32) (hC3 : C3.IsWhole)
    (x2 x6 : Vec F S1x256x512 .bf16) (x3 x4 : Vec F S1x4096x512 .bf16) (x5 : Vec F S256x512 .bf16) (s : St F)
    (E : Set ℕ) (K : PUnit → sProp 𝕄) :
    (held c M2 M3 M4 M5 A0 A1 A2 A3 C0 C1 C2 C3 x2 x3 x4 x5 s ∗ owns (c : Thread nD τ) M6 fullShare x6 ∗
      (held c M2 M3 M4 M5 A0 A1 A2 A3 C0 C1 C2 C3 x2 x3 x4 x5 (visited x2 x3 x4 x5 128 (2 * (grid0.coords t 1).val + 1)) ∗
        owns (c : Thread nD τ) M6 fullShare (outAt x2 x3 x4 x5 (grid0.coords t 1).val) -∗ K ⟨⟩))
        ⊢ wp frame (wpE (defs₀ (F := F)) 𝒱₀ (c : Thread nD τ) none) E
            (cc0_stick_breaking_attention (grid0.coords t) M2 h2 M3 h3 M4 h4 M5 h5 M6 h6 A0 hA0 A1 hA1 A2 hA2 A3 hA3 C0 hC0 C1 hC1 C2 hC2 C3 hC3) K := by
  rcases Nat.eq_zero_or_pos (grid0.coords t 1).val with hi | hi
  · obtain ⟨k1, k3, k4⟩ := branch0 t hi
    exact body0 c (grid0.coords t) hi k1 k3 k4 M2 h2 M3 h3 M4 h4 M5 h5 M6 h6 A0 hA0 A1 hA1 A2 hA2 A3 hA3 C0 hC0 C1 hC1 C2 hC2 C3 hC3 x2 x6 x3 x4 x5 s
      (start x2 x3 x4 x5 0 (2 * (grid0.coords t 1).val)) (start x2 x3 x4 x5 128 (2 * (grid0.coords t 1).val + 1))
      (by unfold start; rw [if_pos (by omega)]) (by unfold start; rw [if_neg (by omega), if_pos (by omega)]) E K
  · obtain ⟨k1, k2, k3, k4⟩ := branch1 t hi
    exact body1 c (grid0.coords t) hi k1 k2 k3 k4 M2 h2 M3 h3 M4 h4 M5 h5 M6 h6 A0 hA0 A1 hA1 A2 hA2 A3 hA3 C0 hC0 C1 hC1 C2 hC2 C3 hC3 x2 x6 x3 x4 x5 s
      (start x2 x3 x4 x5 0 (2 * (grid0.coords t 1).val)) (start x2 x3 x4 x5 128 (2 * (grid0.coords t 1).val + 1))
      (by unfold start; rw [if_neg (by omega), if_neg (by omega)]) (by unfold start; rw [if_neg (by omega), if_neg (by omega)]) E K

variable (m : (ℓ : Loc nD τ sig) → Buf (Elt F) ℓ) (ρ : Dev nD → PrngReg)

/-- What the buffers hold when the kernel is called: the host operations done. -/
abbrev V (c : Dev nD) (b : Ref sig .tc) : Buf (Elt F) ((c : Thread nD τ).loc b) :=
  StableHlo.after ([hostOps0, hostOps0_1, hostOps0_2] : List (List (HloOp τ sig (Elt F)))).flatten (fun b => m (c, b)) b

/-- An operand's block at a grid point. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- The proof data: each operand's buffer keeps its block, the result's holds the block of the point. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt (iblk m c 0 t) (iblk m c 1 t) (iblk m c 2 t) (iblk m c 3 t) (grid0.coords t 1).val
  Φ _ := Pipeline.ΦA spec0 c
  q _ := fullShare
  owed _ := 0

theorem after0_0 (c : Dev nD) (t : Fin (cfg0 (F := F)).N) : (dats m 0 c).after 0 t = iblk m c 0 t := rfl
theorem after0_1 (c : Dev nD) (t : Fin (cfg0 (F := F)).N) : (dats m 0 c).after 1 t = iblk m c 1 t := rfl
theorem after0_2 (c : Dev nD) (t : Fin (cfg0 (F := F)).N) : (dats m 0 c).after 2 t = iblk m c 2 t := rfl
theorem after0_3 (c : Dev nD) (t : Fin (cfg0 (F := F)).N) : (dats m 0 c).after 3 t = iblk m c 3 t := rfl
theorem after0_4 (c : Dev nD) (t : Fin (cfg0 (F := F)).N) : (dats m 0 c).after 4 t
    = outAt (iblk m c 0 t) (iblk m c 1 t) (iblk m c 2 t) (iblk m c 3 t) (grid0.coords t 1).val := rfl

theorem before0_0 (c : Dev nD) (t : Fin (cfg0 (F := F)).N) (d) : (dats m 0 c).before 0 t d = iblk m c 0 t :=
  ((dats m 0 c).before_in_eq_fetched 0 rfl (fun _ => rfl) (fun _ _ _ => rfl) (fun t => by rw [after0_0]; unfold Dat.blockOf iblk; rfl) t d).trans
    (by unfold Dat.fetched Dat.blockOf iblk; rfl)
theorem before0_1 (c : Dev nD) (t : Fin (cfg0 (F := F)).N) (d) : (dats m 0 c).before 1 t d = iblk m c 1 t :=
  ((dats m 0 c).before_in_eq_fetched 1 rfl (fun _ => rfl) (fun _ _ _ => rfl) (fun t => by rw [after0_1]; unfold Dat.blockOf iblk; rfl) t d).trans
    (by unfold Dat.fetched Dat.blockOf iblk; rfl)
theorem before0_2 (c : Dev nD) (t : Fin (cfg0 (F := F)).N) (d) : (dats m 0 c).before 2 t d = iblk m c 2 t :=
  ((dats m 0 c).before_in_eq_fetched 2 rfl (fun _ => rfl) (fun _ _ _ => rfl) (fun t => by rw [after0_2]; unfold Dat.blockOf iblk; rfl) t d).trans
    (by unfold Dat.fetched Dat.blockOf iblk; rfl)
theorem before0_3 (c : Dev nD) (t : Fin (cfg0 (F := F)).N) (d) : (dats m 0 c).before 3 t d = iblk m c 3 t :=
  ((dats m 0 c).before_in_eq_fetched 3 rfl (fun _ => rfl) (fun _ _ _ => rfl) (fun t => by rw [after0_3]; unfold Dat.blockOf iblk; rfl) t d).trans
    (by unfold Dat.fetched Dat.blockOf iblk; rfl)

set_option maxHeartbeats 4000000 in
theorem body_obligation (c : Dev nD) : BodyObligation (dats (F := F) m 0 c) (defs₀ (F := F)) 𝒱₀ () Set.univ := fun t => by
  rw [bigSep_W0, bigSep_W0]
  sl_whnfR [defs₀, Defs.onTc]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, after0_0, after0_1, after0_2, after0_3, after0_4]
  unfold Pipeline.ΦA
  rw [scopedRest0_eq]
  simp only [← owns_whole (c : Thread nD τ)]
  iintro ⟨⟨⟨⟨%a0, A0⟩, ⟨%a1, A1⟩, ⟨%a2, A2⟩, ⟨%a3, A3⟩, ⟨%c0, C0⟩, ⟨%c1, C1⟩, ⟨%c2, C2⟩, ⟨%c3, C3⟩⟩, Hp⟩, Ho, ⟨%d0, H0⟩, ⟨%d1, H1⟩, ⟨%d2, H2⟩, ⟨%d3, H3⟩, ⟨%d4, H4⟩⟩
  rw [before0_0 m c t d0, before0_1 m c t d1, before0_2 m c t d2, before0_3 m c t d3]
  iapply (bodyAll c t _ _ _ _ _ _ _ _ _ _ _ _ _ _ _ _ _ _ _ _ _ _ _ _ _ _ (iblk m c 0 t) _ (iblk m c 1 t) (iblk m c 2 t) (iblk m c 3 t)
    ⟨⟨a0, a1, a2, a3⟩, ⟨c0, c1, c2, c3⟩, (visited (iblk m c 0 t) (iblk m c 1 t) (iblk m c 2 t) (iblk m c 3 t) 0 0).mn⟩ Set.univ _)
  isplitl [H0 H1 H2 H3 A0 A1 A2 A3 C0 C1 C2 C3]
  · unfold held
    isplitl [H0]; · iexact H0
    isplitl [H1]; · iexact H1
    isplitl [H2]; · iexact H2
    isplitl [H3]; · iexact H3
    isplitl [A0]; · iexact A0
    isplitl [A1]; · iexact A1
    isplitl [A2]; · iexact A2
    isplitl [A3]; · iexact A3
    isplitl [C0]; · iexact C0
    isplitl [C1]; · iexact C1
    isplitl [C2]; · iexact C2
    iexact C3
  isplitl [H4]; · iexact H4
  unfold held
  iintro ⟨⟨H0, H1, H2, H3, A0, A1, A2, A3, C0, C1, C2, C3⟩, H4⟩
  isplitl [A0 A1 A2 A3 C0 C1 C2 C3 Hp]
  · isplitr [Hp]
    · isplitl [A0]; · iexists _; iexact A0
      isplitl [A1]; · iexists _; iexact A1
      isplitl [A2]; · iexists _; iexact A2
      isplitl [A3]; · iexists _; iexact A3
      isplitl [C0]; · iexists _; iexact C0
      isplitl [C1]; · iexists _; iexact C1
      isplitl [C2]; · iexists _; iexact C2
      iexists _; iexact C3
    · iexact Hp
  isplitl [Ho]; · iexact Ho
  isplitl [H0]; · iexact H0
  isplitl [H1]; · iexact H1
  isplitl [H2]; · iexact H2
  isplitl [H3]; · iexact H3
  iexact H4

theorem hmain : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2]
    ⟨hostOps0_sub, hostOps0_1_sub, hostOps0_2_sub⟩ (by repeat' constructor) main_chain

set_option backward.isDefEq.respectTransparency.types false in
/-- From any memory with zero counters every run ends, with every array where the proof data puts it and every counter at zero. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m) (hA := fun _ _ => rfl) (hΦ := fun _ _ => rfl)

end Cert.Proof.Attn
end
-- ==== Proof.Frames.lean ====
module
public import proofs.«01_k».proof.Defs
public import proofs.«01_k».proof.Proof.Gen.ReferenceIdeal.Run
public import proofs.«01_k».proof.Proof.Run
public import proofs.«01_k».proof.Proof.Lit.Run
@[expose] public section
/-! The frames of the three programs, and the named constants. -/
noncomputable section
namespace Cert.Proof.Attn
open Cert.KernelIdeal Cert.KernelIdeal.Gen
open Idealize.ShloMosaic Idealize.ShloMosaic.TcCoe Idealize.SL.Sem

variable {F : FTy → Type} [FloatOps F] [Named F]

/-- No host operation writes an argument. -/
theorem V_arg (m : (ℓ : Loc nD τ sig) → Buf (Elt F) ℓ) (c : Dev nD) :
    V m c main_arg0 = m ((c : Thread nD τ).loc main_arg0) ∧ V m c main_arg1 = m ((c : Thread nD τ).loc main_arg1)
      ∧ V m c main_arg2 = m ((c : Thread nD τ).loc main_arg2) := by
  refine ⟨?_, ?_, ?_⟩ <;>
  exact StableHlo.after_of_writes_sub (W := [main_v0, main_v1, main_v2, main_v3, main_v4, main_v5, main_v6, main_cst, main_v7, main_cst_0, main_v8,
      main_call0_v0, main_call0_v1, main_v9, main_cst_1, main_v10, main_cst_2, main_v11, main_v12, main_v13, main_v14, main_v15, main_v16, main_v17, main_v18, main_v19, main_v20])
    _ _ (StableHlo.forall_writes_sub_of_map rfl) (by decide)

theorem frame_run (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c =>
      ⟨((h.1 c).2 main_arg0 (Pipeline.mem_restRefs_of main_arg0 (by decide) (by decide : ∀ w : Fin 5, (spec0 w).arr.view.ref ≠ main_arg0))).trans (V_arg m c).1,
       ((h.1 c).2 main_arg1 (Pipeline.mem_restRefs_of main_arg1 (by decide) (by decide : ∀ w : Fin 5, (spec0 w).arr.view.ref ≠ main_arg1))).trans (V_arg m c).2.1,
       ((h.1 c).2 main_arg2 (Pipeline.mem_restRefs_of main_arg2 (by decide) (by decide : ∀ w : Fin 5, (spec0 w).arr.view.ref ≠ main_arg2))).trans (V_arg m c).2.2⟩, h.2⟩)
    (run_main m ρ)

theorem frame_ideal : Cert.quiescent_KernelIdeal := fun m ρ _ => frame_run (F := Ideal) m ρ

theorem frame_reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

theorem preserves : Cert.preserves_Kernel_KernelIdeal :=
  ⟨IdealRules.named_const.statement Cert.KernelIdeal.κ "inv_ln2" .f32 0x3FB8AA3B#32 (((Real.log 2)⁻¹ : ℝ) : EReal) rfl,
   IdealRules.named_const.statement Cert.KernelIdeal.κ "underflow" .f32 0x432E0000#32 ⊤ rfl⟩

theorem frame_kernel : Cert.quiescent_Kernel := fun m ρ _ => Lit.frame_run (F := Bits) m ρ

end Cert.Proof.Attn
end
-- ==== Proof.Scalar.lean ====
module
public import Idealize.ShloMosaic.Lib.Pointwise
public import Mathlib.Analysis.SpecialFunctions.Pow.Real
@[expose] public section
/-! Softplus and the weights over the extended reals, with logits in natural units and in units of a factor two. -/
noncomputable section
namespace Cert.Proof.Attn
open Idealize.ShloMosaic

/-- Softplus, as the reference computes it. -/
def sp (x : EReal) : EReal := max x 0 + Ideal.log (1 + Ideal.exp (-(max x (-x))))

/-- The inverse of the logarithm of two. -/
def il : ℝ := (Real.log 2)⁻¹

theorem il_pos : 0 < il := inv_pos.mpr (Real.log_pos (by norm_num))

/-- Softplus, as the kernel computes it, in units of a factor two. -/
def sp2 (y : EReal) : EReal := max y 0 + Ideal.log (1 + Ideal.exp2 (-(max y (-y)))) * (il : EReal)

theorem two_rpow (r : ℝ) : Real.rpow 2 (r * il) = Real.exp r := by
  show (2 : ℝ) ^ (r * il) = _
  rw [Real.rpow_def_of_pos (by norm_num)]
  congr 1
  unfold il
  have : Real.log 2 ≠ 0 := (Real.log_pos (by norm_num)).ne'
  field_simp

theorem exp2_scale (x : EReal) : Ideal.exp2 (x * (il : EReal)) = Ideal.exp x := by
  induction x with
  | bot => rw [EReal.bot_mul_coe_of_pos il_pos]; rfl
  | top => rw [EReal.top_mul_coe_of_pos il_pos]; rfl
  | coe r => rw [← EReal.coe_mul]; exact congrArg (fun a : ℝ => (a : EReal)) (two_rpow r)

theorem coe_max' (a b : ℝ) : max (a : EReal) (b : EReal) = ((max a b : ℝ) : EReal) :=
  (EReal.coe_strictMono.monotone.map_max).symm

theorem sp_coe (r : ℝ) : sp (r : EReal) = ((max r 0 + Real.log (1 + Real.exp (-(max r (-r)))) : ℝ) : EReal) := by
  unfold sp
  rw [show (0 : EReal) = ((0 : ℝ) : EReal) from rfl, coe_max', ← EReal.coe_neg, coe_max', ← EReal.coe_neg]
  show _ + Ideal.log (1 + ((Real.exp _ : ℝ) : EReal)) = _
  rw [show (1 : EReal) = ((1 : ℝ) : EReal) from rfl, ← EReal.coe_add]
  show _ + (if _ ≤ (0 : ℝ) then ⊥ else _) = _
  rw [if_neg (by have := Real.exp_pos (-(max r (-r))); linarith), ← EReal.coe_add]

theorem log_one : Ideal.log (1 + 0) = 0 := by
  rw [add_zero, show (1 : EReal) = ((1 : ℝ) : EReal) from rfl]
  show (if (1 : ℝ) ≤ 0 then ⊥ else _) = _
  rw [if_neg (by norm_num), Real.log_one]; rfl

theorem sp_top : sp ⊤ = ⊤ := by
  unfold sp
  rw [max_eq_left le_top, max_eq_left (by simp), EReal.neg_top]
  show ⊤ + Ideal.log (1 + 0) = ⊤
  rw [log_one, add_zero]

theorem sp_bot : sp ⊥ = 0 := by
  unfold sp
  rw [max_eq_right bot_le, max_eq_right bot_le, EReal.neg_bot, EReal.neg_top]
  show 0 + Ideal.log (1 + 0) = 0
  rw [log_one, add_zero]

theorem sp_nonneg (x : EReal) : 0 ≤ sp x := by
  induction x with
  | bot => rw [sp_bot]
  | top => rw [sp_top]; exact le_top
  | coe r =>
    rw [sp_coe]
    have h1 : 0 ≤ max r 0 := le_max_right _ _
    have h2 : 0 ≤ Real.log (1 + Real.exp (-(max r (-r)))) := Real.log_nonneg (by have := Real.exp_pos (-(max r (-r))); linarith)
    exact_mod_cast add_nonneg h1 h2

theorem sp2_scale (x : EReal) : sp2 (x * (il : EReal)) = sp x * (il : EReal) := by
  have hi : (0 : EReal) ≤ (il : EReal) := by exact_mod_cast il_pos.le
  unfold sp2
  have hm : -(max (x * (il : EReal)) (-(x * (il : EReal)))) = -(max x (-x)) * (il : EReal) := by
    rw [EReal.neg_mul, ← EReal.neg_mul x]
    congr 1
    exact ((show Monotone (fun a : EReal => a * (il : EReal)) from fun a b h => mul_le_mul_of_nonneg_right h hi).map_max).symm
  rw [hm, exp2_scale]
  have h0 : max (x * (il : EReal)) 0 = max x 0 * (il : EReal) := by
    have := ((show Monotone (fun a : EReal => a * (il : EReal)) from fun a b h => mul_le_mul_of_nonneg_right h hi).map_max (a := x) (b := 0))
    simpa using this.symm
  rw [h0]
  unfold sp
  rw [EReal.right_distrib_of_nonneg_of_ne_top hi (EReal.coe_ne_top _)]

theorem sum_scale {ι : Type} (s : Finset ι) (f : ι → EReal) (c : ℝ) (hc : 0 ≤ c) : ∑ i ∈ s, f i * (c : EReal) = (∑ i ∈ s, f i) * (c : EReal) := by
  classical
  induction s using Finset.induction_on with
  | empty => simp
  | insert a s ha ih =>
    rw [Finset.sum_insert ha, Finset.sum_insert ha, ih, EReal.right_distrib_of_nonneg_of_ne_top (by exact_mod_cast hc) (EReal.coe_ne_top _)]

theorem sum_neg {ι : Type} (s : Finset ι) (f : ι → EReal) (hf : ∀ i, 0 ≤ f i) : ∑ i ∈ s, -f i = -(∑ i ∈ s, f i) := by
  classical
  induction s using Finset.induction_on with
  | empty => simp
  | insert a s ha ih =>
    have h1 : f a ≠ ⊥ := fun h => by have := hf a; rw [h] at this; simp at this
    have h2 : ∑ i ∈ s, f i ≠ ⊥ := fun h => by
      have : (0 : EReal) ≤ ∑ i ∈ s, f i := Finset.sum_nonneg fun i _ => hf i
      rw [h] at this; simp at this
    rw [Finset.sum_insert ha, Finset.sum_insert ha, ih, EReal.neg_add (Or.inl h1) (Or.inr h2), sub_eq_add_neg]

/-- The weight of a key at logit `x` with `S` the softplus of the later ones: the kernel's formula and the reference's. -/
theorem weight (x S : EReal) (hS : 0 ≤ S) :
    Ideal.exp2 (x * (il : EReal) - sp x * (il : EReal) - S * (il : EReal)) = Ideal.exp (-sp (-x) + (-(sp x + S) - -sp x)) := by
  induction x with
  | bot =>
    rw [EReal.bot_mul_coe_of_pos il_pos, EReal.neg_bot, sp_top, EReal.neg_top]
    simp [sub_eq_add_neg]
  | top =>
    rw [sp_top, EReal.top_mul_coe_of_pos il_pos, EReal.neg_top, sp_bot]
    have h : (⊤ : EReal) + S = ⊤ := EReal.top_add_of_ne_bot fun h => by rw [h] at hS; simp at hS
    rw [h]
    simp [sub_eq_add_neg]
  | coe r =>
    have hx : ∃ a : ℝ, sp (r : EReal) = (a : EReal) ∧ sp (-(r : EReal)) = ((a - r : ℝ) : EReal) := by
      refine ⟨_, sp_coe r, ?_⟩
      rw [← EReal.coe_neg, sp_coe]
      congr 1
      rw [neg_neg, max_comm (-r) r]
      have : max (-r) 0 = max r 0 - r := by rcases le_total r 0 with h | h <;> simp [h]
      rw [this]; ring
    obtain ⟨a, h1, h2⟩ := hx
    rw [h1, h2]
    induction S with
    | bot => simp at hS
    | top =>
      rw [EReal.top_mul_coe_of_pos il_pos, EReal.coe_add_top, EReal.neg_top]
      simp only [sub_eq_add_neg, EReal.neg_top, EReal.add_bot, EReal.bot_add]
      rfl
    | coe b =>
      simp only [← EReal.coe_mul, ← EReal.coe_sub, ← EReal.coe_add, ← EReal.coe_neg]
      rw [show r * il - a * il - b * il = (r - a - b) * il by ring]
      show ((Real.rpow 2 _ : ℝ) : EReal) = ((Real.exp _ : ℝ) : EReal)
      rw [two_rpow]
      congr 2; ring

theorem exp2_sub_top (a : EReal) : Ideal.exp2 (a - ⊤) = 0 := by
  rw [sub_eq_add_neg, EReal.neg_top, EReal.add_bot]; rfl

end Cert.Proof.Attn
end
-- ==== Proof.Tile.lean ====
module
public import proofs.«01_k».proof.Proof.Visit
public import proofs.«01_k».proof.Proof.Scalar
@[expose] public section
set_option maxRecDepth 16384
set_option maxHeartbeats 4000000
/-! One tile of keys over the extended reals, read at an index. -/
noncomputable section
namespace Cert.Proof.Attn
open Cert.KernelIdeal Cert.KernelIdeal.Gen
open Idealize.ShloMosaic

theorem head_lt : ∀ l : Fin 128, IntOp.cmpi .slt (BitVec.ofNat 32 l.val) 64#32 = if l.val < 64 then 1#1 else 0#1 := by decide

theorem splitRows_apply (k : Vec Ideal S1x128x128 .bf16) (c : Fin 256) (l : Fin 128) :
    splitRows headMask k (ix2 c l) = if c.val / 128 = l.val / 64 then k (ix3 0 ⟨c.val % 128, Nat.mod_lt _ (by norm_num)⟩ l) else 0 := by
  have hc := c.isLt
  have hl := l.isLt
  pointwise [splitRows, headMask]
  rw [head_lt]
  by_cases h : c.val < 128
  · rw [dif_pos h]
    have e : (⟨c.val, h⟩ : Fin 128) = ⟨c.val % 128, Nat.mod_lt _ (by norm_num)⟩ := Fin.ext (Nat.mod_eq_of_lt h).symm
    by_cases hl' : l.val < 64
    · rw [if_pos hl']; exact (congrArg (fun i => k (ix3 0 i l)) e).trans (if_pos (show c.val / 128 = l.val / 64 by omega)).symm
    · rw [if_neg hl']; exact (if_neg (show ¬ c.val / 128 = l.val / 64 by omega)).symm
  · rw [dif_neg h]
    have e : (⟨c.val - 128, by omega⟩ : Fin 128) = ⟨c.val % 128, Nat.mod_lt _ (by norm_num)⟩ := Fin.ext (by show c.val - 128 = c.val % 128; omega)
    by_cases hl' : l.val < 64
    · rw [if_pos hl']; exact (if_neg (show ¬ c.val / 128 = l.val / 64 by omega)).symm
    · rw [if_neg hl']; exact (congrArg (fun i => k (ix3 0 i l)) e).trans (if_pos (show c.val / 128 = l.val / 64 by omega)).symm

theorem zT_apply (q k : Vec Ideal S1x128x128 .bf16) (r : Fin 128) (c : Fin 256) :
    zT headMask q k (ix2 r c) = ∑ l : Fin 128, q (ix3 0 r l) * splitRows headMask k (ix2 c l) := by
  pointwise [zT]

theorem col_word : ∀ c : Fin 256, Scalar.select (IntOp.cmpi CmpIPredicate.sge (BitVec.ofNat 32 c.val) 128#32) (IntOp.subi (BitVec.ofNat 32 c.val) 128#32)
    (BitVec.ofNat 32 c.val) = BitVec.ofNat 32 (c.val % 128) := by decide

theorem slt_word : ∀ a b : Fin 128, IntOp.cmpi CmpIPredicate.slt (BitVec.ofNat 32 a.val) (BitVec.ofNat 32 b.val) = if a.val < b.val then 1#1 else 0#1 := by
  intro a b
  have ha := a.isLt
  have hb := b.isLt
  show BitVec.ofBool (BitVec.slt _ _) = _
  rw [BitVec.slt_eq_decide]
  have h1 : (BitVec.ofNat 32 a.val).toInt = a.val := by
    rw [BitVec.toInt_eq_toNat_of_lt, BitVec.toNat_ofNat, Nat.mod_eq_of_lt (by omega)]; rw [BitVec.toNat_ofNat]; omega
  have h2 : (BitVec.ofNat 32 b.val).toInt = b.val := by
    rw [BitVec.toInt_eq_toNat_of_lt, BitVec.toNat_ofNat, Nat.mod_eq_of_lt (by omega)]; rw [BitVec.toNat_ofNat]; omega
  rw [h1, h2]
  by_cases h : a.val < b.val
  · rw [if_pos h, decide_eq_true (by exact_mod_cast h)]; rfl
  · rw [if_neg h, decide_eq_false (by exact_mod_cast h)]; rfl

theorem mask_apply (r : Fin 128) (c : Fin 256) : mask (ix2 r c) = if c.val % 128 < r.val then 1#1 else 0#1 := by
  pointwise [mask]
  rw [col_word]
  exact slt_word ⟨c.val % 128, Nat.mod_lt _ (by norm_num)⟩ r

theorem spT_apply (z : Vec Ideal S128x256 .f32) (r : Fin 128) (c : Fin 256) : spT z (ix2 r c) = sp2 (z (ix2 r c)) := by
  pointwise [spT]
  rw [IdealRules.named_const.ideal_named_scalar _ _ _ _ rfl, zero_sub]
  rfl

theorem wT_apply (z s : Vec Ideal S128x256 .f32) (su : Vec Ideal S128x512 .f32) (car : Vec Ideal S128x256 .f32) (r : Fin 128) (c : Fin 256) :
    wT z s su car (ix2 r c) = Ideal.exp2 (z (ix2 r c) - s (ix2 r c) - (su (ix2 r ⟨c.val, by omega⟩) + car (ix2 r c))) := by
  pointwise [wT]
  rfl

theorem accT_apply (a : Vec Ideal S128x128 .f32) (w : Vec Ideal S128x256 .f32) (v : Vec Ideal S1x128x128 .bf16) (r l : Fin 128) :
    accT headMask a w v (ix2 r l) = a (ix2 r l) + ∑ c : Fin 256, w (ix2 r c) * splitRows headMask v (ix2 c l) := by
  pointwise [accT, rnd]

theorem carT_apply (car : Vec Ideal S128x256 .f32) (su : Vec Ideal S128x512 .f32) (r : Fin 128) (c : Fin 256) :
    carT car su (ix2 r c) = car (ix2 r c) + su (ix2 r ⟨256 + c.val, by omega⟩) := by
  pointwise [carT]

/-- A block of a table of sums: the sums of one tile of lanes. -/
def sumT (s : Vec Ideal S128x256 .f32) (tri : Vec Ideal S256x512 .bf16) : Vec Ideal S128x512 .f32 := fun y =>
  ∑ k : Fin 256, s (ix2 (y 0) k) * tri (ix2 k (y 1))

theorem cut1_eq (s : Quad (Vec Ideal S128x256 .f32)) (tri : Vec Ideal S256x512 .bf16) : cut1 (sums1 s tri) = s.map fun x => sumT x tri := by
  unfold cut1 Quad.map
  congr 1 <;> funext y <;> idx_vars y
  all_goals
    pointwise [sums1, sumT, rnd, triT]
    try refine Finset.sum_congr rfl fun x _ => ?_
    repeat (first | rw [dif_pos (by omega)] | rw [dif_neg (by omega)])
    try exact congrArg (fun i => _ * _) rfl
    try
      refine congrArg (· * _) (congrArg _ (congrArg (fun i => ix2 i x) (Fin.ext ?_)))
      dsimp only
      omega

theorem cut2a_eq (s t : Quad (Vec Ideal S128x256 .f32)) (tri : Vec Ideal S256x512 .bf16) : cut2a (sums2 s t tri) = s.map fun x => sumT x tri := by
  unfold cut2a Quad.map
  congr 1 <;> funext y <;> idx_vars y
  all_goals
    pointwise [sums2, sumT, rnd, triT]
    try refine Finset.sum_congr rfl fun x _ => ?_
    repeat (first | rw [dif_pos (by omega)] | rw [dif_neg (by omega)])
    try exact congrArg (fun i => _ * _) rfl
    try
      refine congrArg (· * _) (congrArg _ (congrArg (fun i => ix2 i x) (Fin.ext ?_)))
      dsimp only
      omega

theorem cut2b_eq (s t : Quad (Vec Ideal S128x256 .f32)) (tri : Vec Ideal S256x512 .bf16) : cut2b (sums2 s t tri) = t.map fun x => sumT x tri := by
  unfold cut2b Quad.map
  congr 1 <;> funext y <;> idx_vars y
  all_goals
    pointwise [sums2, sumT, rnd, triT]
    try refine Finset.sum_congr rfl fun x _ => ?_
    repeat (first | rw [dif_pos (by omega)] | rw [dif_neg (by omega)])
    try exact congrArg (fun i => _ * _) rfl
    try
      refine congrArg (· * _) (congrArg _ (congrArg (fun i => ix2 i x) (Fin.ext ?_)))
      dsimp only
      omega

theorem cut3a_eq (s t u : Quad (Vec Ideal S128x256 .f32)) (tri : Vec Ideal S256x512 .bf16) : cut3a (sums3 s t u tri) = s.map fun x => sumT x tri := by
  unfold cut3a Quad.map
  congr 1 <;> funext y <;> idx_vars y
  all_goals
    pointwise [sums3, sumT, rnd, triT]
    try refine Finset.sum_congr rfl fun x _ => ?_
    repeat (first | rw [dif_pos (by omega)] | rw [dif_neg (by omega)])
    try exact congrArg (fun i => _ * _) rfl
    try
      refine congrArg (· * _) (congrArg _ (congrArg (fun i => ix2 i x) (Fin.ext ?_)))
      dsimp only
      omega

theorem cut3b_eq (s t u : Quad (Vec Ideal S128x256 .f32)) (tri : Vec Ideal S256x512 .bf16) : cut3b (sums3 s t u tri) = t.map fun x => sumT x tri := by
  unfold cut3b Quad.map
  congr 1 <;> funext y <;> idx_vars y
  all_goals
    pointwise [sums3, sumT, rnd, triT]
    try refine Finset.sum_congr rfl fun x _ => ?_
    repeat (first | rw [dif_pos (by omega)] | rw [dif_neg (by omega)])
    try exact congrArg (fun i => _ * _) rfl
    try
      refine congrArg (· * _) (congrArg _ (congrArg (fun i => ix2 i x) (Fin.ext ?_)))
      dsimp only
      omega

theorem cut3c_eq (s t u : Quad (Vec Ideal S128x256 .f32)) (tri : Vec Ideal S256x512 .bf16) : cut3c (sums3 s t u tri) = u.map fun x => sumT x tri := by
  unfold cut3c Quad.map
  congr 1 <;> funext y <;> idx_vars y
  all_goals
    pointwise [sums3, sumT, rnd, triT]
    try refine Finset.sum_congr rfl fun x _ => ?_
    repeat (first | rw [dif_pos (by omega)] | rw [dif_neg (by omega)])
    try exact congrArg (fun i => _ * _) rfl
    try
      refine congrArg (· * _) (congrArg _ (congrArg (fun i => ix2 i x) (Fin.ext ?_)))
      dsimp only
      omega

end Cert.Proof.Attn
end
-- ==== Proof.Sums.lean ====
module
public import proofs.«01_k».proof.Proof.Tile
public import proofs.«01_k».proof.Proof.Kit
@[expose] public section
set_option maxRecDepth 16384
/-! Running sums over tiles of keys: what a visit adds, and what the sums are after all tiles from `n` on. -/
noncomputable section
namespace Cert.Proof.Attn
open Cert.KernelIdeal Cert.KernelIdeal.Gen
open Idealize.ShloMosaic

theorem half_sum (N e : ℕ) (hN : 0 < N) (he : e < 2) (f : ℕ → EReal) :
    ∑ k ∈ Finset.range (N + N), (if k / N = e then f k else 0) = ∑ k ∈ Finset.range N, f (N * e + k) := by
  rw [Finset.sum_range_add]
  have h1 : ∀ k ∈ Finset.range N, (if k / N = e then f k else 0) = if e = 0 then f (N * e + k) else 0 := by
    intro k hk
    rw [Nat.div_eq_of_lt (Finset.mem_range.mp hk)]
    by_cases h : e = 0
    · subst h; simp
    · rw [if_neg (fun h' => h h'.symm), if_neg h]
  have h2 : ∀ k ∈ Finset.range N, (if (N + k) / N = e then f (N + k) else 0) = if e = 1 then f (N * e + k) else 0 := by
    intro k hk
    rw [Nat.add_div_left _ hN, Nat.div_eq_of_lt (Finset.mem_range.mp hk)]
    by_cases h : e = 1
    · subst h; simp
    · rw [if_neg (fun h' => h h'.symm), if_neg h]
  rw [Finset.sum_congr rfl h1, Finset.sum_congr rfl h2]
  interval_cases e <;> simp

theorem half_fin (M N e : ℕ) (hM : M = N + N) (hN : 0 < N) (he : e < 2) (f : ℕ → EReal) (g : Fin M → EReal)
    (h : ∀ k : Fin M, g k = (fun k : ℕ => if k / N = e then f k else 0) k.val) : ∑ k : Fin M, g k = ∑ k ∈ Finset.range N, f (N * e + k) := by
  rw [Finset.sum_congr rfl fun k _ => h k, ← Finset.sum_range (n := M) (fun k : ℕ => if k / N = e then f k else 0), hM, half_sum N e hN he]

theorem tile_sum (f : ℕ → EReal) (n : ℕ) (hn : n < 32) :
    ∑ j ∈ Finset.Ico (128 * (n + 1)) 4096, f j + ∑ k ∈ Finset.range 128, f (128 * n + k) = ∑ j ∈ Finset.Ico (128 * n) 4096, f j := by
  have h : ∑ j ∈ Finset.Ico (128 * n) (128 * (n + 1)), f j = ∑ k ∈ Finset.range 128, f (128 * n + k) := by
    rw [Finset.sum_Ico_eq_sum_range, show 128 * (n + 1) - 128 * n = 128 by omega]
  rw [← Finset.sum_Ico_consecutive f (show 128 * n ≤ 128 * (n + 1) by omega) (show 128 * (n + 1) ≤ 4096 by omega), add_comm, h]

theorem sum_above (f : ℕ → EReal) (a b : ℕ) (h : a ≤ b) :
    ∑ j ∈ Finset.Ico a 4096, (if b < j then f j else 0) = ∑ j ∈ Finset.Ico (b + 1) 4096, f j := by
  rw [← Finset.sum_filter]
  congr 1
  ext j
  simp only [Finset.mem_filter, Finset.mem_Ico]
  omega

section
variable (zf : ℕ → ℕ → EReal) (t : ℕ)

/-- Softplus of the logit of key `s`, for keys before the query. -/
def ct (e s : ℕ) : EReal := if s < t then sp2 (zf e s) else 0
/-- The softplus of the keys from `s` on. -/
def later (e s : ℕ) : EReal := ∑ j ∈ Finset.Ico s 4096, ct zf t e j
/-- The weight of key `s`. -/
def wt (e s : ℕ) : EReal := if s < t then Ideal.exp2 (zf e s - sp2 (zf e s) - later zf t e (s + 1)) else 0

end

/-- The table that sums what is strictly later in a tile, and all of it, for each of two heads. -/
def IsTri (tri : Vec Ideal S256x512 .bf16) : Prop := ∀ (k : Fin 256) (c : Fin 512),
  tri (ix2 k c) = if k.val / 128 = c.val % 256 / 128 ∧ (256 ≤ c.val ∨ c.val % 128 < k.val % 128) then 1 else 0

section
variable {zf : ℕ → ℕ → EReal} {t n : ℕ} (hn : n < 32) {s : Vec Ideal S128x256 .f32} {tri : Vec Ideal S256x512 .bf16} (ht : IsTri tri) {r : Fin 128}
  (hs : ∀ k : Fin 256, s (ix2 r k) = ct zf t (k.val / 128) (128 * n + k.val % 128))
include hn ht hs

theorem sumT_later (c : Fin 256) :
    sumT s tri (ix2 r ⟨c.val, by omega⟩) + later zf t (c.val / 128) (128 * (n + 1)) = later zf t (c.val / 128) (128 * n + c.val % 128 + 1) := by
  have hc := c.isLt
  have h : sumT s tri (ix2 r ⟨c.val, by omega⟩) = ∑ k ∈ Finset.range 128, (if 128 * n + c.val % 128 < 128 * n + k then ct zf t (c.val / 128) (128 * n + k) else 0) := by
    show ∑ k : Fin 256, s (ix2 r k) * tri (ix2 k ⟨c.val, by omega⟩) = _
    have e1 : ∀ k : Fin 256, s (ix2 r k) * tri (ix2 k ⟨c.val, by omega⟩)
        = (fun k : ℕ => if k / 128 = c.val / 128 then (if c.val % 128 < k % 128 then ct zf t (c.val / 128) (128 * n + k % 128) else 0) else 0) k.val := by
      intro k
      dsimp only
      rw [hs, ht]
      dsimp only
      rw [Nat.mod_eq_of_lt hc]
      by_cases h1 : k.val / 128 = c.val / 128
      · rw [if_pos h1, h1]
        by_cases h2 : c.val % 128 < k.val % 128
        · rw [if_pos ⟨rfl, Or.inr h2⟩, if_pos h2, mul_one]
        · rw [if_neg (fun h => h.2.elim (fun h => by omega) h2), if_neg h2, mul_zero]
      · rw [if_neg h1, if_neg (fun h => h1 h.1), mul_zero]
    rw [half_fin 256 128 (c.val / 128) rfl (by norm_num) (by omega) (fun k => if c.val % 128 < k % 128 then ct zf t (c.val / 128) (128 * n + k % 128) else 0) _ e1]
    refine Finset.sum_congr rfl fun k hk => ?_
    have := Finset.mem_range.mp hk
    rw [show (128 * (c.val / 128) + k) % 128 = k by omega]
    by_cases h2 : c.val % 128 < k
    · rw [if_pos h2, if_pos (by omega)]
    · rw [if_neg h2, if_neg (by omega)]
  rw [h, add_comm]
  have e2 : later zf t (c.val / 128) (128 * (n + 1)) = ∑ j ∈ Finset.Ico (128 * (n + 1)) 4096, (if 128 * n + c.val % 128 < j then ct zf t (c.val / 128) j else 0) := by
    refine Finset.sum_congr rfl fun j hj => ?_
    have := Finset.mem_Ico.mp hj
    rw [if_pos (by omega)]
  rw [e2, tile_sum (fun j => if 128 * n + c.val % 128 < j then ct zf t (c.val / 128) j else 0) n hn]
  exact sum_above _ _ _ (by omega)

theorem sumT_all (c : Fin 256) :
    later zf t (c.val / 128) (128 * (n + 1)) + sumT s tri (ix2 r ⟨256 + c.val, by omega⟩) = later zf t (c.val / 128) (128 * n) := by
  have hc := c.isLt
  have h : sumT s tri (ix2 r ⟨256 + c.val, by omega⟩) = ∑ k ∈ Finset.range 128, ct zf t (c.val / 128) (128 * n + k) := by
    show ∑ k : Fin 256, s (ix2 r k) * tri (ix2 k ⟨256 + c.val, by omega⟩) = _
    have e1 : ∀ k : Fin 256, s (ix2 r k) * tri (ix2 k ⟨256 + c.val, by omega⟩)
        = (fun k : ℕ => if k / 128 = c.val / 128 then ct zf t (c.val / 128) (128 * n + k % 128) else 0) k.val := by
      intro k
      dsimp only
      rw [hs, ht]
      dsimp only
      rw [show (256 + c.val) % 256 = c.val by omega]
      by_cases h1 : k.val / 128 = c.val / 128
      · rw [if_pos h1, h1, if_pos ⟨rfl, Or.inl (by omega)⟩, mul_one]
      · rw [if_neg h1, if_neg (fun h => h1 h.1), mul_zero]
    rw [half_fin 256 128 (c.val / 128) rfl (by norm_num) (by omega) (fun k => ct zf t (c.val / 128) (128 * n + k % 128)) _ e1]
    refine Finset.sum_congr rfl fun k hk => ?_
    have := Finset.mem_range.mp hk
    rw [show (128 * (c.val / 128) + k) % 128 = k by omega]
  rw [h]
  exact tile_sum _ n hn

end

/-- What a visit adds to the outputs. -/
theorem acc_add {zf : ℕ → ℕ → EReal} {t n : ℕ} (hn : n < 32) (a : Vec Ideal S128x128 .f32) (w : Vec Ideal S128x256 .f32) (v : Vec Ideal S1x128x128 .bf16) (vf : ℕ → EReal) (r l : Fin 128)
    (hw : ∀ k : Fin 256, w (ix2 r k) = wt zf t (k.val / 128) (128 * n + k.val % 128))
    (hv : ∀ k : Fin 128, v (ix3 0 k l) = vf (128 * n + k.val))
    (ha : a (ix2 r l) = ∑ j ∈ Finset.Ico (128 * (n + 1)) 4096, wt zf t (l.val / 64) j * vf j) :
    accT headMask a w v (ix2 r l) = ∑ j ∈ Finset.Ico (128 * n) 4096, wt zf t (l.val / 64) j * vf j := by
  have hl := l.isLt
  rw [accT_apply, ha, ← tile_sum _ n hn]
  congr 1
  have e1 : ∀ c : Fin 256, w (ix2 r c) * splitRows headMask v (ix2 c l)
      = (fun c : ℕ => if c / 128 = l.val / 64 then wt zf t (l.val / 64) (128 * n + c % 128) * vf (128 * n + c % 128) else 0) c.val := by
    intro c
    dsimp only
    rw [splitRows_apply, hw, hv]
    by_cases h1 : c.val / 128 = l.val / 64
    · rw [if_pos h1, if_pos h1, h1]
    · rw [if_neg h1, if_neg h1, mul_zero]
  rw [half_fin 256 128 (l.val / 64) rfl (by norm_num) (by omega) (fun c => wt zf t (l.val / 64) (128 * n + c % 128) * vf (128 * n + c % 128)) _ e1]
  refine Finset.sum_congr rfl fun k hk => ?_
  have := Finset.mem_range.mp hk
  rw [show (128 * (l.val / 64) + k) % 128 = k by omega]

/-- An array of 512 lanes read at a row and a lane. -/
def rd {n : ℕ} [NeZero n] (x : Vec Ideal ⟨3, ![1, n, 512]⟩ .bf16) (i j : ℕ) : EReal :=
  x (ix3 0 ⟨i % n, Nat.mod_lt _ (Nat.pos_of_neZero n)⟩ ⟨j % 512, Nat.mod_lt _ (by norm_num)⟩)

theorem tile_rd {n : ℕ} [NeZero n] (x : Vec Ideal ⟨3, ![1, n, 512]⟩ .bf16) (r l : ℕ) (i j : Fin 128) : tile x r l (ix3 0 i j) = rd x (r + i.val) (l + j.val) := by
  refine congrArg x (funext fun a => Fin.ext ?_)
  match a with
  | 0 => exact Nat.mod_one _
  | 1 => rfl
  | 2 => rfl

/-- The logit of query row `i` and key row `s` for head `h`. -/
def zH (x2 : Vec Ideal S1x256x512 .bf16) (x3 : Vec Ideal S1x4096x512 .bf16) (i h s : ℕ) : EReal :=
  ∑ d ∈ Finset.range 64, rd (n := 256) x2 i (64 * h + d) * rd (n := 4096) x3 s (64 * h + d)

theorem zT_eq (x2 : Vec Ideal S1x256x512 .bf16) (x3 : Vec Ideal S1x4096x512 .bf16) (r0 n p : ℕ) (r : Fin 128) (c : Fin 256) :
    zT headMask (tile (n := 256) x2 r0 (128 * p)) (tile (n := 4096) x3 (128 * n) (128 * p)) (ix2 r c)
      = zH x2 x3 (r0 + r.val) (2 * p + c.val / 128) (128 * n + c.val % 128) := by
  have hc := c.isLt
  rw [zT_apply]
  have e1 : ∀ l : Fin 128, (tile (n := 256) x2 r0 (128 * p)) (ix3 0 r l) * splitRows headMask (tile (n := 4096) x3 (128 * n) (128 * p)) (ix2 c l)
      = (fun l : ℕ => if l / 64 = c.val / 128 then rd (n := 256) x2 (r0 + r.val) (128 * p + l) * rd (n := 4096) x3 (128 * n + c.val % 128) (128 * p + l) else 0) l.val := by
    intro l
    dsimp only
    rw [splitRows_apply, tile_rd, tile_rd]
    by_cases h1 : c.val / 128 = l.val / 64
    · rw [if_pos h1, if_pos h1.symm]
    · rw [if_neg h1, if_neg (fun h => h1 h.symm), mul_zero]
  rw [half_fin 128 64 (c.val / 128) rfl (by norm_num) (by omega) (fun l => rd (n := 256) x2 (r0 + r.val) (128 * p + l) * rd (n := 4096) x3 (128 * n + c.val % 128) (128 * p + l)) _ e1]
  refine Finset.sum_congr rfl fun d hd => ?_
  rw [show 128 * p + (64 * (c.val / 128) + d) = 64 * (2 * p + c.val / 128) + d by omega]

end Cert.Proof.Attn
end
-- ==== Proof.Inv.lean ====
module
public import proofs.«01_k».proof.Proof.Sums
public import proofs.«01_k».proof.Proof.Run
@[expose] public section
set_option maxRecDepth 16384
/-! The running sums of a query tile over the extended reals: their values after each visit, and at the end. -/
noncomputable section
namespace Cert.Proof.Attn
open Cert.KernelIdeal Cert.KernelIdeal.Gen
open Idealize.ShloMosaic

def Quad.get {α : Type} (x : Quad α) (p : Fin 4) : α := ![x.p0, x.p1, x.p2, x.p3] p

theorem quad_get {n : ℕ} [NeZero n] (x : Vec Ideal ⟨3, ![1, n, 512]⟩ .bf16) (r : ℕ) (p : Fin 4) : (quad x r).get p = tile x r (128 * p.val) := by
  fin_cases p <;> rfl

section
variable (x2 : Vec Ideal S1x256x512 .bf16) (x3 x4 : Vec Ideal S1x4096x512 .bf16) (x5 : Vec Ideal S256x512 .bf16) (r0 g : ℕ)

/-- The logits of a row of queries for the two heads of a tile of lanes. -/
def zf (p : Fin 4) (r : Fin 128) (e s : ℕ) : EReal := zH x2 x3 (r0 + r.val) (2 * p.val + e) s

/-- The running sums once the keys from tile `n` on are in. -/
structure Inv (n : ℕ) (acc : Quad (Vec Ideal S128x128 .f32)) (car : Quad (Vec Ideal S128x256 .f32)) : Prop where
  acc : ∀ (p : Fin 4) (r l : Fin 128), acc.get p (ix2 r l)
    = ∑ j ∈ Finset.Ico (128 * n) 4096, wt (zf x2 x3 r0 p r) (128 * g + r.val) (l.val / 64) j * rd (n := 4096) x4 j (128 * p.val + l.val)
  car : ∀ (p : Fin 4) (r : Fin 128) (c : Fin 256), car.get p (ix2 r c) = later (zf x2 x3 r0 p r) (128 * g + r.val) (c.val / 128) (128 * n)

/-- The logits and the softplus of a tile of keys. -/
def ZQ (n : ℕ) : Quad (Vec Ideal S128x256 .f32) := zQ headMask (quad (n := 256) x2 r0) (quad (n := 4096) x3 (128 * n))

theorem ZQ_get (n : ℕ) (p : Fin 4) (r : Fin 128) (c : Fin 256) :
    (ZQ x2 x3 r0 n).get p (ix2 r c) = zf x2 x3 r0 p r (c.val / 128) (128 * n + c.val % 128) := by
  have h : (ZQ x2 x3 r0 n).get p = zT headMask (tile (n := 256) x2 r0 (128 * p.val)) (tile (n := 4096) x3 (128 * n) (128 * p.val)) := by
    fin_cases p <;> rfl
  rw [h]
  exact zT_eq x2 x3 r0 n p.val r c

variable {x2 x3 x4 x5 r0 g}

theorem plain_inv {n : ℕ} (hg : g < 32) (hn : n < g) (ht : IsTri x5) {acc : Quad (Vec Ideal S128x128 .f32)} {car : Quad (Vec Ideal S128x256 .f32)}
    (h : Inv x2 x3 x4 r0 g (n + 1) acc car) (su : Quad (Vec Ideal S128x512 .f32)) (hsu : su = ((ZQ x2 x3 r0 n).map spT).map fun x => sumT x x5) :
    Inv x2 x3 x4 r0 g n (plain headMask (ZQ x2 x3 r0 n) su (quad (n := 4096) x4 (128 * n)) acc car) (carQ car su) := by
  subst hsu
  have hs : ∀ (p : Fin 4) (r : Fin 128) (k : Fin 256), spT ((ZQ x2 x3 r0 n).get p) (ix2 r k)
      = ct (zf x2 x3 r0 p r) (128 * g + r.val) (k.val / 128) (128 * n + k.val % 128) := by
    intro p r k
    have := k.isLt
    rw [spT_apply, ZQ_get]
    unfold ct
    rw [if_pos (by omega)]
  constructor
  · intro p r l
    have e : (plain headMask (ZQ x2 x3 r0 n) (((ZQ x2 x3 r0 n).map spT).map fun x => sumT x x5) (quad (n := 4096) x4 (128 * n)) acc car).get p
        = accT headMask (acc.get p) (wT ((ZQ x2 x3 r0 n).get p) (spT ((ZQ x2 x3 r0 n).get p)) (sumT (spT ((ZQ x2 x3 r0 n).get p)) x5) (car.get p))
            (tile (n := 4096) x4 (128 * n) (128 * p.val)) := by fin_cases p <;> rfl
    rw [e]
    refine acc_add (by omega) _ _ _ (fun j => rd (n := 4096) x4 j (128 * p.val + l.val)) r l (fun k => ?_) (fun k => tile_rd _ _ _ _ _) (h.acc p r l)
    have := k.isLt
    rw [wT_apply, h.car, sumT_later (by omega) ht (hs p r), spT_apply, ZQ_get]
    unfold wt
    rw [if_pos (by omega)]
  · intro p r c
    have e : (carQ car (((ZQ x2 x3 r0 n).map spT).map fun x => sumT x x5)).get p = carT (car.get p) (sumT (spT ((ZQ x2 x3 r0 n).get p)) x5) := by
      fin_cases p <;> rfl
    rw [e, carT_apply, h.car, sumT_all (by omega) ht (hs p r)]

theorem msk_apply (x : Vec Ideal S128x256 .f32) (r : Fin 128) (c : Fin 256) : msk x (ix2 r c) = if c.val % 128 < r.val then x (ix2 r c) else 0 := by
  pointwise [msk]
  rw [mask_apply]
  by_cases h : c.val % 128 < r.val
  · rw [if_pos h, if_pos h]; rfl
  · rw [if_neg h, if_neg h]; rfl

theorem diag_inv (hg : g < 32) (ht : IsTri x5) {acc : Quad (Vec Ideal S128x128 .f32)} {car : Quad (Vec Ideal S128x256 .f32)}
    (h : Inv x2 x3 x4 r0 g (g + 1) acc car) (su : Quad (Vec Ideal S128x512 .f32)) (hsu : su = ((ZQ x2 x3 r0 g).map fun z => msk (spT z)).map fun x => sumT x x5) :
    Inv x2 x3 x4 r0 g g (diag headMask (ZQ x2 x3 r0 g) su (quad (n := 4096) x4 (128 * g)) acc car) (carQ car su) := by
  subst hsu
  have hs : ∀ (p : Fin 4) (r : Fin 128) (k : Fin 256), msk (spT ((ZQ x2 x3 r0 g).get p)) (ix2 r k)
      = ct (zf x2 x3 r0 p r) (128 * g + r.val) (k.val / 128) (128 * g + k.val % 128) := by
    intro p r k
    rw [msk_apply, spT_apply, ZQ_get]
    unfold ct
    by_cases hk : k.val % 128 < r.val
    · rw [if_pos hk, if_pos (by omega)]
    · rw [if_neg hk, if_neg (by omega)]
  constructor
  · intro p r l
    have e : (diag headMask (ZQ x2 x3 r0 g) (((ZQ x2 x3 r0 g).map fun z => msk (spT z)).map fun x => sumT x x5) (quad (n := 4096) x4 (128 * g)) acc car).get p
        = accT headMask (acc.get p) (msk (wT ((ZQ x2 x3 r0 g).get p) (msk (spT ((ZQ x2 x3 r0 g).get p))) (sumT (msk (spT ((ZQ x2 x3 r0 g).get p))) x5) (car.get p)))
            (tile (n := 4096) x4 (128 * g) (128 * p.val)) := by fin_cases p <;> rfl
    rw [e]
    refine acc_add (by omega) _ _ _ (fun j => rd (n := 4096) x4 j (128 * p.val + l.val)) r l (fun k => ?_) (fun k => tile_rd _ _ _ _ _) (h.acc p r l)
    rw [msk_apply, wT_apply, h.car, sumT_later (by omega) ht (hs p r), msk_apply, spT_apply, ZQ_get]
    unfold wt
    by_cases hk : k.val % 128 < r.val
    · rw [if_pos hk, if_pos hk, if_pos (by omega)]
    · rw [if_neg hk, if_neg (by omega)]
  · intro p r c
    have e : (carQ car (((ZQ x2 x3 r0 g).map fun z => msk (spT z)).map fun x => sumT x x5)).get p = carT (car.get p) (sumT (msk (spT ((ZQ x2 x3 r0 g).get p))) x5) := by
      fin_cases p <;> rfl
    rw [e, carT_apply, h.car, sumT_all (by omega) ht (hs p r)]

theorem accZ_get (p : Fin 4) (r l : Fin 128) : (accZ (F := Ideal)).get p (ix2 r l) = 0 := by
  have h : (accZ (F := Ideal)).get p = zero128 (F := Ideal) := by fin_cases p <;> rfl
  rw [h]
  pointwise [zero128]

theorem carZ_get (p : Fin 4) (r : Fin 128) (c : Fin 256) : (carZ (F := Ideal)).get p (ix2 r c) = 0 := by
  have h : (carZ (F := Ideal)).get p = zero256 (F := Ideal) := by fin_cases p <;> rfl
  rw [h]
  pointwise [zero256]

theorem init_inv : Inv x2 x3 x4 r0 g (g + 1) accZ carZ := by
  constructor
  · intro p r l
    rw [accZ_get]
    refine (Finset.sum_eq_zero fun j hj => ?_).symm
    have := Finset.mem_Ico.mp hj
    unfold wt
    rw [if_neg (by omega), zero_mul]
  · intro p r c
    rw [carZ_get]
    refine (Finset.sum_eq_zero fun j hj => ?_).symm
    have := Finset.mem_Ico.mp hj
    unfold ct
    rw [if_neg (by omega)]

/-- The running sums of a state. -/
def InvS (n : ℕ) (s : St Ideal) : Prop := Inv x2 x3 x4 r0 g n s.acc s.car ∧ s.mn = smallest s.car

theorem fin_inv {n : ℕ} {acc : Quad (Vec Ideal S128x128 .f32)} {car : Quad (Vec Ideal S128x256 .f32)} (h : Inv x2 x3 x4 r0 g n acc car) :
    InvS (x2 := x2) (x3 := x3) (x4 := x4) (r0 := r0) (g := g) n (fin acc car) := by
  have h1 : acc.map sc128 = acc := by
    unfold Quad.map sc128
    rw [shapeCast_id, shapeCast_id, shapeCast_id, shapeCast_id]
  have h2 : car.map sc256 = car := by
    unfold Quad.map sc256
    rw [shapeCast_id, shapeCast_id, shapeCast_id, shapeCast_id]
  have e : fin acc car = ⟨acc, car, smallest car⟩ := by unfold fin; rw [h1, h2]
  rw [e]
  refine ⟨h, ?_⟩
  dsimp only

theorem start_inv (hg : g < 32) (ht : IsTri x5) : InvS (x2 := x2) (x3 := x3) (x4 := x4) (r0 := r0) (g := g) (g - 2) (start x2 x3 x4 x5 r0 g) := by
  unfold start
  have hD := fun su hsu => diag_inv (x2 := x2) (x3 := x3) (x4 := x4) (r0 := r0) hg ht init_inv su hsu
  by_cases h0 : g = 0
  · rw [if_pos h0, Nat.sub_zero, show g - 2 = g by omega]
    unfold first1
    exact fin_inv (hD _ (cut1_eq _ _))
  · rw [if_neg h0]
    by_cases h1 : g = 1
    · rw [if_pos h1, Nat.sub_zero, show g - 2 = g - 1 by omega]
      unfold first2
      exact fin_inv (plain_inv (n := g - 1) hg (by omega) ht (by rw [show g - 1 + 1 = g by omega]; exact hD _ (cut2a_eq _ _ _)) _ (cut2b_eq _ _ _))
    · rw [if_neg h1, Nat.sub_zero]
      unfold first3
      exact fin_inv (plain_inv (n := g - 2) hg (by omega) ht (by
        rw [show g - 2 + 1 = g - 1 by omega]
        exact plain_inv (n := g - 1) hg (by omega) ht (by rw [show g - 1 + 1 = g by omega]; exact hD _ (cut3a_eq _ _ _ _)) _ (cut3b_eq _ _ _ _)) _ (cut3c_eq _ _ _ _))

theorem smallest_top (c : Quad (Vec Ideal S128x256 .f32)) (h : smallest c = (⊤ : EReal)) (p : Fin 4) (r : Fin 128) (k : Fin 256) : c.get p (ix2 r k) = (⊤ : EReal) := by
  revert h
  pointwise [smallest]
  intro h
  have h' := ((Finset.le_fold_min (c := (⊤ : EReal))).mp (le_of_eq h.symm)).2 (r, k) (Finset.mem_univ _)
  simp only [le_min_iff, top_le_iff] at h'
  obtain ⟨⟨⟨h0, h1⟩, h2⟩, h3⟩ := h'
  fin_cases p
  · exact h0
  · exact h1
  · exact h2
  · exact h3

theorem later_anti (zf : ℕ → ℕ → EReal) (t e a b : ℕ) (hz : ∀ e s, 0 ≤ sp2 (zf e s)) (hab : a ≤ b) (h : later zf t e b = ⊤) : later zf t e a = ⊤ := by
  refine top_le_iff.mp (h ▸ ?_)
  refine Finset.sum_le_sum_of_subset_of_nonneg (Finset.Ico_subset_Ico_left hab) fun j _ _ => ?_
  unfold ct
  split
  · exact hz _ _
  · exact le_rfl

/-- Once every carried sum is infinite, the earlier keys have no weight. -/
theorem rest_zero {n : ℕ} {acc : Quad (Vec Ideal S128x128 .f32)} {car : Quad (Vec Ideal S128x256 .f32)} (hn : n ≤ 32) (hz : ∀ p r e s, 0 ≤ sp2 (zf x2 x3 r0 p r e s))
    (h : Inv x2 x3 x4 r0 g n acc car) (ht : ∀ p r c, car.get p (ix2 r c) = (⊤ : EReal)) (p : Fin 4) (r l : Fin 128) :
    acc.get p (ix2 r l) = ∑ j ∈ Finset.Ico 0 4096, wt (zf x2 x3 r0 p r) (128 * g + r.val) (l.val / 64) j * rd (n := 4096) x4 j (128 * p.val + l.val) := by
  have hl := l.isLt
  rw [h.acc, ← Finset.sum_Ico_consecutive _ (Nat.zero_le (128 * n)) (show 128 * n ≤ 4096 by omega)]
  rw [Finset.sum_eq_zero (s := Finset.Ico 0 (128 * n)), zero_add]
  intro j hj
  have := Finset.mem_Ico.mp hj
  have h1 : later (zf x2 x3 r0 p r) (128 * g + r.val) (l.val / 64) (j + 1) = ⊤ := by
    refine later_anti _ _ _ _ (128 * n) (hz p r) (by omega) ?_
    have := (h.car p r ⟨128 * (l.val / 64), by omega⟩).symm.trans (ht p r _)
    rwa [show (128 * (l.val / 64)) / 128 = l.val / 64 by omega] at this
  unfold wt
  rw [h1, exp2_sub_top, ite_self, zero_mul]

theorem run_inv (hg : g < 32) (ht : IsTri x5) (hz : ∀ p r e s, 0 ≤ sp2 (zf x2 x3 r0 p r e s)) : ∀ (k : ℕ) (s : St Ideal), k ≤ g → InvS (x2 := x2) (x3 := x3) (x4 := x4) (r0 := r0) (g := g) k s →
    ∀ (p : Fin 4) (r l : Fin 128), (runDown (earlier headMask x2 x3 x4 x5 r0) k s).acc.get p (ix2 r l)
      = ∑ j ∈ Finset.Ico 0 4096, wt (zf x2 x3 r0 p r) (128 * g + r.val) (l.val / 64) j * rd (n := 4096) x4 j (128 * p.val + l.val)
  | 0, s, _, h, p, r, l => h.1.acc p r l
  | k + 1, s, hk, h, p, r, l => by
    unfold runDown
    split
    · exact run_inv hg ht hz k _ (by omega) (fin_inv (plain_inv hg (by omega) ht h.1 _ (cut1_eq _ _))) p r l
    · rename_i hc
      refine rest_zero (by omega) hz h.1 ?_ p r l
      refine smallest_top _ (h.2.symm.trans ?_)
      by_contra hne
      apply hc
      rw [IdealRules.named_const.ideal_named_scalar _ _ _ _ rfl]
      show BitVec.ofBool (decide (s.mn < (⊤ : EReal))) = 1#1
      rw [decide_eq_true (lt_top_iff_ne_top.mpr hne)]; rfl

end
end Cert.Proof.Attn
end
-- ==== Proof.Host.lean ====
module
public import proofs.«01_k».proof.Proof.Run
public import proofs.«01_k».proof.Proof.Sums
public import Idealize.ShloMosaic.Lib.Pointwise
public import Idealize.ShloMosaic.Lib.IdealHost
@[expose] public section
set_option maxRecDepth 16384
/-! What the arrays hold when the attention is called: scaled queries, keys, values and the table of the running sums. -/
noncomputable section
namespace Cert.Proof.Attn
open Cert.KernelIdeal Cert.KernelIdeal.Gen
open Idealize.ShloMosaic
open Idealize.ShloMosaic.TcCoe Idealize.ShloMosaic.StableHlo

variable (m : (ℓ : Loc nD τ sig) → Buf (Elt Ideal) ℓ) (c : Dev nD)

def laterT : FVec Ideal S128x128 .bf16 :=
  uitofp .bf16 (cmpi .sgt (broadcastInDim S128x128 ![0, 1] bcast_S128x1_S128x128_0_1 (broadcastInDim S128x1 ![0] bcast_S128_S128x1_0 (iotaInDim S128 32 0)))
    (broadcastInDim S128x128 ![0, 1] bcast_S1x128_S128x128_0_1 (broadcastInDim S1x128 ![1] bcast_S128_S1x128_1 (iotaInDim S128 32 0))))

def zeroT : FVec Ideal S128x128 .bf16 := broadcastInDim S128x128 ![] bcast_S_S128x128 (constant (F := Ideal) S_ .bf16 0x0000#16)
def oneT : FVec Ideal S128x128 .bf16 := broadcastInDim S128x128 ![] bcast_S_S128x128 (constant (F := Ideal) S_ .bf16 0x3F80#16)

theorem V_k : V m c main_v18 = shapeCast S8x4096x512 (truncf (F := Ideal) .bf16 (m ((c : Thread nD τ).loc main_arg1)) bitsLt_bf16_f32) shapeCasts_S8x4096x8x64_S8x4096x512 := by
  unfold V
  simp only [hostOps0, hostOps0_1, hostOps0_2, List.flatten_cons, List.flatten_nil, List.append_nil, List.cons_append, List.nil_append, TRef.binary, TRef.nary, TRef.nullary, TRef.ternary, TRef.unary, TRef.toBuf, TRef.ofBuf, cast_eq]
  after_results_simp <;> rfl

theorem V_v : V m c main_v20 = shapeCast S8x4096x512 (truncf (F := Ideal) .bf16 (m ((c : Thread nD τ).loc main_arg2)) bitsLt_bf16_f32) shapeCasts_S8x4096x8x64_S8x4096x512 := by
  unfold V
  simp only [hostOps0, hostOps0_1, hostOps0_2, List.flatten_cons, List.flatten_nil, List.append_nil, List.cons_append, List.nil_append, TRef.binary, TRef.nary, TRef.nullary, TRef.ternary, TRef.unary, TRef.toBuf, TRef.ofBuf, cast_eq]
  after_results_simp <;> rfl

theorem V_q : V m c main_v16 = shapeCast S8x4096x512 (truncf (F := Ideal) .bf16 (Host.divf (m ((c : Thread nD τ).loc main_arg0))
    (broadcastInDim S8x4096x8x64 ![] bcast_S_S8x4096x8x64 (id (mulf (Host.log (constant (F := Ideal) S_ .f32 0x40000000#32)) (constant (F := Ideal) S_ .f32 0x41000000#32))))) bitsLt_bf16_f32) shapeCasts_S8x4096x8x64_S8x4096x512 := by
  unfold V
  simp only [hostOps0, hostOps0_1, hostOps0_2, List.flatten_cons, List.flatten_nil, List.append_nil, List.cons_append, List.nil_append, TRef.binary, TRef.nary, TRef.nullary, TRef.ternary, TRef.unary, TRef.toBuf, TRef.ofBuf, cast_eq]
  after_results_simp <;> rfl

theorem V_tri : V m c main_v9 = concatenate S256x512 0
    [⟨S128x512, concatenate S128x512 1 [⟨S128x128, laterT⟩, ⟨S128x128, zeroT⟩, ⟨S128x128, oneT⟩, ⟨S128x128, zeroT⟩] concatenates_S128x128_S128x128_S128x128_S128x128_S128x512_d1⟩,
     ⟨S128x512, concatenate S128x512 1 [⟨S128x128, zeroT⟩, ⟨S128x128, laterT⟩, ⟨S128x128, zeroT⟩, ⟨S128x128, oneT⟩] concatenates_S128x128_S128x128_S128x128_S128x128_S128x512_d1⟩]
    concatenates_S128x512_S128x512_S256x512_d0 := by
  unfold V
  simp only [hostOps0, hostOps0_1, hostOps0_2, List.flatten_cons, List.flatten_nil, List.append_nil, List.cons_append, List.nil_append, TRef.binary, TRef.nary, TRef.nullary, TRef.ternary, TRef.unary, TRef.toBuf, TRef.ofBuf, cast_eq]
  after_results_simp <;> rfl

theorem sgt_small : ∀ a b : Fin 128, IntOp.cmpi .sgt (BitVec.ofNat 32 a.val) (BitVec.ofNat 32 b.val) = if b.val < a.val then 1#1 else 0#1 := by decide +kernel

theorem laterT_apply (a b : Fin 128) : laterT (ix2 a b) = if b.val < a.val then (1 : EReal) else 0 := by
  pointwise [laterT]
  rw [sgt_small]
  by_cases h : b.val < a.val
  · rw [if_pos h, if_pos h]
    show ((BitVec.toNat 1#1 : ℝ) : EReal) = 1
    norm_num
  · rw [if_neg h, if_neg h]
    show ((BitVec.toNat 0#1 : ℝ) : EReal) = 0
    norm_num

theorem V_isTri : IsTri (V m c main_v9) := by
  rw [V_tri]
  intro k l
  pointwise [zeroT, oneT, laterT_apply]
  have hk := k.isLt
  have hl := l.isLt
  by_cases h : k.val / 128 = l.val % 256 / 128 ∧ (256 ≤ l.val ∨ l.val % 128 < k.val % 128)
  · rw [if_pos h]
    split_ifs <;> first | rfl | (exfalso; omega)
  · rw [if_neg h]
    split_ifs <;> first | rfl | (exfalso; omega)

theorem two : Ideal.ofBits .f32 0x40000000#32 = ((2 : ℝ) : EReal) := by
  simp [Ideal.ofBits, Ideal.ieee, -EReal.coe_mul]; norm_num

theorem eight : Ideal.ofBits .f32 0x41000000#32 = ((8 : ℝ) : EReal) := by
  simp [Ideal.ofBits, Ideal.ieee, -EReal.coe_mul]; norm_num

theorem by_scale (x : EReal) : Ideal.div x (id (mulf (Host.log (constant (F := Ideal) S_ .f32 0x40000000#32)) (constant (F := Ideal) S_ .f32 0x41000000#32)) ix0) = x * ((1 / 8 * il : ℝ) : EReal) := by
  show Ideal.div x (Ideal.log (Ideal.ofBits .f32 0x40000000#32) * Ideal.ofBits .f32 0x41000000#32) = _
  rw [two, eight]
  have hl : Ideal.log ((2 : ℝ) : EReal) = ((Real.log 2 : ℝ) : EReal) := by
    show (if (2 : ℝ) ≤ 0 then (⊥ : EReal) else ((Real.log 2 : ℝ) : EReal)) = _
    rw [if_neg (by norm_num)]
  have hp : 0 < Real.log 2 := Real.log_pos (by norm_num)
  rw [hl, ← EReal.coe_mul]
  unfold Ideal.div
  rw [if_neg (by
    have : Real.log 2 * 8 ≠ 0 := by positivity
    exact_mod_cast this), ← EReal.coe_inv]
  congr 2
  unfold il
  rw [mul_inv]; ring

/-- The queries, keys and values, as they are given. -/
def argQ : FVec Ideal S8x4096x8x64 .f32 := m ((c : Thread nD τ).loc main_arg0)
def argK : FVec Ideal S8x4096x8x64 .f32 := m ((c : Thread nD τ).loc main_arg1)
def argV : FVec Ideal S8x4096x8x64 .f32 := m ((c : Thread nD τ).loc main_arg2)
/-- The operands of the attention. -/
def opQ : FVec Ideal S8x4096x512 .bf16 := V m c main_v16
def opK : FVec Ideal S8x4096x512 .bf16 := V m c main_v18
def opV : FVec Ideal S8x4096x512 .bf16 := V m c main_v20

theorem opK_apply (b : Fin 8) (t : Fin 4096) (l : Fin 512) : opK m c (ix3 b t l) = argK m c (ix4 b t ⟨l.val / 64, by omega⟩ ⟨l.val % 64, by omega⟩) := by
  unfold opK
  rw [V_k]
  pointwise
  rfl

theorem opV_apply (b : Fin 8) (t : Fin 4096) (l : Fin 512) : opV m c (ix3 b t l) = argV m c (ix4 b t ⟨l.val / 64, by omega⟩ ⟨l.val % 64, by omega⟩) := by
  unfold opV
  rw [V_v]
  pointwise
  rfl

theorem opQ_apply (b : Fin 8) (t : Fin 4096) (l : Fin 512) : opQ m c (ix3 b t l) = argQ m c (ix4 b t ⟨l.val / 64, by omega⟩ ⟨l.val % 64, by omega⟩) * ((1 / 8 * il : ℝ) : EReal) := by
  unfold opQ
  rw [V_q]
  pointwise
  exact by_scale _

end Cert.Proof.Attn
end
-- ==== Proof.Ref.lean ====
module
public import proofs.«01_k».proof.Proof.Gen.ReferenceIdeal.Run
public import proofs.«01_k».proof.Proof.Sums
public import Idealize.ShloMosaic.Lib.Pointwise
public import Idealize.ShloMosaic.Lib.IdealHost
@[expose] public section
set_option maxRecDepth 16384
/-! What the reference returns, entry by entry. -/
noncomputable section
namespace Cert.Proof.Ref
open Cert.ReferenceIdeal Cert.ReferenceIdeal.Value Cert.ReferenceIdeal.Gen
open Idealize.ShloMosaic
open Cert.Proof.Attn

abbrev A4 := FVec Ideal S8x4096x8x64 .f32
abbrev L4 := FVec Ideal S8x8x4096x4096 .f32

/-- The logits. -/
def zR (q k : A4) : L4 :=
  mulf (Host.dotGeneral dot_S8x8x4096x64_S8x8x4096x64_S8x8x4096x4096_3_3_2_2_01_01 none (transpose S8x8x4096x64 [0, 2, 1, 3] q transposes_S8x4096x8x64_S8x8x4096x64_0_2_1_3) (transpose S8x8x4096x64 [0, 2, 1, 3] k transposes_S8x4096x8x64_S8x8x4096x64_0_2_1_3)) (broadcastInDim S8x8x4096x4096 ![] bcast_S_S8x8x4096x4096 (constant (F := Ideal) S_ .f32 0x3E000000#32))

/-- The reference's softplus. -/
def spR (z : L4) : L4 :=
  select (cmpf .une (subf z (broadcastInDim S8x8x4096x4096 ![] bcast_S_S8x8x4096x4096 (constant (F := Ideal) S_ .f32 0x00000000#32))) (subf z (broadcastInDim S8x8x4096x4096 ![] bcast_S_S8x8x4096x4096 (constant (F := Ideal) S_ .f32 0x00000000#32))))
    (addf z (broadcastInDim S8x8x4096x4096 ![] bcast_S_S8x8x4096x4096 (constant (F := Ideal) S_ .f32 0x00000000#32)))
    (addf (maximumf z (broadcastInDim S8x8x4096x4096 ![] bcast_S_S8x8x4096x4096 (constant (F := Ideal) S_ .f32 0x00000000#32)))
      (Host.log1p (Host.exp (Host.negf (Host.absf (subf z (broadcastInDim S8x8x4096x4096 ![] bcast_S_S8x8x4096x4096 (constant (F := Ideal) S_ .f32 0x00000000#32))))))))

/-- A value where the key is strictly before the query, zero elsewhere. -/
def mR (x : L4) : L4 :=
  select (broadcastInDim S8x8x4096x4096 ![2, 3] bcast_S4096x4096_S8x8x4096x4096_2_3 (cmpi .slt (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0)))))
    x (broadcastInDim S8x8x4096x4096 ![] bcast_S_S8x8x4096x4096 (id (constant (F := Ideal) S_ .f32 0x00000000#32)))

/-- Running sums from the last key down. -/
def cR (x : L4) : L4 :=
  Host.reduceWindowAdd ![1, 1, 1, 4096] ![1, 1, 1, 1] ![0, 0, 0, 0] ![0, 0, 0, 4095] x (broadcastInDim S_ ![] bcast_S_S_ (constant (F := Ideal) S_ .f32 0x00000000#32)) reduceWindows_S8x8x4096x4096_S8x8x4096x4096_w1s1p0_0_w1s1p0_0_w1s1p0_0_w4096s1p0_4095 h_S_

/-- The weights. -/
def wR (z : L4) : L4 :=
  mR (Host.exp (addf (Host.negf (spR (Host.negf z))) (subf (cR (mR (Host.negf (spR (Host.negf (Host.negf z)))))) (mR (Host.negf (spR (Host.negf (Host.negf z))))))))

def oR (w : L4) (v : A4) : FVec Ideal S8x4096x512 .bf16 :=
  truncf .bf16 (shapeCast S8x4096x512 (transpose S8x4096x8x64 [0, 2, 1, 3] (Host.dotGeneral dot_S8x8x4096x4096_S8x8x4096x64_S8x8x4096x64_3_2_2_3_01_01 none w (transpose S8x8x4096x64 [0, 2, 1, 3] v transposes_S8x4096x8x64_S8x8x4096x64_0_2_1_3)) transposes_S8x8x4096x64_S8x4096x8x64_0_2_1_3) shapeCasts_S8x4096x8x64_S8x4096x512) bitsLt_bf16_f32

theorem res_eq (m : (ℓ : Loc nD τ sig) → Buf (Elt Ideal) ℓ) (c : Dev nD) :
    res_main_v24 m c = oR (wR (zR (m ((c.tc : Thread nD τ).loc main_arg0)) (m ((c.tc : Thread nD τ).loc main_arg1)))) (m ((c.tc : Thread nD τ).loc main_arg2)) := by
  unfold res_main_v24 oR wR cR mR spR zR
  rfl

theorem eighth : Ideal.ofBits .f32 0x3E000000#32 = ((1 / 8 : ℝ) : EReal) := by
  simp [Ideal.ofBits, Ideal.ieee, -EReal.coe_mul]; norm_num

theorem zR_apply (q k : A4) (b h : Fin 8) (t s : Fin 4096) :
    zR q k (ix4 b h t s) = (∑ d : Fin 64, q (ix4 b t h d) * k (ix4 b s h d)) * ((1 / 8 : ℝ) : EReal) := by
  pointwise [zR, eighth]

theorem spR_apply (z : L4) (b h : Fin 8) (t s : Fin 4096) : spR z (ix4 b h t s) = sp (z (ix4 b h t s)) := by
  pointwise [spR]
  rw [if_neg (fun h => h rfl)]
  rfl

theorem slt_small (a b : ℕ) (ha : a < 4096) (hb : b < 4096) : IntOp.cmpi .slt (BitVec.ofNat 32 a) (BitVec.ofNat 32 b) = if a < b then 1#1 else 0#1 := by
  have e1 : (BitVec.ofNat 32 a).toInt = (a : ℤ) := by
    rw [BitVec.toInt_eq_toNat_of_lt (by rw [BitVec.toNat_ofNat]; omega), BitVec.toNat_ofNat]; omega
  have e2 : (BitVec.ofNat 32 b).toInt = (b : ℤ) := by
    rw [BitVec.toInt_eq_toNat_of_lt (by rw [BitVec.toNat_ofNat]; omega), BitVec.toNat_ofNat]; omega
  by_cases h : a < b
  · rw [if_pos h]
    have : BitVec.slt (BitVec.ofNat 32 a) (BitVec.ofNat 32 b) = true := by
      rw [BitVec.slt, e1, e2]; simpa using h
    simp [IntOp.cmpi, this]
  · rw [if_neg h]
    have : BitVec.slt (BitVec.ofNat 32 a) (BitVec.ofNat 32 b) = false := by
      rw [BitVec.slt, e1, e2]; simpa using h
    simp [IntOp.cmpi, this]

theorem mR_apply (x : L4) (b h : Fin 8) (t s : Fin 4096) : mR x (ix4 b h t s) = if s.val < t.val then x (ix4 b h t s) else 0 := by
  pointwise [mR]
  rw [slt_small _ _ s.isLt t.isLt]
  have hz : (id (constant (F := Ideal) S_ .f32 0x00000000#32) ix0 : EReal) = 0 := Ideal.ofBits_zero_f32
  by_cases hst : s.val < t.val
  · rw [if_pos hst, if_pos hst]; rfl
  · rw [if_neg hst, if_neg hst]; exact hz

theorem foldl_add {ι : Type} (l : List ι) (f : ι → EReal) (v : EReal) : l.foldl (fun r n => r + f n) v = v + (l.map f).sum := by
  induction l generalizing v with
  | nil => simp
  | cons a l ih => rw [List.foldl_cons, ih, List.map_cons, List.sum_cons, add_assoc]

theorem window {A B C M N : ℕ} (hM : N = M + 1) (x : (⟨4, ![A, B, C, N]⟩ : Shape).Idx → EReal) (init : (⟨0, ![]⟩ : Shape).Idx → EReal)
    (h : (⟨4, ![A, B, C, N]⟩ : Shape).ReduceWindows ![1, 1, 1, N] ![1, 1, 1, 1] ![0, 0, 0, 0] ![0, 0, 0, M] ⟨4, ![A, B, C, N]⟩)
    (hu : 0 < (⟨0, ![]⟩ : Shape).numel) (hi : init (Shape.Idx.first hu) = 0)
    (a : Fin A) (b : Fin B) (c : Fin C) (s : Fin N) (f : ℕ → EReal) (hf : ∀ j : Fin N, x (ix4 a b c j) = f j.val) :
    Host.reduceWindow (· + ·) ![1, 1, 1, N] ![1, 1, 1, 1] ![0, 0, 0, 0] ![0, 0, 0, M] x init h hu (ix4 a b c s) = ∑ j ∈ Finset.Ico s.val N, f j := by
  have hs := s.isLt
  unfold Host.reduceWindow
  dsimp only
  rw [hi]
  refine (foldl_add _ _ _).trans ?_
  rw [← Fin.sum_univ_def, zero_add]
  have key : ∀ u : Fin (⟨4, ![1, 1, 1, N]⟩ : Shape).numel → EReal, (∀ n, u n = if s.val + ((Shape.rowMajor ⟨4, ![1, 1, 1, N]⟩).symm n 3).val < N then f (s.val + ((Shape.rowMajor ⟨4, ![1, 1, 1, N]⟩).symm n 3).val) else 0) →
      ∑ n, u n = ∑ j ∈ Finset.Ico s.val N, f j := by
    intro u hu
    refine (Finset.sum_congr rfl fun n _ => hu n).trans ((Equiv.sum_comp (Shape.rowMajor ⟨4, ![1, 1, 1, N]⟩).symm
      (fun i => if s.val + (i 3).val < N then f (s.val + (i 3).val) else 0)).trans ?_)
    rw [sum_idx4]
    simp only [Fin.sum_univ_one, ix4_3]
    show (∑ e : Fin N, if s.val + e.val < N then f (s.val + e.val) else 0) = _
    rw [← Finset.sum_range (n := N) (fun e : ℕ => if s.val + e < N then f (s.val + e) else 0), ← Finset.sum_filter, Finset.sum_Ico_eq_sum_range]
    refine Finset.sum_congr (Finset.ext fun e => ?_) fun _ _ => rfl
    simp only [Finset.mem_filter, Finset.mem_range]
    omega
  refine key _ fun n => ?_
  have i0 : ((Shape.rowMajor ⟨4, ![1, 1, 1, N]⟩).symm n 0).val = 0 := by have : ((Shape.rowMajor ⟨4, ![1, 1, 1, N]⟩).symm n 0).val < 1 := ((Shape.rowMajor ⟨4, ![1, 1, 1, N]⟩).symm n 0).isLt; omega
  have i1 : ((Shape.rowMajor ⟨4, ![1, 1, 1, N]⟩).symm n 1).val = 0 := by have : ((Shape.rowMajor ⟨4, ![1, 1, 1, N]⟩).symm n 1).val < 1 := ((Shape.rowMajor ⟨4, ![1, 1, 1, N]⟩).symm n 1).isLt; omega
  have i2 : ((Shape.rowMajor ⟨4, ![1, 1, 1, N]⟩).symm n 2).val = 0 := by have : ((Shape.rowMajor ⟨4, ![1, 1, 1, N]⟩).symm n 2).val < 1 := ((Shape.rowMajor ⟨4, ![1, 1, 1, N]⟩).symm n 2).isLt; omega
  split
  · next hin =>
    have h3 : s.val * 1 + ((Shape.rowMajor ⟨4, ![1, 1, 1, N]⟩).symm n 3).val - 0 < N := (hin 3).2
    rw [if_pos (by omega), ← hf ⟨s.val + ((Shape.rowMajor ⟨4, ![1, 1, 1, N]⟩).symm n 3).val, by omega⟩]
    refine congrArg x (funext fun k => Fin.ext ?_)
    match k with
    | 0 => show a.val * 1 + ((Shape.rowMajor ⟨4, ![1, 1, 1, N]⟩).symm n 0).val - 0 = a.val; omega
    | 1 => show b.val * 1 + ((Shape.rowMajor ⟨4, ![1, 1, 1, N]⟩).symm n 1).val - 0 = b.val; omega
    | 2 => show c.val * 1 + ((Shape.rowMajor ⟨4, ![1, 1, 1, N]⟩).symm n 2).val - 0 = c.val; omega
    | 3 => show s.val * 1 + ((Shape.rowMajor ⟨4, ![1, 1, 1, N]⟩).symm n 3).val - 0 = s.val + ((Shape.rowMajor ⟨4, ![1, 1, 1, N]⟩).symm n 3).val; omega
  · next hin =>
    rw [if_neg fun hlt => hin fun k => ?_]
    match k with
    | 0 => show 0 ≤ a.val * 1 + ((Shape.rowMajor ⟨4, ![1, 1, 1, N]⟩).symm n 0).val ∧ a.val * 1 + ((Shape.rowMajor ⟨4, ![1, 1, 1, N]⟩).symm n 0).val - 0 < A; have := a.isLt; omega
    | 1 => show 0 ≤ b.val * 1 + ((Shape.rowMajor ⟨4, ![1, 1, 1, N]⟩).symm n 1).val ∧ b.val * 1 + ((Shape.rowMajor ⟨4, ![1, 1, 1, N]⟩).symm n 1).val - 0 < B; have := b.isLt; omega
    | 2 => show 0 ≤ c.val * 1 + ((Shape.rowMajor ⟨4, ![1, 1, 1, N]⟩).symm n 2).val ∧ c.val * 1 + ((Shape.rowMajor ⟨4, ![1, 1, 1, N]⟩).symm n 2).val - 0 < C; have := c.isLt; omega
    | 3 => show 0 ≤ s.val * 1 + ((Shape.rowMajor ⟨4, ![1, 1, 1, N]⟩).symm n 3).val ∧ s.val * 1 + ((Shape.rowMajor ⟨4, ![1, 1, 1, N]⟩).symm n 3).val - 0 < N; omega

theorem window_sum {s t u : Shape} (window strides lo hi : Fin s.rank → ℕ) (x : FVec Ideal s .f32) (init : FVec Ideal u .f32) (h : s.ReduceWindows window strides lo hi t)
    (hu : 0 < u.numel) : Host.reduceWindowAdd window strides lo hi x init h hu
      = Host.reduceWindow (fun a b : EReal => a + b) window strides lo hi x (fun _ : (⟨0, ![]⟩ : Shape).Idx => init (Shape.Idx.first hu)) h := rfl

theorem cR_apply (x : L4) (b h : Fin 8) (t s : Fin 4096) (f : ℕ → EReal) (hf : ∀ j : Fin 4096, x (ix4 b h t j) = f j.val) :
    cR x (ix4 b h t s) = ∑ j ∈ Finset.Ico s.val 4096, f j := by
  unfold cR
  rw [window_sum]
  exact window (A := 8) (B := 8) (C := 4096) (by norm_num : 4096 = 4095 + 1) x _ _ _ Ideal.ofBits_zero_f32 b h t s f hf

theorem wR_apply (z : L4) (b h : Fin 8) (t s : Fin 4096) (e : ℕ) (X : ℕ → EReal) (hX : ∀ j : Fin 4096, z (ix4 b h t j) = X j.val) :
    wR z (ix4 b h t s) = wt (fun _ j => X j * (il : EReal)) t.val e s.val := by
  have hs := s.isLt
  pointwise [wR, mR_apply, spR_apply]
  unfold wt
  by_cases hst : s.val < t.val
  · rw [if_pos hst, if_pos hst, if_pos hst, cR_apply _ b h t s (fun j => -(if j < t.val then sp (X j) else 0)) ?_, hX, neg_neg, sp2_scale]
    · have hl : later (fun _ j => X j * (il : EReal)) t.val e (s.val + 1) = (∑ j ∈ Finset.Ico (s.val + 1) 4096, if j < t.val then sp (X j) else 0) * (il : EReal) := by
        unfold later
        rw [← sum_scale _ _ _ il_pos.le]
        refine Finset.sum_congr rfl fun j _ => ?_
        unfold ct
        split
        · exact sp2_scale _
        · exact (zero_mul _).symm
      have hn : ∀ j, 0 ≤ (if j < t.val then sp (X j) else 0) := fun j => by
        split
        · exact sp_nonneg _
        · exact le_rfl
      rw [sum_neg _ _ hn, hl, weight _ _ (Finset.sum_nonneg fun j _ => hn j), Finset.sum_eq_sum_Ico_succ_bot hs, if_pos hst]
    · intro j
      pointwise [mR_apply, spR_apply]
      rw [hX, neg_neg]
      split
      · rfl
      · exact neg_zero.symm
  · rw [if_neg hst, if_neg hst]

theorem oR_apply (w : L4) (v : A4) (b : Fin 8) (t : Fin 4096) (l : Fin 512) :
    oR w v (ix3 b t l) = ∑ s : Fin 4096, w (ix4 b ⟨l.val / 64, by omega⟩ t s) * v (ix4 b s ⟨l.val / 64, by omega⟩ ⟨l.val % 64, by omega⟩) := by
  pointwise [oR]

end Cert.Proof.Ref
end
-- ==== Proof.Out.lean ====
module
public import proofs.«01_k».proof.Proof.Inv
public import proofs.«01_k».proof.Proof.Host
public import proofs.«01_k».proof.Proof.Ref
@[expose] public section
set_option maxRecDepth 16384
/-! The block of the result a grid point writes, entry by entry, and that it is the reference's. -/
noncomputable section
namespace Cert.Proof.Attn
open Cert.KernelIdeal Cert.KernelIdeal.Gen
open Idealize.ShloMosaic

theorem sp2_nonneg (y : EReal) : 0 ≤ sp2 y := by
  have hp : 0 < Real.log 2 := Real.log_pos (by norm_num)
  have h : y = y * ((Real.log 2 : ℝ) : EReal) * (il : EReal) := by
    rw [mul_assoc, ← EReal.coe_mul]
    unfold il
    rw [mul_inv_cancel₀ hp.ne', EReal.coe_one, mul_one]
  rw [h, sp2_scale]
  exact mul_nonneg (sp_nonneg _) (by exact_mod_cast il_pos.le)

theorem outT_apply (a : Quad (Vec Ideal S128x128 .f32)) (r : Fin 128) (l : Fin 512) :
    outT a (ix3 0 r l) = a.get ⟨l.val / 128, by omega⟩ (ix2 r ⟨l.val % 128, by omega⟩) := by
  have hl := l.isLt
  pointwise [outT, k0_pay432]
  have hc : ∀ (i : Fin 4) (q : ℕ) (hq : q < 128), l.val = 128 * i.val + q → a.get i (ix2 r ⟨q, hq⟩) = a.get ⟨l.val / 128, by omega⟩ (ix2 r ⟨l.val % 128, by omega⟩) := by
    intro i q hq h
    rw [show i = ⟨l.val / 128, by omega⟩ from Fin.ext (by dsimp only; omega), show (⟨q, hq⟩ : Fin 128) = ⟨l.val % 128, by omega⟩ from Fin.ext (by dsimp only; omega)]
  by_cases h0 : l.val < 128
  · exact (dif_pos h0).trans (hc 0 l.val h0 (by show _ = 128 * 0 + _; omega))
  refine (dif_neg h0).trans ?_
  by_cases h1 : l.val - 128 < 128
  · exact (dif_pos h1).trans (hc 1 (l.val - 128) h1 (by show _ = 128 * 1 + _; omega))
  refine (dif_neg h1).trans ?_
  by_cases h2 : l.val - 128 - 128 < 128
  · exact (dif_pos h2).trans (hc 2 (l.val - 128 - 128) h2 (by show _ = 128 * 2 + _; omega))
  refine (dif_neg h2).trans ?_
  exact hc 3 (l.val - 128 - 128 - 128) (by omega) (by show _ = 128 * 3 + _; omega)

section
variable (x2 : Vec Ideal S1x256x512 .bf16) (x3 x4 : Vec Ideal S1x4096x512 .bf16) (x5 : Vec Ideal S256x512 .bf16)

theorem visited_apply (ht : IsTri x5) (r0 g : ℕ) (hg : g < 32) (r : Fin 128) (l : Fin 512) :
    outT (visited x2 x3 x4 x5 r0 g).acc (ix3 0 r l)
      = ∑ j ∈ Finset.Ico 0 4096, wt (fun _ s => zH x2 x3 (r0 + r.val) (l.val / 64) s) (128 * g + r.val) 0 j * rd (n := 4096) x4 j l.val := by
  have hl := l.isLt
  rw [outT_apply]
  refine (run_inv hg ht (fun _ _ _ _ => sp2_nonneg _) (g - 2) _ (Nat.sub_le _ _) (start_inv hg ht) _ r _).trans (Finset.sum_congr rfl fun j _ => ?_)
  have e1 : 128 * (l.val / 128) + l.val % 128 = l.val := Nat.div_add_mod _ _
  have e2 : 2 * (l.val / 128) + l.val % 128 / 64 = l.val / 64 := by omega
  dsimp only
  rw [e1, ← e2]
  rfl

theorem outAt_apply (ht : IsTri x5) (n : ℕ) (hn : n < 16) (r : Fin 256) (l : Fin 512) :
    outAt x2 x3 x4 x5 n (ix3 0 r l)
      = ∑ j ∈ Finset.Ico 0 4096, wt (fun _ s => zH x2 x3 r.val (l.val / 64) s) (256 * n + r.val) 0 j * rd (n := 4096) x4 j l.val := by
  have hr := r.isLt
  unfold outAt outBlk
  by_cases h : r.val < 128
  · refine (dif_pos h).trans ?_
    show outT (visited x2 x3 x4 x5 0 (2 * n)).acc (ValueIdx.ix3 (0 : Fin 1) (⟨r.val, h⟩ : Fin 128) l) = _
    rw [← ix3_eq_valueIdx]
    refine (visited_apply x2 x3 x4 x5 ht 0 (2 * n) (by omega) ⟨r.val, h⟩ l).trans ?_
    dsimp only
    rw [Nat.zero_add, show 128 * (2 * n) + r.val = 256 * n + r.val by omega]
  · refine (dif_neg h).trans ?_
    show outT (visited x2 x3 x4 x5 128 (2 * n + 1)).acc (ValueIdx.ix3 (0 : Fin 1) (⟨r.val - 128, by omega⟩ : Fin 128) l) = _
    rw [← ix3_eq_valueIdx]
    refine (visited_apply x2 x3 x4 x5 ht 128 (2 * n + 1) (by omega) ⟨r.val - 128, by omega⟩ l).trans ?_
    dsimp only
    rw [show 128 + (r.val - 128) = r.val by omega, show 128 * (2 * n + 1) + (r.val - 128) = 256 * n + r.val by omega]

end

variable (m : (ℓ : Loc nD τ sig) → Buf (Elt Ideal) ℓ) (c : Dev nD)

/-- What the reference returns of the same arguments. -/
def want : FVec Ideal S8x4096x512 .bf16 := Ref.oR (Ref.wR (Ref.zR (argQ m c) (argK m c))) (argV m c)

theorem point (x2 : Vec Ideal S1x256x512 .bf16) (x3 x4 : Vec Ideal S1x4096x512 .bf16) (b : Fin 8) (n : ℕ) (hn : n < 16)
    (h2 : ∀ (r : Fin 256) (l : Fin 512), x2 (ix3 0 r l) = opQ m c (ix3 b ⟨256 * n + r.val, by omega⟩ l))
    (h3 : ∀ (r : Fin 4096) (l : Fin 512), x3 (ix3 0 r l) = opK m c (ix3 b r l))
    (h4 : ∀ (r : Fin 4096) (l : Fin 512), x4 (ix3 0 r l) = opV m c (ix3 b r l)) (r : Fin 256) (l : Fin 512) :
    outAt x2 x3 x4 (V m c main_v9) n (ix3 0 r l) = want m c (ix3 b ⟨256 * n + r.val, by omega⟩ l) := by
  have hr := r.isLt
  have hl := l.isLt
  rw [outAt_apply x2 x3 x4 _ (V_isTri m c) n hn]
  unfold want
  rw [Ref.oR_apply]
  have hz : ∀ s, zH x2 x3 r.val (l.val / 64) s = (∑ d : Fin 64, argQ m c (ix4 b ⟨256 * n + r.val, by omega⟩ ⟨l.val / 64, by omega⟩ d)
      * argK m c (ix4 b ⟨s % 4096, Nat.mod_lt _ (by norm_num)⟩ ⟨l.val / 64, by omega⟩ d)) * ((1 / 8 : ℝ) : EReal) * (il : EReal) := by
    intro s
    unfold zH
    rw [Finset.sum_range, mul_assoc, ← EReal.coe_mul, ← sum_scale _ _ _ (mul_nonneg (by norm_num) il_pos.le)]
    refine Finset.sum_congr rfl fun d _ => ?_
    have hd := d.isLt
    unfold rd
    rw [h2, h3, opQ_apply, opK_apply]
    refine (congrArg₂ (fun u w : EReal => u * w) (congrArg (fun u : EReal => u * ((1 / 8 * il : ℝ) : EReal)) (congrArg (argQ m c) ((ix4_inj _ _ _ _ _ _ _ _).mpr ⟨rfl, Fin.ext ?_, Fin.ext ?_, Fin.ext ?_⟩)))
      (congrArg (argK m c) ((ix4_inj _ _ _ _ _ _ _ _).mpr ⟨rfl, rfl, Fin.ext ?_, Fin.ext ?_⟩))).trans (mul_right_comm _ _ _) <;> dsimp only <;> omega
  rw [← Finset.range_eq_Ico, Finset.sum_range]
  refine Finset.sum_congr rfl fun s _ => ?_
  rw [Ref.wR_apply _ b _ _ s 0 (fun s => (∑ d : Fin 64, argQ m c (ix4 b ⟨256 * n + r.val, by omega⟩ ⟨l.val / 64, by omega⟩ d)
      * argK m c (ix4 b ⟨s % 4096, Nat.mod_lt _ (by norm_num)⟩ ⟨l.val / 64, by omega⟩ d)) * ((1 / 8 : ℝ) : EReal)) ?_]
  · rw [funext hz]
    congr 1
    unfold rd
    rw [h4, opV_apply]
    refine congrArg (argV m c) ((ix4_inj _ _ _ _ _ _ _ _).mpr ⟨rfl, Fin.ext ?_, Fin.ext ?_, Fin.ext ?_⟩) <;> dsimp only <;> omega
  · intro j
    rw [Ref.zR_apply]
    simp only [Nat.mod_eq_of_lt j.isLt]

end Cert.Proof.Attn
end
-- ==== Proof.Value.lean ====
module
public import proofs.«01_k».proof.Proof.Out
public import Idealize.ShloMosaic.Lib.Pipeline.ValueKit.Geometry
@[expose] public section
set_option maxRecDepth 16384
/-! The whole result: the blocks cover it, and each block is the reference's. -/
noncomputable section
namespace Cert.Proof.Attn
open Cert.KernelIdeal Cert.KernelIdeal.Gen
open Idealize.ShloMosaic
open Idealize.ShloMosaic.TcCoe

variable (m : (ℓ : Loc nD τ sig) → Buf (Elt Ideal) ℓ) (c : Dev nD)

theorem idx0 : ∀ t : Fin (cfg0 (F := Ideal)).N, win0_0.index t = ![(grid0.coords t 0).val, (grid0.coords t 1).val, 0] :=
  (by decide +kernel : ∀ t : Fin grid0.N, _)
theorem idx1 : ∀ t : Fin (cfg0 (F := Ideal)).N, win0_1.index t = ![(grid0.coords t 0).val, 0, 0] :=
  (by decide +kernel : ∀ t : Fin grid0.N, _)
theorem idx2 : ∀ t : Fin (cfg0 (F := Ideal)).N, win0_2.index t = ![(grid0.coords t 0).val, 0, 0] :=
  (by decide +kernel : ∀ t : Fin grid0.N, _)
theorem idx3 : ∀ t : Fin (cfg0 (F := Ideal)).N, win0_3.index t = ![0, 0] :=
  (by decide +kernel : ∀ t : Fin grid0.N, _)
theorem idx4 : ∀ t : Fin (cfg0 (F := Ideal)).N, win0_4.index t = ![(grid0.coords t 0).val, (grid0.coords t 1).val, 0] :=
  (by decide +kernel : ∀ t : Fin grid0.N, _)

theorem blk0 (t : Fin (cfg0 (F := Ideal)).N) (r : Fin 256) (l : Fin 512) (h : 256 * (grid0.coords t 1).val + r.val < 4096) :
    iblk m c 0 t (ix3 0 r l) = opQ m c (ix3 (grid0.coords t 0) ⟨256 * (grid0.coords t 1).val + r.val, h⟩ l) := by
  blk_simp [iblk]
  exact congrArg (opQ m c) (by blk_ext [idx0])

theorem blk1 (t : Fin (cfg0 (F := Ideal)).N) (r : Fin 4096) (l : Fin 512) :
    iblk m c 1 t (ix3 0 r l) = opK m c (ix3 (grid0.coords t 0) r l) := by
  blk_simp [iblk]
  exact congrArg (opK m c) (by blk_ext [idx1])

theorem blk2 (t : Fin (cfg0 (F := Ideal)).N) (r : Fin 4096) (l : Fin 512) :
    iblk m c 2 t (ix3 0 r l) = opV m c (ix3 (grid0.coords t 0) r l) := by
  blk_simp [iblk]
  exact congrArg (opV m c) (by blk_ext [idx2])

theorem blk3 (t : Fin (cfg0 (F := Ideal)).N) : iblk m c 3 t = V m c main_v9 := by
  funext y
  blk_simp [iblk]
  exact congrArg (V m c main_v9) (by blk_ext [idx3])

theorem final : (dats (F := Ideal) m 0 c).arrAt 4 (cfg0 (F := Ideal)).N = want m c := by
  refine (dats (F := Ideal) m 0 c).arrAt_eq_of_covers 4 _ (by decide +kernel) fun t hf y => ?_
  blk_simp
  rw [after0_4, blk3]
  have hn : (grid0.coords t 1).val < 16 := (grid0.coords t 1).isLt
  have hr : (y 1).val < 256 := (y 1).isLt
  have hy : y = ix3 (0 : Fin 1) (y 1 : Fin 256) (y 2 : Fin 512) := by
    funext a
    match a with
    | 0 => exact Subsingleton.elim (α := Fin 1) _ _
    | 1 => rfl
    | 2 => rfl
  refine (congrArg _ hy).trans ((point m c (iblk m c 0 t) (iblk m c 1 t) (iblk m c 2 t) (grid0.coords t 0) (grid0.coords t 1).val hn
    (fun r l => blk0 m c t r l _) (blk1 m c t) (blk2 m c t) (y 1) (y 2)).trans (congrArg (want m c) ?_))
  have h0 : (y 0).val = 0 := by have : (y 0).val < 1 := (y 0).isLt; omega
  blk_ext [idx4]

end Cert.Proof.Attn
end
-- ==== Proof.Algebraic.lean ====
module
public import proofs.«01_k».proof.Proof.Frames
public import proofs.«01_k».proof.Proof.Value
@[expose] public section
set_option maxRecDepth 16384
/-! The two programs leave the same result. -/
noncomputable section
namespace Cert.Proof.Attn
open Cert.KernelIdeal Cert.KernelIdeal.Gen
open Idealize.ShloMosaic Idealize.ShloMosaic.TcCoe Idealize.SL.Sem

theorem value_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v21) = want m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
      ⟨(h.1.out_eq c 4).trans (final m c),
       ((h.1 c).2 main_arg0 (Pipeline.mem_restRefs_of main_arg0 (by decide) (by decide : ∀ w : Fin 5, (spec0 w).arr.view.ref ≠ main_arg0))).trans (V_arg m c).1,
       ((h.1 c).2 main_arg1 (Pipeline.mem_restRefs_of main_arg1 (by decide) (by decide : ∀ w : Fin 5, (spec0 w).arr.view.ref ≠ main_arg1))).trans (V_arg m c).2.1,
       ((h.1 c).2 main_arg2 (Pipeline.mem_restRefs_of main_arg2 (by decide) (by decide : ∀ w : Fin 5, (spec0 w).arr.view.ref ≠ main_arg2))).trans (V_arg m c).2.2⟩)
    (run_main m ρ)

theorem algebraic : Cert.algebraic_KernelIdeal_ReferenceIdeal := by
  intro m ρ m' ρ' _ hagree
  refine ⟨_, value_run m ρ, ?_⟩
  refine (θ_run Cert.ReferenceIdeal.defs _ _).mono (fun _ h c => ⟨(h c).1.trans ?_, (h c).2⟩)
    (Cert.ReferenceIdeal.Value.run (F := Ideal) m' ρ')
  rw [Ref.res_eq, (hagree c).1, (hagree c).2.1, (hagree c).2.2]
  rfl

end Cert.Proof.Attn
end
-- ==== Proof.Moe.Words.lean ====
module
public import proofs.«01_k».proof.Proof.Gen.ExpertsIdeal.Launch
public import Idealize.ShloMosaic.Lib.Pointwise
@[expose] public section
/-! The words of the two tables that the experts' call reads, and what its index maps are at them. -/
noncomputable section
namespace Cert.Proof.Moe
open Cert.ExpertsIdeal Cert.ExpertsIdeal.Gen
open Idealize.ShloMosaic Idealize.ShloMosaic.TcCoe

variable {F : FTy → Type} [FloatOps F]

/-- The expert of a tile of rows. -/
def te (pf : pre0.Contents (Elt F)) (i : Fin 448) : BitVec 32 := pf 0 (show S448.Idx from ix1 i)
/-- The number of tiles in use. -/
def nt (pf : pre0.Contents (Elt F)) : BitVec 32 := pf 1 (show S1.Idx from ix1 0)

/-- Every tile has one of the 64 experts, and at least one tile and at most all are in use. -/
structure Rng (pf : pre0.Contents (Elt F)) : Prop where
  te_lt : ∀ i, (te pf i).toNat < 64
  nt_pos : 1 ≤ (nt pf).toNat
  nt_le : (nt pf).toNat ≤ 448

theorem ext1 {x y : S1.Idx} : x = y := funext fun a => by
  obtain rfl : a = (0 : Fin 1) := Subsingleton.elim _ _
  exact Subsingleton.elim (α := Fin 1) _ _
theorem ext448 {x y : S448.Idx} (h : (x (0 : Fin 1)).val = (y (0 : Fin 1)).val) : x = y := funext fun a => by
  obtain rfl : a = (0 : Fin 1) := Subsingleton.elim _ _
  exact Fin.ext h

theorem at_nt (pf : pre0.Contents (Elt F)) (h : ∀ a, (![0] : Fin 1 → Nat) a + S1.size a ≤ S1.size a) (h1 : S1.numel = 1) :
    pf.at 1 (Rect.unit (s := S1) ![0] S1.size h) h1 = nt pf :=
  congrArg (pf 1) ext1

theorem atD_nt (pf : pre0.Contents (Elt F)) : pf.atD 1 ![0] = nt pf :=
  (dif_pos (by exact (by decide : ∀ a : Fin 1, (![0] : Fin 1 → Nat) a + 1 ≤ S1.size a))).trans (congrArg (pf 1) ext1)

theorem coord_toNat (i : grid0.Coords) : (BitVec.ofNat 32 (i 0).val).toNat = (i 0).val := by
  have h : (i 0).val < 448 := (i 0).isLt
  rw [BitVec.toNat_ofNat]; omega

theorem at_te (pf : pre0.Contents (Elt F)) (i : grid0.Coords)
    (h : ∀ a, (![(Scalar.indexCast (BitVec.ofNat 32 (i 0).val) : BitVec 32).toNat] : Fin 1 → Nat) a + S1.size a ≤ S448.size a) (h1 : S1.numel = 1) :
    pf.at 0 (Rect.unit (s := S448) ![(Scalar.indexCast (BitVec.ofNat 32 (i 0).val) : BitVec 32).toNat] S1.size h) h1 = te pf (i 0) :=
  congrArg (pf 0) (ext448 ((congrArg (fun n => n + 1 * 0) (coord_toNat i)).trans (by rfl)))

theorem slt_iff {x y : BitVec 32} (hx : x.toNat < 1024) (hy : y.toNat < 1024) : x.slt y = decide (x.toNat < y.toNat) := by
  rw [BitVec.slt_eq_decide, BitVec.toInt_eq_toNat_cond, BitVec.toInt_eq_toNat_cond, if_pos (by omega), if_pos (by omega)]
  exact decide_eq_decide.mpr (by omega)

/-- The tile that a grid point reads and writes: itself, while it is in use; the last one in use, later. -/
def tile (pf : pre0.Contents (Elt F)) (n : ℕ) : ℕ := min n ((nt pf).toNat - 1)

theorem min_word (pf : pre0.Contents (Elt F)) (h : Rng pf) (i : grid0.Coords) :
    (Scalar.minsi (BitVec.ofNat 32 (i 0).val) (Scalar.subi (nt pf) 1#32)).toNat = tile pf (i 0).val := by
  have h0 : (i 0).val < 448 := (i 0).isLt
  have h1 := h.nt_pos; have h2 := h.nt_le
  have e : (Scalar.subi (nt pf) 1#32).toNat = (nt pf).toNat - 1 := by
    show (nt pf - 1#32).toNat = _
    rw [BitVec.toNat_sub]; show (2 ^ 32 - 1 + (nt pf).toNat) % 2 ^ 32 = _; omega
  show (if (BitVec.ofNat 32 (i 0).val).slt (Scalar.subi (nt pf) 1#32) then _ else _ : BitVec 32).toNat = _
  rw [slt_iff (by rw [coord_toNat]; omega) (by rw [e]; omega), e, coord_toNat]
  unfold tile
  by_cases hc : (i 0).val < (nt pf).toNat - 1
  · rw [if_pos (by simpa using hc), coord_toNat]; omega
  · rw [if_neg (by simpa using hc), e]; omega

theorem map0 (pf : pre0.Contents (Elt F)) (h : Rng pf) (i : grid0.Coords) (a b) :
    cc0_transform_0 a b pf i = ![tile pf (i 0).val, 0] := by
  unfold cc0_transform_0
  dsimp only
  rw [at_nt pf a b, min_word pf h i]; rfl
theorem map4 (pf : pre0.Contents (Elt F)) (h : Rng pf) (i : grid0.Coords) (a b) :
    cc0_transform_4 a b pf i = ![tile pf (i 0).val, 0] := by
  unfold cc0_transform_4
  dsimp only
  rw [at_nt pf a b, min_word pf h i]; rfl
theorem map1 (pf : pre0.Contents (Elt F)) (i : grid0.Coords) (a b) :
    cc0_transform_1 a b pf i = ![(te pf (i 0)).toNat, 0, 0] := by
  unfold cc0_transform_1
  dsimp only
  rw [at_te pf i (a i) b]; rfl
theorem map2 (pf : pre0.Contents (Elt F)) (i : grid0.Coords) (a b) :
    cc0_transform_2 a b pf i = ![(te pf (i 0)).toNat, 0, 0] := by
  unfold cc0_transform_2
  dsimp only
  rw [at_te pf i (a i) b]; rfl
theorem map3 (pf : pre0.Contents (Elt F)) (i : grid0.Coords) (a b) :
    cc0_transform_3 a b pf i = ![(te pf (i 0)).toNat, 0, 0] := by
  unfold cc0_transform_3
  dsimp only
  rw [at_te pf i (a i) b]; rfl

/-- A grid point computes exactly when its tile is in use. -/
theorem cond_iff (pf : pre0.Contents (Elt F)) (h : Rng pf) (i : grid0.Coords) : k0_cond1 i (nt pf) = 1#1 ↔ (i 0).val < (nt pf).toNat := by
  have h0 : (i 0).val < 448 := (i 0).isLt
  have h2 := h.nt_le
  have e : Scalar.cmpi .slt (BitVec.ofNat 32 (i 0).val) (nt pf) = BitVec.ofBool (decide ((i 0).val < (nt pf).toNat)) := by
    show BitVec.ofBool ((BitVec.ofNat 32 (i 0).val).slt (nt pf)) = _
    rw [slt_iff (by rw [coord_toNat]; omega) (by omega), coord_toNat]
  unfold k0_cond1
  dsimp only
  rw [e]
  by_cases hc : (i 0).val < (nt pf).toNat
  · rw [decide_eq_true hc]; exact ⟨fun _ => hc, fun _ => by decide⟩
  · rw [decide_eq_false hc]; exact ⟨fun h => absurd h (by decide), fun h => absurd h hc⟩

/-- Every block lies inside its array. -/
theorem ok_of_rng (pf : pre0.Contents (Elt F)) (h : Rng pf) : ok0 (F := F) pf := by
  have hn := h.nt_le; have hp := h.nt_pos
  have ht : ∀ i : grid0.Coords, tile pf (i 0).val < 448 := fun i => by unfold tile; omega
  refine ⟨fun i => ?_, fun i => ?_, fun i => ?_, fun i => ?_, fun i => ?_⟩
  · refine ⟨fun a => ?_, Or.inr ?_⟩
    · rw [map0 pf h]
      have := ht i
      fin_cases a
      · show (tile pf (i 0).val + 1) * 1024 ≤ 458752; omega
      · show (0 + 1) * 1024 ≤ 1024; omega
    · exact Affine.block_words_dvd (of_decide_eq_true rfl) (by decide)
  · refine ⟨fun a => ?_, Or.inl rfl⟩
    rw [map1 pf]
    have := h.te_lt (i 0)
    fin_cases a
    · show ((te pf (i 0)).toNat + 1) * 1 ≤ 64; omega
    · show (0 + 1) * 1024 ≤ 1024; omega
    · show (0 + 1) * 256 ≤ 256; omega
  · refine ⟨fun a => ?_, Or.inl rfl⟩
    rw [map2 pf]
    have := h.te_lt (i 0)
    fin_cases a
    · show ((te pf (i 0)).toNat + 1) * 1 ≤ 64; omega
    · show (0 + 1) * 1024 ≤ 1024; omega
    · show (0 + 1) * 256 ≤ 256; omega
  · refine ⟨fun a => ?_, Or.inl rfl⟩
    rw [map3 pf]
    have := h.te_lt (i 0)
    fin_cases a
    · show ((te pf (i 0)).toNat + 1) * 1 ≤ 64; omega
    · show (0 + 1) * 256 ≤ 256; omega
    · show (0 + 1) * 1024 ≤ 1024; omega
  · refine ⟨fun a => ?_, Or.inr ?_⟩
    · rw [map4 pf h]
      have := ht i
      fin_cases a
      · show (tile pf (i 0).val + 1) * 1024 ≤ 458752; omega
      · show (0 + 1) * 1024 ≤ 1024; omega
    · exact Affine.block_words_dvd (of_decide_eq_true rfl) (by decide)

end Cert.Proof.Moe
end
-- ==== Proof.Moe.Around.lean ====
module
public import proofs.«01_k».proof.Proof.Moe.Words
public import proofs.«01_k».proof.Proof.Gen.ExpertsIdeal.Skeleton
public import Idealize.ShloMosaic.Lib.Pipeline.FrameBody
public import Idealize.ShloMosaic.Lib.Pipeline.FrameSuffix
public import Idealize.ShloMosaic.Lib.Pipeline.TableIdle
public import Idealize.ShloMosaic.Lib.Ring
public import Idealize.ShloMosaic.Lib.Tactic
@[expose] public section
set_option maxRecDepth 16384
/-! The experts' call inside its program: the operations before and after it, its two tables, the blocks of its
inputs, and at which tiles its output is left alone and written back. -/
noncomputable section
namespace Cert.Proof.Moe
open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ
variable (m : (ℓ : Loc nD τ sig) → Buf (Elt F) ℓ) (ρ : Dev nD → PrngReg)

/-- The buffers of a device when the call begins. -/
abbrev V0 (c : Dev nD) : Valuation τ sig (Elt F) := StableHlo.after (List.flatten [hostOps0, hostOps0_1, hostOps0_2, hostOps0_3, hostOps0_4, hostOps0_5, hostOps0_6]) (fun b => m (c, b))
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor

set_option maxHeartbeats 800000 in
theorem hmain (𝒱₀ : Variants) : Pipeline.HMainPK (Ix := Unit) (Name := ℕ) (U := UR sig nD τ) (Lvl := ℕ) pcfgs 0 defs₀ 𝒱₀ m (main (F := F)) (V m)
      (fun _ => Pipeline.chain ([hostOps1, hostOps1_1].map StableHlo.seq)) :=
  Pipeline.hmainP_around pcfgs 0 defs₀ 𝒱₀ m main [hostOps0, hostOps0_1, hostOps0_2, hostOps0_3, hostOps0_4, hostOps0_5, hostOps0_6] [hostOps1, hostOps1_1] (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩) main_chain

/-- The operations after the call touch its arrays and the other buffers, but no table. -/
theorem sfx_sub : ∀ ops ∈ ([hostOps1, hostOps1_1] : List (List (HloOp τ sig (Elt F)))), ∀ op ∈ ops,
    op.bufs ⊆ Pipeline.tailRefs sig pre0 spec0 := by
  intro ops hops op hop
  simp only [List.mem_cons, List.mem_nil_iff, or_false] at hops
  rcases hops with rfl | rfl
  · refine Pipeline.sub_tailRefs pre0 spec0 op ((List.forall_iff_forall_mem.mp hostOps1_sub) op hop) ?_
    simp only [hostOps1, List.mem_cons, List.mem_nil_iff, or_false] at hop
    rcases hop with rfl | rfl | rfl | rfl | rfl | rfl | rfl | rfl | rfl | rfl
    all_goals intro j; fin_cases j <;> simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
  · refine Pipeline.sub_tailRefs pre0 spec0 op ((List.forall_iff_forall_mem.mp hostOps1_1_sub) op hop) ?_
    simp only [hostOps1_1, List.mem_cons, List.mem_nil_iff, or_false] at hop
    rcases hop with rfl | rfl
    all_goals intro j; fin_cases j <;> simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
theorem sfx_fresh : ∀ ops ∈ ([hostOps1, hostOps1_1] : List (List (HloOp τ sig (Elt F)))), ∀ op ∈ ops, op.fresh = ∅ := by
  intro ops hops op hop
  simp only [List.mem_cons, List.mem_nil_iff, or_false] at hops
  rcases hops with rfl | rfl
  · exact (List.forall_iff_forall_mem.mp hostOps1_fresh) op hop
  · exact (List.forall_iff_forall_mem.mp hostOps1_1_fresh) op hop
/-- They write none of the call's arrays. -/
theorem sfx_keeps : ∀ ops ∈ ([hostOps1, hostOps1_1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl
  · simp only [hostOps1, List.mem_cons, List.mem_nil_iff, or_false] at hop
    rcases hop with rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
  · simp only [hostOps1_1, List.mem_cons, List.mem_nil_iff, or_false] at hop
    rcases hop with rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- The five arguments reach the call as they were given. -/
theorem V_arg (c : Dev nD) :
    V m c main_arg0 = m ((c : Thread nD τ).loc main_arg0) ∧ V m c main_arg1 = m ((c : Thread nD τ).loc main_arg1)
      ∧ V m c main_arg2 = m ((c : Thread nD τ).loc main_arg2) ∧ V m c main_arg3 = m ((c : Thread nD τ).loc main_arg3)
      ∧ V m c main_arg4 = m ((c : Thread nD τ).loc main_arg4) := by
  refine ⟨?_, ?_, ?_, ?_, ?_⟩ <;>
  exact StableHlo.after_of_writes_sub (W := [main_c, main_v0, main_v1, main_c_0, main_call0_v0, main_call0_v1, main_call0_v2, main_call0_v3, main_call0_v4, main_call0_v5, main_call0_v6, main_call0_v7, main_call0_v8, main_call0_c, main_call0_v9, main_call0_v10, main_call0_v11, main_call0_c_0, main_call0_v12, main_call0_v13, main_v2, main_c_1, main_v3, main_c_2, main_v4, main_v5, main_c_3, main_v6, main_v7, main_c_4, main_call1_v0, main_call1_v1, main_call1_v2, main_call1_v3, main_call1_v4, main_call1_v5, main_call1_v6, main_call1_v7, main_call1_v8, main_call1_c, main_call1_v9, main_call1_v10, main_call1_v11, main_call1_c_0, main_call1_v12, main_call1_v13, main_v8, main_v9, main_v10, main_call2_call0_c, main_call2_call0_v0, main_v11, main_v12, main_v13, main_v14, main_v15, main_v16, main_c_5, main_v17, main_c_6, main_v18, main_v19, main_c_7, main_v20, main_v21]) _ _ (StableHlo.forall_writes_sub_of_map rfl) (by decide)

/-- The two tables' words when the call begins. -/
def tbl : pre0.Contents (Elt F) := fun j => V m (0 : Dev nD) (pre0.ref j)
theorem V_pre (c : Dev nD) (j : Fin 2) : V m c (pre0.ref j) = tbl m j := by
  obtain rfl : c = 0 := Subsingleton.elim _ _; rfl
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

abbrev tbA : Memref sig .tc .smem S448 .i32 := Memref.whole main_v19
abbrev htbA : tbA.IsWhole := Memref.isWhole_whole _
abbrev tbB : Memref sig .tc .smem S1 .i32 := Memref.whole main_v21
abbrev htbB : tbB.IsWhole := Memref.isWhole_whole _
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f
theorem PhiT_eq (c : Dev nD) : (Pipeline.ΦT pre0 (tbl m) c : sProp 𝕄) = iprop(tbPt c tbA (tbl m 0) ∗ tbPt c tbB (tbl m 1)) := by
  unfold Pipeline.ΦT Pipeline.prefHeld
  rw [show (Finset.univ : Finset (Fin 2)) = insert (0 : Fin 2) {(1 : Fin 2)} from by decide,
    bigSep_insert (by decide), bigSep_singleton]
  rfl

abbrev AllDats (hO : Ok m) := (p : Fin 1) → (c : Dev nD) → Dat τ (Elt F) Unit ℕ (UR sig nD τ) ℕ ((Pipeline.pin pcfgs fun _ => adm m hO) p) c

/-- The counts end as they were given. -/
theorem W_arg0 (hO : Ok m) (dats : AllDats m hO) (c : Dev nD) :
    Pipeline.afterTail pcfgs (fun _ => adm m hO) dats 0 (V0 m) [hostOps1, hostOps1_1] c main_arg0 = m ((c : Thread nD τ).loc main_arg0) := by
  unfold Pipeline.afterTail
  rw [StableHlo.after_of_writes_sub (W := [main_v23, main_v24, main_c_8, main_v25, main_c_9, main_v26, main_v27, main_v28, main_cst, main_v29, main_call3_v0, main_v30]) _ _ (StableHlo.forall_writes_sub_of_map rfl) (by decide),
    Pipeline.withArrays_of_ne _ c (V0 m c) _ main_arg0 (by exact (by decide : ∀ w, Pipeline.arrRef spec0 w ≠ main_arg0))]
  exact (V_arg m c).1

/-- The block of a window at a grid point, as it stands when the call begins. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem before0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

abbrev ms0 (hO : Ok m) (t : Fin (cfgM m hO).N) : Memref sig .tc .vmem S1024x1024 .bf16 := spec0_0.stage ((cfgM m hO).slots t 0)
abbrev ms1 (hO : Ok m) (t : Fin (cfgM m hO).N) : Memref sig .tc .vmem S1x1024x256 .f32 := spec0_1.stage ((cfgM m hO).slots t 1)
abbrev ms2 (hO : Ok m) (t : Fin (cfgM m hO).N) : Memref sig .tc .vmem S1x1024x256 .f32 := spec0_2.stage ((cfgM m hO).slots t 2)
abbrev ms3 (hO : Ok m) (t : Fin (cfgM m hO).N) : Memref sig .tc .vmem S1x256x1024 .f32 := spec0_3.stage ((cfgM m hO).slots t 3)
abbrev ms4 (hO : Ok m) (t : Fin (cfgM m hO).N) : Memref sig .tc .vmem S1024x1024 .bf16 := spec0_4.stage ((cfgM m hO).slots t 4)

/-- The body at a grid point. -/
abbrev bodyAt (hO : Ok m) (t : Fin (cfgM m hO).N) : Prog (TpuEff nD τ sig (Elt F) Λ₀ .tc) PUnit :=
  cc0_moe_experts (grid0.coords t) tbA htbA tbB htbB
    (ms0 m hO t) (hstage0_0 (((cfgM m hO).slots t 0).cast nbuf0_0)) (ms1 m hO t) (hstage0_1 (((cfgM m hO).slots t 1).cast nbuf0_1))
    (ms2 m hO t) (hstage0_2 (((cfgM m hO).slots t 2).cast nbuf0_2)) (ms3 m hO t) (hstage0_3 (((cfgM m hO).slots t 3).cast nbuf0_3))
    (ms4 m hO t) (hstage0_4 (((cfgM m hO).slots t 4).cast nbuf0_4))
theorem defs₀_row (hO : Ok m) (t : Fin (cfgM m hO).N) :
    defs₀ (F := F) .tc (cfgM m hO).body ((cfgM m hO).bodyArgs t ((cfgM m hO).slots t)) = bodyAt m hO t := by
  unfold defs₀; rw [Defs.onTc_tc]

/-! Where the output is left alone, and where it is written back. -/

section
variable (a : (pcfg0 (F := F)).Adm)
theorem N_eq_adm : (cfg0 a).N = 448 := N_0
theorem coord_eq_adm (t : Fin (cfg0 a).N) : ((cfg0 a).grid.coords t (0 : Fin 1)).val = t.val := by
  exact (by decide +kernel : ∀ t : Fin grid0.N, (grid0.coords t (0 : Fin 1)).val = t.val) t

theorem idle_pf (pf : pre0.Contents (Elt F)) (i : grid0.Coords) : idle0 (F := F) pf 4 i = !(k0_cond1 i (nt pf) == 1#1) := by
  show (!(k0_cond1 i (pf.atD 1 ![0]) == 1#1)) = _
  rw [atD_nt]
theorem idle_adm (i : grid0.Coords) : (cfg0 a).idle 4 i = idle0 (F := F) a.1 4 i := by
  rfl

theorem idle4_adm (hR : Rng a.1) (t : Fin (cfg0 a).N) :
    (cfg0 a).idle 4 ((cfg0 a).grid.coords t) = decide ((nt a.1).toNat ≤ t.val) := by
  refine (idle_adm a _).trans ((idle_pf a.1 _).trans ?_)
  by_cases h : (nt a.1).toNat ≤ t.val
  · rw [decide_eq_true h]
    have := (cond_iff a.1 hR ((cfg0 a).grid.coords t)).not.mpr (by have := coord_eq_adm a t; omega)
    simp [this]
  · rw [decide_eq_false h]
    have := (cond_iff a.1 hR ((cfg0 a).grid.coords t)).mpr (by have := coord_eq_adm a t; omega)
    simp [this]

theorem index4_adm (hR : Rng a.1) (t : Fin (cfg0 a).N) :
    ((cfg0 a).win 4).index t = ![tile a.1 t.val, 0] := by
  have := map4 a.1 hR ((cfg0 a).grid.coords t) inb_S1_S1_0 numel1_S1
  rw [coord_eq_adm a t] at this
  exact this

theorem flush4_adm (hR : Rng a.1) (t : Fin (cfg0 a).N) :
    ((cfg0 a).win 4).flush t = decide (t.val + 1 < (nt a.1).toNat ∨ t.val + 1 = 448) := by
  have hN := N_eq_adm a
  have hp := hR.nt_pos; have hl := hR.nt_le
  have ht := t.isLt
  unfold Window.flush
  rw [show ((cfg0 a).win 4).isOut = true from rfl, Bool.true_and]
  by_cases h1 : t.val + 1 = 448
  · rw [decide_eq_true (p := t.val + 1 = (cfg0 a).N) (by omega), decide_eq_true (Or.inr h1)]; rfl
  · rw [decide_eq_false (p := t.val + 1 = (cfg0 a).N) (by omega), Bool.false_or]
    refine decide_eq_decide.mpr ⟨?_, fun h => ?_⟩
    · rintro ⟨h, hne⟩
      rw [index4_adm a hR, index4_adm a hR] at hne
      by_contra hc
      refine hne ?_
      have : tile a.1 (t.val + 1) = tile a.1 t.val := by unfold tile; omega
      rw [this]
    · refine ⟨lt_of_lt_of_eq (by omega : t.val + 1 < 448) hN.symm, ?_⟩
      rw [index4_adm a hR, index4_adm a hR]
      intro he
      have := congrFun he 0
      have : tile a.1 (t.val + 1) = tile a.1 t.val := this
      unfold tile at this; omega

/-- From the tile after the last one in use, the output's buffer has been written since it was last taken up. -/
theorem fresh4_adm (hR : Rng a.1) : ∀ n, (nt a.1).toNat ≤ n → n < 448 → (cfg0 a).fresh 4 n = false := by
  have hN := N_eq_adm a
  have hp := hR.nt_pos
  intro n
  induction n with
  | zero => intro h; omega
  | succ n ih =>
    intro h hn
    rw [Cfg.fresh_succ _ _ _ (by omega), flush4_adm a hR, idle4_adm a hR]
    rw [decide_eq_false (by show ¬(n + 1 < _ ∨ n + 1 = 448); omega), Bool.false_or]
    by_cases h' : (nt a.1).toNat ≤ n
    · rw [ih h' (by omega), Bool.and_false]
    · rw [decide_eq_false (by exact h')]; rfl

end

theorem N_eq (hO : Ok m) : (cfgM m hO).N = 448 := N_eq_adm (adm m hO)
theorem coord_eq (hO : Ok m) (t : Fin (cfgM m hO).N) : ((cfgM m hO).grid.coords t (0 : Fin 1)).val = t.val := coord_eq_adm (adm m hO) t
theorem idle4 (hO : Ok m) (hR : Rng (tbl m)) (t : Fin (cfgM m hO).N) :
    (cfgM m hO).idle 4 ((cfgM m hO).grid.coords t) = decide ((nt (tbl m)).toNat ≤ t.val) := idle4_adm (adm m hO) hR t
theorem index4 (hO : Ok m) (hR : Rng (tbl m)) (t : Fin (cfgM m hO).N) :
    ((cfgM m hO).win 4).index t = ![tile (tbl m) t.val, 0] := index4_adm (adm m hO) hR t
theorem flush4 (hO : Ok m) (hR : Rng (tbl m)) (t : Fin (cfgM m hO).N) :
    ((cfgM m hO).win 4).flush t = decide (t.val + 1 < (nt (tbl m)).toNat ∨ t.val + 1 = 448) := flush4_adm (adm m hO) hR t
/-- From the tile after the last one in use, the output's buffer has been written since it was last taken up. -/
theorem fresh4 (hO : Ok m) (hR : Rng (tbl m)) : ∀ n, (nt (tbl m)).toNat ≤ n → n < 448 → (cfgM m hO).fresh 4 n = false := fresh4_adm (adm m hO) hR

end Cert.Proof.Moe
end
-- ==== Proof.Moe.Body.lean ====
module
public import proofs.«01_k».proof.Proof.Moe.Around
public import Idealize.ShloMosaic.Lib.WritesUnit
public import Idealize.ShloMosaic.Lib.WholeRead
@[expose] public section
set_option maxRecDepth 16384
/-! The body of the experts' call: at a tile in use it leaves the expert's result of the tile's rows, later it leaves everything as it was. -/
noncomputable section
namespace Cert.Proof.Moe
open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UR sig nD τ) ℕ

/-- Reading a whole buffer gives what it holds. -/
theorem whole_eq {e : EltTy} {s : Shape} {M : Memref sig .tc .vmem s e} (h : M.IsWhole) (x : Vec F s e)
    (off : Fin s.rank → ℕ) (ho : off = fun _ => 0) (inb : ∀ a, off a + s.size a ≤ s.size a) :
    View.readAt (Elt F) M.view (Rect.unit (s := s) off s.size inb).toLoadRect (h.unread x) = x := by
  subst ho
  funext y
  refine (h.readAt_unread x _ y).trans (congrArg x (funext fun a => Fin.ext ?_))
  show 0 + 1 * (y a).val = (y a).val
  omega
theorem off2 : (![0, 0] : Fin 2 → ℕ) = fun _ => 0 := by funext a; revert a; decide
theorem off3 : (![0, 0, 0] : Fin 3 → ℕ) = fun _ => 0 := by funext a; revert a; decide
/-- What a buffer holds after it was stored whole. -/
theorem read_one {e : EltTy} {s : Shape} (v : View sig .tc .vmem s e) (f : v.ty.Contents (Elt F)) (off : Fin s.rank → ℕ)
    (ho : off = fun _ => 0) (inb : ∀ a, off a + s.size a ≤ s.size a) (w X : Vec F s e) (T L : List (View.Piece (Elt F) s e))
    (hL : L = (⟨Rect.unit (s := s) off s.size inb, w⟩ : View.Piece (Elt F) s e) :: T) (hw : w = X) :
    v.read (Elt F) (v.writes (Elt F) f L) = X := by
  subst hL hw
  funext y
  refine View.read_writes_cons_unit_of_mem v f inb w T y y ho fun a => ?_
  simp

set_option maxHeartbeats 1000000 in
theorem body_run (c : Dev nD) (i : grid0.Coords) (pf : pre0.Contents (Elt F))
    (M3 : Memref sig .tc .vmem S1024x1024 .bf16) (h3 : M3.IsWhole) (M4 : Memref sig .tc .vmem S1x1024x256 .f32) (h4 : M4.IsWhole)
    (M5 : Memref sig .tc .vmem S1x1024x256 .f32) (h5 : M5.IsWhole) (M6 : Memref sig .tc .vmem S1x256x1024 .f32) (h6 : M6.IsWhole)
    (M7 : Memref sig .tc .vmem S1024x1024 .bf16) (h7 : M7.IsWhole)
    (x3 x7 : Vec F S1024x1024 .bf16) (x4 x5 : Vec F S1x1024x256 .f32) (x6 : Vec F S1x256x1024 .f32) (E : Set ℕ) (K : PUnit → sProp 𝕄) :
    iprop(owns (c : Thread nD τ) M3 fullShare x3 ∗ owns (c : Thread nD τ) M4 fullShare x4 ∗ owns (c : Thread nD τ) M5 fullShare x5
        ∗ owns (c : Thread nD τ) M6 fullShare x6 ∗ owns (c : Thread nD τ) M7 fullShare x7 ∗ tbPt c tbA (pf 0) ∗ tbPt c tbB (pf 1)
        ∗ (iprop(owns (c : Thread nD τ) M3 fullShare x3 ∗ owns (c : Thread nD τ) M4 fullShare x4 ∗ owns (c : Thread nD τ) M5 fullShare x5
          ∗ owns (c : Thread nD τ) M6 fullShare x6 ∗ owns (c : Thread nD τ) M7 fullShare (if k0_cond1 i (nt pf) = 1#1 then k0_pay1 x3 x4 x5 x6 else x7) ∗ tbPt c tbA (pf 0) ∗ tbPt c tbB (pf 1)) -∗ K ⟨⟩))
      ⊢ wp frame (wpE (defs₀ (F := F)) Variants.none c none) E (cc0_moe_experts i tbA htbA tbB htbB M3 h3 M4 h4 M5 h5 M6 h6 M7 h7) K := by
  simp only [cc0_moe_experts_eq_skeleton]; unfold cc0_moe_experts_skel
  unfold owns
  iintro ⟨⟨%f3, %hf3, H3⟩, ⟨%f4, %hf4, H4⟩, ⟨%f5, %hf5, H5⟩, ⟨%f6, %hf6, H6⟩, ⟨%f7, %hf7, H7⟩, HT0, HT1, Hk⟩
  obtain rfl := h3.eq_unread hf3; obtain rfl := h4.eq_unread hf4; obtain rfl := h5.eq_unread hf5; obtain rfl := h6.eq_unread hf6
  sl_exec
  sl_step
  have hr : body_run.sl.r pf = nt pf := congrArg (pf 1) ext1
  iapply Hk
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr; swap; · iexact H7
    ipureintro
    rw [hr]
    by_cases hc : k0_cond1 i (nt pf) = 1#1
    · rw [dif_pos hc, if_pos hc]
      refine read_one _ _ _ off2 inb_S1024x1024_S1024x1024_0_0 _ _ _ _ rfl ?_
      rw [whole_eq h3 x3 _ off2, whole_eq h4 x4 _ off3, whole_eq h5 x5 _ off3, whole_eq h6 x6 _ off3]
    · rw [dif_neg hc, if_neg hc]; exact hf7
  isplitl [HT0]; · iexact HT0
  iexact HT1

end Cert.Proof.Moe
end
-- ==== Proof.Moe.Run.lean ====
module
public import proofs.«01_k».proof.Proof.Moe.Body
@[expose] public section
set_option maxRecDepth 16384
/-! The run of the experts' program: what every tile leaves, and the launch. -/
noncomputable section
namespace Cert.Proof.Moe
open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]
local notation "𝕄" => MT nD τ sig Unit (Elt F) ℕ (UR sig nD τ) ℕ
variable (m : (ℓ : Loc nD τ sig) → Buf (Elt F) ℓ) (ρ : Dev nD → PrngReg)

/-- The last tile whose result the output's buffer holds after tile `n`, as a grid point. -/
def held (hO : Ok m) (t : Fin (cfgM m hO).N) : Fin (cfgM m hO).N := ⟨tile (tbl m) t.val, lt_of_le_of_lt (Nat.min_le_left _ _) t.isLt⟩

/-- The result of a tile of rows: its expert's, of the tile's rows. -/
def outAt (hO : Ok m) (c : Dev nD) (t : Fin (cfgM m hO).N) : Vec F S1024x1024 .bf16 :=
  k0_pay1 (iblk m hO c 0 t) (iblk m hO c 1 t) (iblk m hO c 2 t) (iblk m hO c 3 t)

/-- The proof data: each operand's buffer keeps its block, the output's holds the result of the last tile in use. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => outAt m hO c (held m hO t)
  Φ _ := iprop(Pipeline.ΦA spec0 c ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]
theorem after0 (hO : Ok m) (c : Dev nD) (t : Fin (cfgM m hO).N) : (dats m hO 0 c).after 0 t = iblk m hO c 0 t := by dsimp only [dats]; try rfl
theorem after1 (hO : Ok m) (c : Dev nD) (t : Fin (cfgM m hO).N) : (dats m hO 0 c).after 1 t = iblk m hO c 1 t := by dsimp only [dats]; try rfl
theorem after2 (hO : Ok m) (c : Dev nD) (t : Fin (cfgM m hO).N) : (dats m hO 0 c).after 2 t = iblk m hO c 2 t := by dsimp only [dats]; try rfl
theorem after3 (hO : Ok m) (c : Dev nD) (t : Fin (cfgM m hO).N) : (dats m hO 0 c).after 3 t = iblk m hO c 3 t := by dsimp only [dats]; try rfl
theorem after4 (hO : Ok m) (c : Dev nD) (t : Fin (cfgM m hO).N) : (dats m hO 0 c).after 4 t = outAt m hO c (held m hO t) := by dsimp only [dats]; try rfl

theorem before0 (hO : Ok m) (c : Dev nD) (t : Fin (cfgM m hO).N) (d) : (dats m hO 0 c).before 0 t d = iblk m hO c 0 t :=
  before0_of m hO (dats m hO 0 c) (A_eq m hO c 0) (after0 m hO c) t d
theorem before1 (hO : Ok m) (c : Dev nD) (t : Fin (cfgM m hO).N) (d) : (dats m hO 0 c).before 1 t d = iblk m hO c 1 t :=
  before1_of m hO (dats m hO 0 c) (A_eq m hO c 1) (after1 m hO c) t d
theorem before2 (hO : Ok m) (c : Dev nD) (t : Fin (cfgM m hO).N) (d) : (dats m hO 0 c).before 2 t d = iblk m hO c 2 t :=
  before2_of m hO (dats m hO 0 c) (A_eq m hO c 2) (after2 m hO c) t d
theorem before3 (hO : Ok m) (c : Dev nD) (t : Fin (cfgM m hO).N) (d) : (dats m hO 0 c).before 3 t d = iblk m hO c 3 t :=
  before3_of m hO (dats m hO 0 c) (A_eq m hO c 3) (after3 m hO c) t d

/-- After the tiles in use, the output's buffer still holds the last one's result. -/
theorem before4 (hO : Ok m) (hR : Rng (tbl m)) (c : Dev nD) (t : Fin (cfgM m hO).N) (ht : (nt (tbl m)).toNat ≤ t.val) (d) :
    (dats m hO 0 c).before 4 t d = (dats m hO 0 c).after 4 t := by
  have hp := hR.nt_pos
  have hN : t.val < 448 := lt_of_lt_of_eq t.isLt (N_eq m hO)
  have step : ∀ (t : Fin (cfgM m hO).N) (h0 : t.val ≠ 0), (nt (tbl m)).toNat ≤ t.val →
      (dats m hO 0 c).after 4 t = (dats m hO 0 c).after 4 ⟨t.val - 1, by omega⟩ := fun t h0 ht => by
    rw [after4, after4]
    refine congrArg (outAt m hO c) (Fin.ext ?_)
    show tile (tbl m) t.val = tile (tbl m) (t.val - 1)
    unfold tile; omega
  rw [Dat.before_out_traj (dats m hO 0 c) 4 rfl (fun _ _ => rfl) (fun t h0 hi _ => step t h0 (by
      rw [idle4 m hO hR] at hi; exact of_decide_eq_true hi)) t.val t rfl d, fresh4 m hO hR t.val ht hN, if_neg (by decide)]
  exact (step t (by omega) ht).symm

/-- The obligation of a body from what it leaves of each buffer, where a buffer left alone may keep what it held. -/
theorem obligation_of {cfg : Cfg sig Λ₀} {c : Dev nD} (dat : Dat τ (Elt F) Unit ℕ (UR sig nD τ) ℕ cfg c) (Q : Fin cfg.W → Fin cfg.N → sProp 𝕄)
    (h : ∀ t, iprop(dat.Φ t.castSucc ∗ dat.owesAt () t.castSucc
        ∗ bigSep Finset.univ fun w : Fin cfg.W => iprop(∃ d, owns (c : Thread nD τ) ((cfg.win w).stage (cfg.slots t w)) fullShare (dat.before w t d)))
      ⊢ wp frame (wpE (defs₀ (F := F)) Variants.none c none) Set.univ (defs₀ (F := F) .tc cfg.body (cfg.bodyArgs t (cfg.slots t))) (fun _ =>
          iprop(dat.Φ t.succ ∗ dat.owesAt () t.succ ∗ bigSep Finset.univ fun w : Fin cfg.W => Q w t)))
    (h0 : ∀ w t, cfg.idle w (cfg.grid.coords t) = false → Q w t ⊢ owns (c : Thread nD τ) ((cfg.win w).stage (cfg.slots t w)) fullShare (dat.after w t))
    (h1 : ∀ w t, cfg.idle w (cfg.grid.coords t) = true → (cfg.win w).flush t = true → Q w t ⊢ owns (c : Thread nD τ) ((cfg.win w).stage (cfg.slots t w)) fullShare (dat.after w t))
    (h2 : ∀ w t, cfg.idle w (cfg.grid.coords t) = true → (cfg.win w).flush t = false → Q w t ⊢ iprop(∃ d, owns (c : Thread nD τ) ((cfg.win w).stage (cfg.slots t w)) fullShare (dat.before w t d))) :
    BodyObligation dat (defs₀ (F := F)) Variants.none () Set.univ := fun t => by
  refine triple_restated (h t) rfl .rfl fun _ => sep_mono_r (sep_mono_r (bigSep_mono fun w _ => ?_))
  have e0 := h0 w t; have e1 := h1 w t; have e2 := h2 w t
  revert e0 e1 e2
  cases cfg.idle w (cfg.grid.coords t) with
  | false => intro e0 _ _; exact e0 rfl
  | true =>
    cases (cfg.win w).flush t with
    | false => intro _ _ e2; exact e2 rfl rfl
    | true => intro _ e1 _; exact e1 rfl rfl

theorem owns_of_eq (c : Dev nD) {S : Shape} {e : EltTy} (M : Memref sig .tc .vmem S e) {x y : Vec F S e} (h : x = y) :
    (owns (c : Thread nD τ) M fullShare x : sProp 𝕄) ⊢ owns (c : Thread nD τ) M fullShare y := h ▸ .rfl

/-- What the body leaves of each buffer. -/
def bodyQ (hO : Ok m) (c : Dev nD) (w : Fin (cfgM m hO).W) (t : Fin (cfgM m hO).N) : sProp 𝕄 := match w with
  | ⟨0, _⟩ => owns (c : Thread nD τ) (ms0 m hO t) fullShare (iblk m hO c 0 t)
  | ⟨1, _⟩ => owns (c : Thread nD τ) (ms1 m hO t) fullShare (iblk m hO c 1 t)
  | ⟨2, _⟩ => owns (c : Thread nD τ) (ms2 m hO t) fullShare (iblk m hO c 2 t)
  | ⟨3, _⟩ => owns (c : Thread nD τ) (ms3 m hO t) fullShare (iblk m hO c 3 t)
  | ⟨4, _⟩ => iprop(∃ d, owns (c : Thread nD τ) (ms4 m hO t) fullShare
      (if k0_cond1 (grid0.coords t) (nt (tbl m)) = 1#1 then outAt m hO c t else (dats m hO 0 c).before 4 t d))

/-- At a tile in use the body leaves the result of the tile; -/
theorem left_run (hO : Ok m) (hR : Rng (tbl m)) (c : Dev nD) (t : Fin (cfgM m hO).N) (ht : t.val < (nt (tbl m)).toNat) :
    bodyQ m hO c 4 t ⊢ owns (c : Thread nD τ) (ms4 m hO t) fullShare ((dats m hO 0 c).after 4 t) := by
  have hk := (cond_iff (tbl m) hR (grid0.coords t)).mpr (lt_of_eq_of_lt (coord_eq m hO t) ht)
  have e2 : held m hO t = t := Fin.ext (by show min t.val _ = t.val; omega)
  have e : ∀ d, (if k0_cond1 (grid0.coords t) (nt (tbl m)) = 1#1 then outAt m hO c t else (dats m hO 0 c).before 4 t d) = (dats m hO 0 c).after 4 t :=
    fun d => (if_pos hk).trans ((after4 m hO c t).trans (congrArg (outAt m hO c) e2)).symm
  show iprop(∃ d, owns (c : Thread nD τ) (ms4 m hO t) fullShare
      (if k0_cond1 (grid0.coords t) (nt (tbl m)) = 1#1 then outAt m hO c t else (dats m hO 0 c).before 4 t d)) ⊢ _
  iintro ⟨%d, H⟩
  iapply (owns_of_eq c (ms4 m hO t) (e d))
  iexact H
/-- later what the buffer held. -/
theorem left_idle (hO : Ok m) (hR : Rng (tbl m)) (c : Dev nD) (t : Fin (cfgM m hO).N) (ht : (nt (tbl m)).toNat ≤ t.val) :
    bodyQ m hO c 4 t ⊢ iprop(∃ d, owns (c : Thread nD τ) (ms4 m hO t) fullShare ((dats m hO 0 c).before 4 t d)) := by
  have hk : ¬ k0_cond1 (grid0.coords t) (nt (tbl m)) = 1#1 := fun e => by
    have h1 := (cond_iff (tbl m) hR (grid0.coords t)).mp e
    have h2 : (grid0.coords t (0 : Fin 1)).val = t.val := coord_eq m hO t
    omega
  have e : ∀ d, (if k0_cond1 (grid0.coords t) (nt (tbl m)) = 1#1 then outAt m hO c t else (dats m hO 0 c).before 4 t d) = (dats m hO 0 c).before 4 t d :=
    fun d => if_neg hk
  show iprop(∃ d, owns (c : Thread nD τ) (ms4 m hO t) fullShare
      (if k0_cond1 (grid0.coords t) (nt (tbl m)) = 1#1 then outAt m hO c t else (dats m hO 0 c).before 4 t d)) ⊢ _
  iintro ⟨%d, H⟩
  iexists d
  iapply (owns_of_eq c (ms4 m hO t) (e d))
  iexact H
theorem left_idle_after (hO : Ok m) (hR : Rng (tbl m)) (c : Dev nD) (t : Fin (cfgM m hO).N) (ht : (nt (tbl m)).toNat ≤ t.val) :
    bodyQ m hO c 4 t ⊢ owns (c : Thread nD τ) (ms4 m hO t) fullShare ((dats m hO 0 c).after 4 t) :=
  (left_idle m hO hR c t ht).trans (by
    iintro ⟨%d, H⟩
    iapply (owns_of_eq c (ms4 m hO t) (before4 m hO hR c t ht d))
    iexact H)
/-- What the body leaves of the output's buffer, from what its run says. -/
theorem left_of (hO : Ok m) (c : Dev nD) (t : Fin (cfgM m hO).N) (d) :
    owns (c : Thread nD τ) (ms4 m hO t) fullShare (if k0_cond1 (grid0.coords t) (nt (tbl m)) = 1#1 then outAt m hO c t else (dats m hO 0 c).before 4 t d)
      ⊢ bodyQ m hO c 4 t := by
  show _ ⊢ iprop(∃ d, owns (c : Thread nD τ) (ms4 m hO t) fullShare
      (if k0_cond1 (grid0.coords t) (nt (tbl m)) = 1#1 then outAt m hO c t else (dats m hO 0 c).before 4 t d))
  iintro H
  iexists d
  iexact H

theorem sound_body (hO : Ok m) (hR : Rng (tbl m)) (c : Dev nD) (t : Fin (cfgM m hO).N) :
    iprop((dats m hO 0 c).Φ t.castSucc ∗ (dats m hO 0 c).owesAt () t.castSucc
      ∗ (∃ d, owns (c : Thread nD τ) (ms0 m hO t) fullShare ((dats m hO 0 c).before 0 t d))
      ∗ (∃ d, owns (c : Thread nD τ) (ms1 m hO t) fullShare ((dats m hO 0 c).before 1 t d))
      ∗ (∃ d, owns (c : Thread nD τ) (ms2 m hO t) fullShare ((dats m hO 0 c).before 2 t d))
      ∗ (∃ d, owns (c : Thread nD τ) (ms3 m hO t) fullShare ((dats m hO 0 c).before 3 t d))
      ∗ (∃ d, owns (c : Thread nD τ) (ms4 m hO t) fullShare ((dats m hO 0 c).before 4 t d)))
    ⊢ wp frame (wpE (defs₀ (F := F)) Variants.none c none) Set.univ (bodyAt m hO t) (fun _ =>
      iprop((dats m hO 0 c).Φ t.succ ∗ (dats m hO 0 c).owesAt () t.succ
      ∗ owns (c : Thread nD τ) (ms0 m hO t) fullShare (iblk m hO c 0 t)
      ∗ owns (c : Thread nD τ) (ms1 m hO t) fullShare (iblk m hO c 1 t)
      ∗ owns (c : Thread nD τ) (ms2 m hO t) fullShare (iblk m hO c 2 t)
      ∗ owns (c : Thread nD τ) (ms3 m hO t) fullShare (iblk m hO c 3 t)
      ∗ bodyQ m hO c 4 t)) := by
  unfold bodyAt
  simp only [before0, before1, before2, before3]
  rw [show (dats m hO 0 c).Φ t.succ = (dats m hO 0 c).Φ t.castSucc from rfl,
    show (dats m hO 0 c).owesAt () t.succ = (dats m hO 0 c).owesAt () t.castSucc from rfl]
  rw [show (dats m hO 0 c).Φ t.castSucc = iprop(Pipeline.ΦA spec0 c ∗ Pipeline.ΦT pre0 (tbl m) c) from rfl, PhiT_eq]
  iintro ⟨⟨HΦ, ⟨HT0, HT1⟩⟩, Ho, ⟨%d0, H0⟩, ⟨%d1, H1⟩, ⟨%d2, H2⟩, ⟨%d3, H3⟩, ⟨%d4, H4⟩⟩
  iapply (body_run c (grid0.coords t) (tbl m) _ _ _ _ _ _ _ _ _ _ (iblk m hO c 0 t) ((dats m hO 0 c).before 4 t d4) (iblk m hO c 1 t) (iblk m hO c 2 t) (iblk m hO c 3 t) Set.univ _)
  isplitl [H0]; · iexact H0
  isplitl [H1]; · iexact H1
  isplitl [H2]; · iexact H2
  isplitl [H3]; · iexact H3
  isplitl [H4]; · iexact H4
  isplitl [HT0]; · iexact HT0
  isplitl [HT1]; · iexact HT1
  iintro ⟨H0, H1, H2, H3, H4, HT0, HT1⟩
  isplitl [HΦ HT0 HT1]
  · isplitl [HΦ]
    · iexact HΦ
    isplitl [HT0]; · iexact HT0
    iexact HT1
  isplitl [Ho]; · iexact Ho
  isplitl [H0]; · iexact H0
  isplitl [H1]; · iexact H1
  isplitl [H2]; · iexact H2
  isplitl [H3]; · iexact H3
  iapply (left_of m hO c t d4)
  iexact H4

set_option maxHeartbeats 4000000 in
theorem body_obligation (hO : Ok m) (hR : Rng (tbl m)) (c : Dev nD) : BodyObligation (dats (F := F) m hO 0 c) (defs₀ (F := F)) Variants.none () Set.univ := by
  have hi : ∀ t : Fin (cfgM m hO).N, (cfgM m hO).idle 4 ((cfgM m hO).grid.coords t) = decide ((nt (tbl m)).toNat ≤ t.val) := idle4 m hO hR
  refine obligation_of (dats (F := F) m hO 0 c) (bodyQ m hO c) (fun t => ?_) (fun w t => ?_) (fun w t => ?_) (fun w t => ?_)
  · rw [bigSep_W0, bigSep_W0, defs₀_row m hO]
    exact sound_body m hO hR c t
  · match w with
    | ⟨0, _⟩ => intro _; exact .rfl
    | ⟨1, _⟩ => intro _; exact .rfl
    | ⟨2, _⟩ => intro _; exact .rfl
    | ⟨3, _⟩ => intro _; exact .rfl
    | ⟨4, _⟩ => intro h; exact left_run m hO hR c t (not_le.mp (of_decide_eq_false ((hi t).symm.trans h)))
  · match w with
    | ⟨0, _⟩ => intro h; cases h
    | ⟨1, _⟩ => intro h; cases h
    | ⟨2, _⟩ => intro h; cases h
    | ⟨3, _⟩ => intro h; cases h
    | ⟨4, _⟩ => intro h _; exact left_idle_after m hO hR c t (of_decide_eq_true ((hi t).symm.trans h))
  · match w with
    | ⟨0, _⟩ => intro h; cases h
    | ⟨1, _⟩ => intro h; cases h
    | ⟨2, _⟩ => intro h; cases h
    | ⟨3, _⟩ => intro h; cases h
    | ⟨4, _⟩ => intro h _; exact left_idle m hO hR c t (of_decide_eq_true ((hi t).symm.trans h))

set_option backward.isDefEq.respectTransparency.types false in
set_option maxHeartbeats 800000 in
/-- From any memory with zero counters and tables in range every run ends, with every array where the proof data puts it and
every counter at zero. -/
theorem run_main (hO : Ok m) (hR : Rng (tbl m)) : θ_run defs (onTc (τ := τ) (main (F := F))) (s₀ m ρ)
    (fun r => (Pipeline.FramePost (Pipeline.pin pcfgs fun _ => adm m hO) (dats m hO) 0 (Pipeline.afterTail pcfgs (fun _ => adm m hO) (dats m hO) 0 (V0 m) [hostOps1, hostOps1_1])) r ∧ r.2.sem = fun _ => 0) :=
  Pipeline.θ_run_frameP_around (Q' := _) pcfgs (fun _ => adm m hO) (dats m hO) (0 : Fin 1) launch0 defs₀ Variants.none m ρ main
    (hbody := fun c => (body_obligation m hO hR c).loose) (hshare := fun c => (dats m hO 0 c).share_full fun _ => rfl)
    (howed := fun _ _ => rfl) (V₀ := V0 m) (opss := [hostOps1, hostOps1_1]) (hsub := sfx_sub) (hfresh := sfx_fresh) (hkeep := sfx_keeps)
    (hmain := hmain m Variants.none) (hA := A_eq m hO) (hpf := V_pre m) (hΦ := fun _ _ => rfl)

end Cert.Proof.Moe
end
-- ==== Proof.Moe.Layout.lean ====
module
public import Idealize.ShloMosaic.Lib.Pointwise
public import Idealize.ShloMosaic.Lib.Routing.OpsOne
public import Idealize.ShloMosaic.Lib.Routing.Words
@[expose] public section
set_option maxRecDepth 16384
/-! The layout of the routed rows: how many tiles each expert has, where its tiles begin, and whose a tile is, in words
and in natural numbers. -/
noncomputable section
namespace Cert.Proof.MoeLayout
open Idealize.ShloMosaic Idealize.ShloMosaic.TcCoe Idealize.ShloMosaic.Routing

theorem sum_ofNat {n : ℕ} (f : Fin n → BitVec 32) (g : Fin n → ℕ) (h : ∀ j, f j = BitVec.ofNat 32 (g j)) :
    (∑ j, f j) = BitVec.ofNat 32 (∑ j, g j) := by
  simp only [h]
  exact (map_sum (Nat.castRingHom (BitVec 32)) g Finset.univ).symm
theorem fold_sum {n : ℕ} (f : Fin n → BitVec 32) : Finset.fold IntOp.addi 0#32 f Finset.univ = ∑ j, f j := rfl

theorem reduce0 (x : IVec (shape2 128 64) 32) (h : (shape2 128 64).ReducesTo [0] (shape1 64)) (hu : 0 < shape0.numel) (e : Fin 64) :
    Host.reduce IntOp.addi x (constantI shape0 32 0#32) h hu (ix1 e) = ∑ b : Fin 128, x (ix2 b e) := by
  pointwise
  rfl
theorem reduce1 (n : ℕ) (x : IVec (shape2 n 64) 32) (h : (shape2 n 64).ReducesTo [1] (shape1 n)) (hu : 0 < shape0.numel) (e : Fin n) :
    Host.reduce IntOp.addi x (constantI shape0 32 0#32) h hu (ix1 e) = ∑ b : Fin 64, x (ix2 e b) := by
  pointwise
  rfl

/-- How many tokens of a block chose an expert. -/
def cN (c : IVec (shape2 128 64) 32) (b : Fin 128) (e : Fin 64) : ℕ := (c (ix2 b e)).toNat
/-- How many chunks of 16 rows they take. -/
def chN (c : IVec (shape2 128 64) 32) (b : Fin 128) (e : Fin 64) : ℕ := (cN c b e + 15) / 16
/-- How many tiles of 64 chunks an expert has. -/
def tF (c : IVec (shape2 128 64) 32) (e : Fin 64) : ℕ := ((∑ b, chN c b e) + 63) / 64
def tN (c : IVec (shape2 128 64) 32) (e : ℕ) : ℕ := if h : e < 64 then tF c ⟨e, h⟩ else 0
/-- How many tiles the experts before one have. -/
def S (c : IVec (shape2 128 64) 32) (k : ℕ) : ℕ := ∑ j ∈ Finset.range k, tN c j

/-- What the counts of a routing satisfy. -/
structure Counts (c : IVec (shape2 128 64) 32) : Prop where
  le : ∀ b e, cN c b e ≤ 256
  sum : ∀ b, ∑ e, cN c b e = 2048

section
variable (c : IVec (shape2 128 64) 32)

theorem tN_fin (e : Fin 64) : tN c e.val = tF c e := dif_pos e.isLt
theorem S_succ (k : ℕ) : S c (k + 1) = S c k + tN c k := Finset.sum_range_succ _ _
theorem S_mono {a b : ℕ} (h : a ≤ b) : S c a ≤ S c b := Finset.sum_le_sum_of_subset (Finset.range_mono h)
theorem S_total : S c 64 = ∑ e : Fin 64, tF c e := by
  unfold S
  rw [Finset.sum_range]
  exact Finset.sum_congr rfl fun e _ => tN_fin c e
theorem S_list (k : ℕ) : ((List.range k).map (tN c)).sum = S c k := rfl

variable {c} (hc : Counts c)
include hc

theorem chN_le (b e) : chN c b e ≤ 16 := by have := hc.le b e; unfold chN; omega
theorem sumCh_le (e) : (∑ b, chN c b e) ≤ 2048 :=
  (Finset.sum_le_sum fun b _ => chN_le hc b e).trans (by simp)
theorem tF_le (e) : tF c e ≤ 33 := by have := sumCh_le hc e; unfold tF; omega

theorem total_le : S c 64 ≤ 448 := by
  rw [S_total]
  have h1 : ∀ b, ∑ e, 16 * chN c b e ≤ 3008 := fun b => by
    have : ∀ e, 16 * chN c b e ≤ cN c b e + 15 := fun e => by unfold chN; omega
    refine (Finset.sum_le_sum fun e _ => this e).trans ?_
    rw [Finset.sum_add_distrib, hc.sum]; simp
  have h2 : ∑ e, 64 * tF c e ≤ (∑ e, ∑ b, chN c b e) + 64 * 63 := by
    have : ∀ e, 64 * tF c e ≤ (∑ b, chN c b e) + 63 := fun e => by unfold tF; omega
    refine (Finset.sum_le_sum fun e _ => this e).trans ?_
    rw [Finset.sum_add_distrib]; simp
  have h3 : ∑ b : Fin 128, ∑ e, 16 * chN c b e ≤ 128 * 3008 := (Finset.sum_le_sum fun b _ => h1 b).trans (by simp)
  rw [Finset.sum_comm] at h2
  simp only [← Finset.mul_sum] at h2 h3
  omega

theorem total_pos : 1 ≤ S c 64 := by
  rw [S_total]
  have : ∃ e, 0 < cN c 0 e := by
    by_contra h
    have h0 : ∑ e, cN c 0 e = 0 := Finset.sum_eq_zero fun e _ => by
      by_contra h'; exact h ⟨e, Nat.pos_of_ne_zero h'⟩
    have := hc.sum 0
    omega
  obtain ⟨e, he⟩ := this
  have h1 : 1 ≤ chN c 0 e := by unfold chN; omega
  have h2 : chN c 0 e ≤ ∑ b, chN c b e := Finset.single_le_sum (f := fun b => chN c b e) (fun _ _ => Nat.zero_le _) (Finset.mem_univ _)
  have h3 : 1 ≤ tF c e := by unfold tF; omega
  exact h3.trans (Finset.single_le_sum (f := fun e => tF c e) (fun _ _ => Nat.zero_le _) (Finset.mem_univ _))

theorem S_le (e : ℕ) (h : e ≤ 64) : S c e ≤ 448 := (S_mono c h).trans (total_le hc)
end

/-- Whose a tile is: how many experts have all their tiles before it. -/
def owner (c : IVec (shape2 128 64) 32) (i : ℕ) : ℕ := Nat.count (fun e => S c (e + 1) ≤ i) 64

theorem count_prefix (P : ℕ → Prop) [DecidablePred P] (hP : ∀ a b, a ≤ b → P b → P a) : ∀ n, ∃ k ≤ n, Nat.count P n = k ∧ (∀ j < k, P j) ∧ (k < n → ¬ P k) := by
  intro n
  induction n with
  | zero => exact ⟨0, le_rfl, rfl, fun j h => absurd h (Nat.not_lt_zero _), fun h => absurd h (Nat.not_lt_zero _)⟩
  | succ n ih =>
    obtain ⟨k, hk, he, h1, h2⟩ := ih
    rw [Nat.count_succ]
    by_cases hn : P n
    · have hkn : k = n := by
        by_contra h
        exact h2 (by omega) (hP _ _ hk hn)
      subst hkn
      refine ⟨k + 1, le_rfl, by rw [if_pos hn, he], fun j hj => ?_, fun h => absurd h (lt_irrefl _)⟩
      exact hP _ _ (Nat.lt_succ_iff.1 hj) hn
    · refine ⟨k, by omega, by rw [if_neg hn, he, Nat.add_zero], h1, fun _ => ?_⟩
      by_cases h : k < n
      · exact h2 h
      · rwa [show k = n by omega]

theorem owner_spec (c : IVec (shape2 128 64) 32) (i : ℕ) (h : i < S c 64) :
    owner c i < 64 ∧ S c (owner c i) ≤ i ∧ i < S c (owner c i + 1) := by
  obtain ⟨k, hk, he, h1, h2⟩ := count_prefix (fun e => S c (e + 1) ≤ i) (fun a b hab hb => (S_mono c (by omega)).trans hb) 64
  have hk' : k < 64 := by
    rcases Nat.lt_or_ge k 64 with h' | h'
    · exact h'
    · have := h1 63 (by omega)
      exact absurd this (by show ¬ S c 64 ≤ i; omega)
  have ho : owner c i = k := he
  rw [ho]
  refine ⟨hk', ?_, Nat.lt_of_not_le (h2 hk')⟩
  rcases Nat.eq_zero_or_pos k with h0 | h0
  · subst h0; exact Nat.zero_le _
  · have := h1 (k - 1) (by omega)
    rwa [show k - 1 + 1 = k by omega] at this

theorem owner_unique (c : IVec (shape2 128 64) 32) (i : ℕ) (h : i < S c 64) (e : ℕ) (h1 : S c e ≤ i) (h2 : i < S c (e + 1)) : e = owner c i := by
  obtain ⟨-, g1, g2⟩ := owner_spec c i h
  rcases Nat.lt_trichotomy e (owner c i) with hh | hh | hh
  · have := S_mono c (show e + 1 ≤ owner c i by omega); omega
  · exact hh
  · have := S_mono c (show owner c i + 1 ≤ e by omega); omega

/-! ## In words -/

section
variable {c : IVec (shape2 128 64) 32} (hc : Counts c) (hb : shape0.BroadcastsInDim (shape2 128 64) ![])
  (hb1 : shape0.BroadcastsInDim (shape1 64) ![]) (hr : (shape2 128 64).ReducesTo [0] (shape1 64)) (hu : 0 < shape0.numel)

/-- The chunks of each block and expert. -/
def chunks (c : IVec (shape2 128 64) 32) : IVec (shape2 128 64) 32 :=
  pyDiv hb (addi c (broadcastInDim (shape2 128 64) ![] hb (constantI shape0 32 15#32))) (constantI shape0 32 16#32)
include hc in
theorem chunks_ap (b e) : chunks hb c (ix2 b e) = BitVec.ofNat 32 (chN c b e) := by
  have := hc.le b e
  refine pyDiv_ap hb _ _ _ (a := cN c b e + 15) (b := 16) ?_ rfl (by omega) (by omega) (by omega)
  show c (ix2 b e) + 15#32 = _
  apply BitVec.eq_of_toNat_eq
  rw [BitVec.toNat_add, BitVec.toNat_ofNat, BitVec.toNat_ofNat]
  rfl

/-- The chunks of each expert. -/
def sums (c : IVec (shape2 128 64) 32) : IVec (shape1 64) 32 := Host.reduce IntOp.addi (chunks hb c) (constantI shape0 32 0#32) hr hu
include hc in
theorem sums_ap (e : Fin 64) : sums hb hr hu c (ix1 e) = BitVec.ofNat 32 (∑ b, chN c b e) :=
  (reduce0 _ hr hu e).trans (sum_ofNat _ _ fun b => chunks_ap hc hb b e)

/-- The tiles of each expert, as the kernel's program has them: 64 is added, 1 taken off. -/
def tilesK (c : IVec (shape2 128 64) 32) : IVec (shape1 64) 32 :=
  pyDiv hb1 (subi (addi (sums hb hr hu c) (broadcastInDim (shape1 64) ![] hb1 (constantI shape0 32 64#32))) (broadcastInDim (shape1 64) ![] hb1 (constantI shape0 32 1#32))) (constantI shape0 32 64#32)
include hc in
theorem tilesK_ap (e : Fin 64) : tilesK hb hb1 hr hu c (ix1 e) = BitVec.ofNat 32 (tN c e.val) := by
  have := sumCh_le hc e
  rw [tN_fin]
  refine pyDiv_ap hb1 _ _ _ (a := (∑ b, chN c b e) + 63) (b := 64) ?_ rfl (by omega) (by omega) (by omega)
  show sums hb hr hu c (ix1 e) + 64#32 - 1#32 = _
  rw [sums_ap hc hb hr hu e]
  apply BitVec.eq_of_toNat_eq
  simp only [BitVec.toNat_sub, BitVec.toNat_add, BitVec.toNat_ofNat]
  omega

/-- The tiles of each expert, as the reference has them. -/
def tilesR (c : IVec (shape2 128 64) 32) : IVec (shape1 64) 32 :=
  pyDiv hb1 (addi (sums hb hr hu c) (broadcastInDim (shape1 64) ![] hb1 (constantI shape0 32 63#32))) (constantI shape0 32 64#32)
include hc in
theorem tilesR_ap (e : Fin 64) : tilesR hb hb1 hr hu c (ix1 e) = BitVec.ofNat 32 (tN c e.val) := by
  have := sumCh_le hc e
  rw [tN_fin]
  refine pyDiv_ap hb1 _ _ _ (a := (∑ b, chN c b e) + 63) (b := 64) ?_ rfl (by omega) (by omega) (by omega)
  show sums hb hr hu c (ix1 e) + 63#32 = _
  rw [sums_ap hc hb hr hu e]
  apply BitVec.eq_of_toNat_eq
  simp only [BitVec.toNat_add, BitVec.toNat_ofNat]
  omega
end

theorem toInt_small {n : ℕ} (h : n < 2 ^ 31) : (BitVec.ofNat 32 n).toInt = n := by
  rw [BitVec.toInt_eq_toNat_of_lt (by rw [BitVec.toNat_ofNat]; omega), BitVec.toNat_ofNat, Nat.mod_eq_of_lt (by omega)]
theorem slt_nat {a b : ℕ} (ha : a < 2 ^ 31) (hb : b < 2 ^ 31) : IntOp.cmpi .slt (BitVec.ofNat 32 a) (BitVec.ofNat 32 b) = 1#1 ↔ a < b := by
  have e : IntOp.cmpi .slt (BitVec.ofNat 32 a) (BitVec.ofNat 32 b) = BitVec.ofBool ((BitVec.ofNat 32 a).slt (BitVec.ofNat 32 b)) := rfl
  rw [e, BitVec.slt_eq_decide, toInt_small ha, toInt_small hb]
  by_cases h : a < b <;> simp [h]
theorem sle_nat {a b : ℕ} (ha : a < 2 ^ 31) (hb : b < 2 ^ 31) : IntOp.cmpi .sle (BitVec.ofNat 32 a) (BitVec.ofNat 32 b) = 1#1 ↔ a ≤ b := by
  have e : IntOp.cmpi .sle (BitVec.ofNat 32 a) (BitVec.ofNat 32 b) = BitVec.ofBool ((BitVec.ofNat 32 a).sle (BitVec.ofNat 32 b)) := rfl
  rw [e, BitVec.sle_eq_decide, toInt_small ha, toInt_small hb]
  by_cases h : a ≤ b <;> simp [h]
theorem sge_nat {a b : ℕ} (ha : a < 2 ^ 31) (hb : b < 2 ^ 31) : IntOp.cmpi .sge (BitVec.ofNat 32 a) (BitVec.ofNat 32 b) = 1#1 ↔ b ≤ a := by
  have e : IntOp.cmpi .sge (BitVec.ofNat 32 a) (BitVec.ofNat 32 b) = BitVec.ofBool ((BitVec.ofNat 32 b).sle (BitVec.ofNat 32 a)) := rfl
  rw [e, BitVec.sle_eq_decide, toInt_small ha, toInt_small hb]
  by_cases h : b ≤ a <;> simp [h]
theorem and_one : ∀ a b : BitVec 1, a &&& b = 1#1 ↔ a = 1#1 ∧ b = 1#1 := by decide

/-! ## Whose a tile is, of tiles `t` that hold `tN` -/

section
variable {c : IVec (shape2 128 64) 32} (hc : Counts c) (t : IVec (shape1 64) 32) (ht : ∀ e : Fin 64, t (ix1 e) = BitVec.ofNat 32 (tN c e.val))

include ht in
theorem total_ap (h : (shape1 64).ReducesTo [0] shape0) (hu : 0 < shape0.numel) :
    Host.reduce IntOp.addi t (constantI shape0 32 0#32) h hu ix0 = BitVec.ofNat 32 (S c 64) :=
  reduce_sum t (tN c) ht h hu

include ht in
theorem ends_ap (init : IVec shape0 32) (hinit : init ix0 = 0#32) (h : (shape1 64).ReduceWindows (![64] : Fin 1 → Nat) ![1] ![63] ![0] (shape1 64)) (hu : 0 < shape0.numel) (e : Fin 64) :
    Host.reduceWindow IntOp.addi ![64] ![1] ![63] ![0] t init h hu (ix1 e) = BitVec.ofNat 32 (S c (e.val + 1)) :=
  cumsum1 rfl t (tN c) ht init hinit h hu e

/-- The experts of the tiles, from the ends of the experts' tiles. -/
def teV (hb1 : (shape1 64).BroadcastsInDim (shape2 1 64) ![1]) (hb2 : (shape1 448).BroadcastsInDim (shape2 448 1) ![0])
    (hb3 : (shape2 448 1).BroadcastsInDim (shape2 448 64) ![0, 1]) (hb4 : (shape2 1 64).BroadcastsInDim (shape2 448 64) ![0, 1])
    (hb5 : shape0.BroadcastsInDim (shape1 448) ![]) (hw : 1 < 32) (h : (shape2 448 64).ReducesTo [1] (shape1 448)) (hu : 0 < shape0.numel)
    (ends : IVec (shape1 64) 32) : IVec (shape1 448) 32 :=
  minsi (Host.reduce IntOp.addi (extui 32 (cmpi .sge (broadcastInDim (shape2 448 64) ![0, 1] hb3 (broadcastInDim (shape2 448 1) ![0] hb2 (iotaInDim (shape1 448) 32 0)))
      (broadcastInDim (shape2 448 64) ![0, 1] hb4 (broadcastInDim (shape2 1 64) ![1] hb1 ends))) hw) (constantI shape0 32 0#32) h hu)
    (broadcastInDim (shape1 448) ![] hb5 (constantI shape0 32 63#32))

include hc in
theorem teV_ap (hb1 hb2 hb3 hb4 hb5 hw h hu) (ends : IVec (shape1 64) 32) (he : ∀ e : Fin 64, ends (ix1 e) = BitVec.ofNat 32 (S c (e.val + 1))) (i : Fin 448) :
    teV hb1 hb2 hb3 hb4 hb5 hw h hu ends (ix1 i) = BitVec.ofNat 32 (min (owner c i.val) 63) := by
  have hcount := reduce_count (n := 448) (m := 64) (by omega) (cmpi .sge (broadcastInDim (shape2 448 64) ![0, 1] hb3 (broadcastInDim (shape2 448 1) ![0] hb2 (iotaInDim (shape1 448) 32 0)))
      (broadcastInDim (shape2 448 64) ![0, 1] hb4 (broadcastInDim (shape2 1 64) ![1] hb1 ends))) hw h hu i (fun e => S c (e + 1) ≤ i.val) (fun q => by
    have e1 : cmpi .sge (broadcastInDim (shape2 448 64) ![0, 1] hb3 (broadcastInDim (shape2 448 1) ![0] hb2 (iotaInDim (shape1 448) 32 0)))
      (broadcastInDim (shape2 448 64) ![0, 1] hb4 (broadcastInDim (shape2 1 64) ![1] hb1 ends)) (ix2 i q) = IntOp.cmpi .sge (BitVec.ofNat 32 i.val) (ends (ix1 q)) := by
      pointwise
      try rfl
    have := S_le hc (q.val + 1) (by omega)
    refine (iff_of_eq (congrArg (· = 1#1) e1)).trans ?_
    rw [he q, sge_nat (by omega) (by omega)])
  have e2 : teV hb1 hb2 hb3 hb4 hb5 hw h hu ends (ix1 i) = IntOp.minsi (Host.reduce IntOp.addi (extui 32 (cmpi .sge (broadcastInDim (shape2 448 64) ![0, 1] hb3 (broadcastInDim (shape2 448 1) ![0] hb2 (iotaInDim (shape1 448) 32 0)))
      (broadcastInDim (shape2 448 64) ![0, 1] hb4 (broadcastInDim (shape2 1 64) ![1] hb1 ends))) hw) (constantI shape0 32 0#32) h hu (ix1 i)) 63#32 := rfl
  refine (e2.trans (congrArg (fun x => IntOp.minsi x 63#32) hcount)).trans ?_
  have ho : owner c i.val ≤ 64 := Nat.count_le _
  show (if (BitVec.ofNat 32 (owner c i.val)).slt 63#32 then BitVec.ofNat 32 (owner c i.val) else 63#32) = _
  rw [BitVec.slt_eq_decide, toInt_small (by omega), show (63#32).toInt = 63 from by decide]
  by_cases hk : owner c i.val < 63
  · rw [if_pos (by simpa using hk), Nat.min_eq_left (by omega)]
  · rw [if_neg (by simpa using hk), Nat.min_eq_right (by omega)]

/-- Where an expert's tiles begin, in tiles: the sum of the tiles of the experts before it. -/
def begins (hb1 : (shape1 64).BroadcastsInDim (shape2 1 64) ![1]) (hb2 : (shape1 64).BroadcastsInDim (shape2 64 1) ![0])
    (hb3 : (shape2 64 1).BroadcastsInDim (shape2 64 64) ![0, 1]) (hb4 : (shape2 1 64).BroadcastsInDim (shape2 64 64) ![0, 1])
    (hb5 : shape0.BroadcastsInDim (shape2 64 64) ![]) (h : (shape2 64 64).ReducesTo [1] (shape1 64)) (hu : 0 < shape0.numel) (t : IVec (shape1 64) 32) : IVec (shape1 64) 32 :=
  Host.reduce IntOp.addi (select (cmpi .slt (broadcastInDim (shape2 64 64) ![0, 1] hb4 (broadcastInDim (shape2 1 64) ![1] hb1 (iotaInDim (shape1 64) 32 0))) (broadcastInDim (shape2 64 64) ![0, 1] hb3 (broadcastInDim (shape2 64 1) ![0] hb2 (iotaInDim (shape1 64) 32 0))))
    (broadcastInDim (shape2 64 64) ![0, 1] hb4 (broadcastInDim (shape2 1 64) ![1] hb1 t)) (broadcastInDim (shape2 64 64) ![] hb5 (id (constantI shape0 32 0#32)))) (constantI shape0 32 0#32) h hu

include ht in
theorem begins_ap (hb1 hb2 hb3 hb4 hb5 h hu) (e : Fin 64) : begins hb1 hb2 hb3 hb4 hb5 h hu t (ix1 e) = BitVec.ofNat 32 (S c e.val) := by
  have hs : S c e.val = ∑ j : Fin 64, if j.val < e.val then tN c j.val else 0 := by
    rw [Fin.sum_univ_eq_sum_range (fun j => if j < e.val then tN c j else 0) 64, ← Finset.sum_filter]
    refine Finset.sum_congr ?_ fun _ _ => rfl
    ext j
    simp only [Finset.mem_range, Finset.mem_filter]
    omega
  rw [hs]
  refine (reduce1 64 _ h hu e).trans (sum_ofNat _ _ fun j => ?_)
  have e1 : select (cmpi .slt (broadcastInDim (shape2 64 64) ![0, 1] hb4 (broadcastInDim (shape2 1 64) ![1] hb1 (iotaInDim (shape1 64) 32 0))) (broadcastInDim (shape2 64 64) ![0, 1] hb3 (broadcastInDim (shape2 64 1) ![0] hb2 (iotaInDim (shape1 64) 32 0))))
    (broadcastInDim (shape2 64 64) ![0, 1] hb4 (broadcastInDim (shape2 1 64) ![1] hb1 t)) (broadcastInDim (shape2 64 64) ![] hb5 (id (constantI shape0 32 0#32))) (ix2 e j)
      = if IntOp.cmpi .slt (BitVec.ofNat 32 j.val) (BitVec.ofNat 32 e.val) = 1#1 then t (ix1 j) else 0#32 := by
    pointwise
    try rfl
  rw [e1]
  by_cases hj : j.val < e.val
  · rw [if_pos ((slt_nat (by omega) (by omega)).2 hj), if_pos hj, ht]
  · rw [if_neg (fun h' => hj ((slt_nat (by omega) (by omega)).1 h')), if_neg hj]
end

/-- A row lies between the beginning and the end of an expert's tiles exactly when the expert has its tile. -/
theorem between {c : IVec (shape2 128 64) 32} (hc : Counts c) (r e : ℕ) (hr : r < 458752) (he : e < 64) (b t : BitVec 32)
    (hb : b = BitVec.ofNat 32 (S c e)) (ht : t = BitVec.ofNat 32 (tN c e)) :
    IntOp.cmpi .sle (1024#32 * b) (BitVec.ofNat 32 r) &&& IntOp.cmpi .slt (BitVec.ofNat 32 r) (1024#32 * b + 1024#32 * t) = 1#1
      ↔ S c e ≤ r / 1024 ∧ r / 1024 < S c (e + 1) := by
  have h1 := S_le hc (e + 1) (by omega)
  rw [S_succ] at h1 ⊢
  have e1 : 1024#32 * b = BitVec.ofNat 32 (1024 * S c e) := by
    rw [hb]; apply BitVec.eq_of_toNat_eq; rw [BitVec.toNat_mul, BitVec.toNat_ofNat, BitVec.toNat_ofNat, BitVec.toNat_ofNat]; omega
  have e2 : 1024#32 * b + 1024#32 * t = BitVec.ofNat 32 (1024 * (S c e + tN c e)) := by
    rw [e1, ht]; apply BitVec.eq_of_toNat_eq; rw [BitVec.toNat_add, BitVec.toNat_mul, BitVec.toNat_ofNat, BitVec.toNat_ofNat, BitVec.toNat_ofNat, BitVec.toNat_ofNat]; omega
  rw [e2, e1, and_one, sle_nat (by omega) (by omega), slt_nat (by omega) (by omega)]
  omega
end Cert.Proof.MoeLayout
end
-- ==== Proof.Moe.Ref.lean ====
module
public import proofs.«01_k».proof.Proof.Gen.ExpertsRefIdeal.Run
public import proofs.«01_k».proof.Proof.Moe.Layout
public import Idealize.ShloMosaic.Lib.Pointwise
public import Idealize.ShloMosaic.Lib.IdealHost
@[expose] public section
set_option maxRecDepth 16384
/-! The reference of the experts' call: what it says at a row and a column. -/
noncomputable section
namespace Cert.Proof.MoeRef
open Cert.ExpertsRefIdeal Cert.ExpertsRefIdeal.Gen
open Idealize.ShloMosaic Idealize.ShloMosaic.TcCoe
open Cert.Proof.MoeLayout (Counts)

/-- The product of the rows with every expert's first (or third) matrix. -/
def upR (x : FVec Ideal S458752x1024 .bf16) (w : FVec Ideal S64x1024x256 .f32) : FVec Ideal S458752x64x256 .f32 :=
  Host.dotGeneral dot_S458752x1024_S64x1024x256_S458752x64x256_1_1_0_02_n_n none (extf .f32 x bitsLt_bf16_f32) w
/-- The tiles of each expert. -/
def tilesR (n : IVec S128x64 32) : IVec S64 32 := MoeLayout.tilesR bcast_S_S128x64 bcast_S_S64 reducesTo_S128x64_S64_d0 h_S_ n
/-- Where an expert's tiles begin. -/
def beginR (t : IVec S64 32) : IVec S64 32 :=
  MoeLayout.begins bcast_S64_S1x64_1 bcast_S64_S64x1_0 bcast_S64x1_S64x64_0_1 bcast_S1x64_S64x64_0_1 bcast_S_S64x64 reducesTo_S64x64_S64_d1 h_S_ t
/-- Whether a row goes to an expert. -/
def gateR (b t : IVec S64 32) : FVec Ideal S458752x64 .f32 :=
  uitofp .f32 (andi (cmpi .sle (broadcastInDim S458752x64 ![0, 1] bcast_S1x64_S458752x64_0_1 (broadcastInDim S1x64 ![1] bcast_S64_S1x64_1 (muli (broadcastInDim S64 ![] bcast_S_S64 (constantI S_ 32 1024#32)) b)))
      (broadcastInDim S458752x64 ![0, 1] bcast_S458752x1_S458752x64_0_1 (broadcastInDim S458752x1 ![0] bcast_S458752_S458752x1_0 (iotaInDim S458752 32 0))))
    (cmpi .slt (broadcastInDim S458752x64 ![0, 1] bcast_S458752x1_S458752x64_0_1 (broadcastInDim S458752x1 ![0] bcast_S458752_S458752x1_0 (iotaInDim S458752 32 0)))
      (broadcastInDim S458752x64 ![0, 1] bcast_S1x64_S458752x64_0_1 (addi (broadcastInDim S1x64 ![1] bcast_S64_S1x64_1 (muli (broadcastInDim S64 ![] bcast_S_S64 (constantI S_ 32 1024#32)) b))
        (muli (broadcastInDim S1x64 ![] bcast_S_S1x64 (constantI S_ 32 1024#32)) (broadcastInDim S1x64 ![1] bcast_S64_S1x64_1 t))))))
def oneR : FVec Ideal S458752x64x256 .f32 := broadcastInDim S458752x64x256 ![] bcast_S_S458752x64x256 (constant S_ .f32 0x3F800000#32)
def siluR (a : FVec Ideal S458752x64x256 .f32) : FVec Ideal S458752x64x256 .f32 := mulf a (Host.divf oneR (addf oneR (Host.exp (Host.negf a))))
def hidR (a b : FVec Ideal S458752x64x256 .f32) (g : FVec Ideal S458752x64 .f32) : FVec Ideal S458752x64x256 .f32 :=
  mulf (mulf (siluR a) b) (broadcastInDim S458752x64x256 ![0, 1, 2] bcast_S458752x64x1_S458752x64x256_0_1_2 (broadcastInDim S458752x64x1 ![0, 1] bcast_S458752x64_S458752x64x1_0_1 g))
def downR (h : FVec Ideal S458752x64x256 .f32) (w : FVec Ideal S64x256x1024 .f32) : FVec Ideal S458752x1024 .bf16 :=
  truncf .bf16 (Host.dotGeneral dot_S458752x64x256_S64x256x1024_S458752x1024_12_01_0_2_n_n none h w) bitsLt_bf16_f32
def resR (n : IVec S128x64 32) (x : FVec Ideal S458752x1024 .bf16) (w1 w3 : FVec Ideal S64x1024x256 .f32) (w2 : FVec Ideal S64x256x1024 .f32) :
    FVec Ideal S458752x1024 .bf16 := downR (hidR (upR x w1) (upR x w3) (gateR (beginR (tilesR n)) (tilesR n))) w2

theorem upR_apply (x w) (t : Fin 458752) (e : Fin 64) (f : Fin 256) : upR x w (ix3 t e f) = ∑ k : Fin 1024, x (ix2 t k) * w (ix3 e k f) := by
  pointwise [upR]
theorem gateR_apply (b t : IVec S64 32) (r : Fin 458752) (e : Fin 64) :
    gateR b t (ix2 r e) = (((IntOp.cmpi .sle (1024#32 * b (ix1 e)) (BitVec.ofNat 32 r.val) &&& IntOp.cmpi .slt (BitVec.ofNat 32 r.val) (1024#32 * b (ix1 e) + 1024#32 * t (ix1 e))).toNat : ℝ) : EReal) := by
  pointwise [gateR]
  rfl
theorem hidR_apply (a b) (g) (t : Fin 458752) (e : Fin 64) (f : Fin 256) :
    hidR a b g (ix3 t e f) = a (ix3 t e f) * Ideal.logistic (a (ix3 t e f)) * b (ix3 t e f) * g (ix2 t e) := by
  pointwise [hidR, siluR, oneR]
  rfl
theorem downR_apply (h w) (t : Fin 458752) (d : Fin 1024) : downR h w (ix2 t d) = ∑ e : Fin 64, ∑ f : Fin 256, h (ix3 t e f) * w (ix3 e f d) := by
  pointwise [downR]

/-- The inner value of one expert for a row: the gated product of its two sums. -/
def hid (x : Fin 1024 → EReal) (w1 w3 : Fin 1024 → EReal) : EReal :=
  (∑ k, x k * w1 k) * Ideal.logistic (∑ k, x k * w1 k) * ∑ k, x k * w3 k

theorem bit_one (a : BitVec 1) (h : a = 1#1) : ((a.toNat : ℝ) : EReal) = 1 := by
  subst h; simp
theorem bit_zero (a : BitVec 1) (h : a ≠ 1#1) : ((a.toNat : ℝ) : EReal) = 0 := by
  rcases (by decide : ∀ a : BitVec 1, a = 0#1 ∨ a = 1#1) a with rfl | rfl
  · simp
  · exact absurd rfl h

/-- The gate is one at the owner of a row's tile. -/
theorem gate_iff {n : IVec S128x64 32} (hc : Counts n) (r : Fin 458752) (e : Fin 64) :
    IntOp.cmpi .sle (1024#32 * beginR (tilesR n) (ix1 e)) (BitVec.ofNat 32 r.val) &&& IntOp.cmpi .slt (BitVec.ofNat 32 r.val) (1024#32 * beginR (tilesR n) (ix1 e) + 1024#32 * tilesR n (ix1 e)) = 1#1
      ↔ MoeLayout.S n e.val ≤ r.val / 1024 ∧ r.val / 1024 < MoeLayout.S n (e.val + 1) :=
  MoeLayout.between hc r.val e.val r.isLt e.isLt _ _
    (MoeLayout.begins_ap (c := n) (tilesR n) (MoeLayout.tilesR_ap hc _ _ _ _) _ _ _ _ _ _ _ e) (MoeLayout.tilesR_ap hc _ _ _ _ e)

/-- A row of a tile in use: its own expert's block. -/
theorem resR_used {n : IVec S128x64 32} (hc : Counts n) (x w1 w3 w2) (t : Fin 458752) (d : Fin 1024) (ht : t.val / 1024 < MoeLayout.S n 64)
    (o : Fin 64) (ho : o.val = MoeLayout.owner n (t.val / 1024)) :
    resR n x w1 w3 w2 (ix2 t d) = ∑ f : Fin 256, hid (fun k => x (ix2 t k)) (fun k => w1 (ix3 o k f)) (fun k => w3 (ix3 o k f)) * w2 (ix3 o f d) := by
  obtain ⟨-, s1, s2⟩ := MoeLayout.owner_spec n (t.val / 1024) ht
  rw [← ho] at s1 s2
  unfold resR
  rw [downR_apply, Finset.sum_eq_single o]
  · refine Finset.sum_congr rfl fun f _ => ?_
    rw [hidR_apply, gateR_apply, bit_one _ ((gate_iff hc t o).2 ⟨s1, s2⟩), mul_one, upR_apply, upR_apply]
    rfl
  · intro e _ hne
    refine Finset.sum_eq_zero fun f _ => ?_
    rw [hidR_apply, gateR_apply, bit_zero _ (fun h => hne (Fin.ext ?_)), mul_zero, zero_mul]
    obtain ⟨g1, g2⟩ := (gate_iff hc t e).1 h
    exact (MoeLayout.owner_unique n _ ht e.val g1 g2).trans ho.symm
  · intro h; exact absurd (Finset.mem_univ _) h

/-- A row past the tiles in use: zero. -/
theorem resR_unused {n : IVec S128x64 32} (hc : Counts n) (x w1 w3 w2) (t : Fin 458752) (d : Fin 1024) (ht : ¬ t.val / 1024 < MoeLayout.S n 64) :
    resR n x w1 w3 w2 (ix2 t d) = 0 := by
  unfold resR
  rw [downR_apply]
  refine Finset.sum_eq_zero fun e _ => Finset.sum_eq_zero fun f _ => ?_
  rw [hidR_apply, gateR_apply, bit_zero _ (fun h => ?_), mul_zero, zero_mul]
  have g2 := ((gate_iff hc t e).1 h).2
  have := MoeLayout.S_mono n (show e.val + 1 ≤ 64 by omega)
  omega

set_option maxHeartbeats 1600000 in
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v43) = resR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (by unfold Cert.ExpertsRefIdeal.Value.res_main_v43; rfl), (h c).2⟩) (Cert.ExpertsRefIdeal.Value.run (F := Ideal) m ρ)

end Cert.Proof.MoeRef
end
-- ==== Proof.Moe.Block.lean ====
module
public import proofs.«01_k».proof.Proof.Moe.Run
public import proofs.«01_k».proof.Proof.Moe.Ref
public import Idealize.ShloMosaic.Lib.Pointwise
public import Idealize.ShloMosaic.Lib.Pipeline.ValueKit.Geometry
@[expose] public section
set_option maxRecDepth 16384
/-! What the experts' kernel body stores for a tile, and the blocks it reads. -/
noncomputable section
namespace Cert.Proof.Moe
open Cert.ExpertsIdeal Cert.ExpertsIdeal.Gen
open Idealize.ShloMosaic Idealize.ShloMosaic.TcCoe
open Cert.Proof.MoeRef (hid)

theorem pay_apply (x : Vec Ideal S1024x1024 .bf16) (w1 w3 : Vec Ideal S1x1024x256 .f32) (w2 : Vec Ideal S1x256x1024 .f32) (p d : Fin 1024) :
    k0_pay1 x w1 w3 w2 (ix2 p d) = ∑ f : Fin 256, hid (fun k => x (ix2 p k)) (fun k => w1 (ix3 0 k f)) (fun k => w3 (ix3 0 k f)) * w2 (ix3 0 f d) := by
  pointwise [k0_pay1]
  rfl

variable (m : (ℓ : Loc nD τ sig) → Buf (Elt Ideal) ℓ) (c : Dev nD)

theorem index0 (hO : Ok m) (hR : Rng (tbl m)) (t : Fin (cfgM m hO).N) : ((cfgM m hO).win 0).index t = ![tile (tbl m) t.val, 0] := by
  have := map0 (tbl m) hR ((cfgM m hO).grid.coords t) inb_S1_S1_0 numel1_S1
  rw [coord_eq m hO t] at this
  exact this

/-- The grid point as a tile. -/
def ptA (a : (pcfg0 (F := Ideal)).Adm) (t : Fin (cfg0 a).N) : Fin 448 := ⟨t.val, lt_of_lt_of_eq t.isLt (N_eq_adm a)⟩
theorem coord_ptA (a : (pcfg0 (F := Ideal)).Adm) (t : Fin (cfg0 a).N) : (cfg0 a).grid.coords t 0 = ptA a t := Fin.ext (coord_eq_adm a t)
def pt (hO : Ok m) (t : Fin (cfgM m hO).N) : Fin 448 := ⟨t.val, lt_of_lt_of_eq t.isLt (N_eq m hO)⟩
theorem coord_pt (hO : Ok m) (t : Fin (cfgM m hO).N) : (cfgM m hO).grid.coords t 0 = pt m hO t := Fin.ext (coord_eq m hO t)

theorem blk0 (hO : Ok m) (hR : Rng (tbl m)) (t : Fin (cfgM m hO).N) (p k : Fin 1024) (h : 1024 * tile (tbl m) t.val + p.val < 458752) :
    iblk m hO c 0 t (ix2 p k) = V m c main_arg1 (ix2 ⟨1024 * tile (tbl m) t.val + p.val, h⟩ k) := by
  blk_simp [iblk]
  exact congrArg (V m c main_arg1) (by blk_ext [index0 m hO hR])

theorem index1_adm (a : (pcfg0 (F := Ideal)).Adm) (t : Fin (cfg0 a).N) : ((cfg0 a).win 1).index t = ![(te a.1 (ptA a t)).toNat, 0, 0] := by
  rw [← coord_ptA a t]
  exact map1 a.1 ((cfg0 a).grid.coords t) _ _
theorem blk1_adm (a : (pcfg0 (F := Ideal)).Adm) (B : Vec Ideal S64x1024x256 .f32) (t : Fin (cfg0 a).N) (k : Fin 1024) (f : Fin 256) (h : (te a.1 (ptA a t)).toNat < 64) :
    (((cfg0 a).win 1).blk t).view.read (Elt Ideal) B (ix3 0 k f) = B (ix3 ⟨(te a.1 (ptA a t)).toNat, h⟩ k f) := by
  blk_simp
  exact congrArg B (by blk_ext [index1_adm a])
theorem blk1 (hO : Ok m) (t : Fin (cfgM m hO).N) (k : Fin 1024) (f : Fin 256) (h : (te (tbl m) (pt m hO t)).toNat < 64) :
    iblk m hO c 1 t (ix3 0 k f) = V m c main_arg2 (ix3 ⟨(te (tbl m) (pt m hO t)).toNat, h⟩ k f) :=
  blk1_adm (adm m hO) (V m c main_arg2) t k f h

theorem index2_adm (a : (pcfg0 (F := Ideal)).Adm) (t : Fin (cfg0 a).N) : ((cfg0 a).win 2).index t = ![(te a.1 (ptA a t)).toNat, 0, 0] := by
  rw [← coord_ptA a t]
  exact map2 a.1 ((cfg0 a).grid.coords t) _ _
theorem blk2_adm (a : (pcfg0 (F := Ideal)).Adm) (B : Vec Ideal S64x1024x256 .f32) (t : Fin (cfg0 a).N) (k : Fin 1024) (f : Fin 256) (h : (te a.1 (ptA a t)).toNat < 64) :
    (((cfg0 a).win 2).blk t).view.read (Elt Ideal) B (ix3 0 k f) = B (ix3 ⟨(te a.1 (ptA a t)).toNat, h⟩ k f) := by
  blk_simp
  exact congrArg B (by blk_ext [index2_adm a])
theorem blk2 (hO : Ok m) (t : Fin (cfgM m hO).N) (k : Fin 1024) (f : Fin 256) (h : (te (tbl m) (pt m hO t)).toNat < 64) :
    iblk m hO c 2 t (ix3 0 k f) = V m c main_arg3 (ix3 ⟨(te (tbl m) (pt m hO t)).toNat, h⟩ k f) :=
  blk2_adm (adm m hO) (V m c main_arg3) t k f h

theorem index3_adm (a : (pcfg0 (F := Ideal)).Adm) (t : Fin (cfg0 a).N) : ((cfg0 a).win 3).index t = ![(te a.1 (ptA a t)).toNat, 0, 0] := by
  rw [← coord_ptA a t]
  exact map3 a.1 ((cfg0 a).grid.coords t) _ _
theorem blk3_adm (a : (pcfg0 (F := Ideal)).Adm) (B : Vec Ideal S64x256x1024 .f32) (t : Fin (cfg0 a).N) (k : Fin 256) (f : Fin 1024) (h : (te a.1 (ptA a t)).toNat < 64) :
    (((cfg0 a).win 3).blk t).view.read (Elt Ideal) B (ix3 0 k f) = B (ix3 ⟨(te a.1 (ptA a t)).toNat, h⟩ k f) := by
  blk_simp
  exact congrArg B (by blk_ext [index3_adm a])
theorem blk3 (hO : Ok m) (t : Fin (cfgM m hO).N) (k : Fin 256) (f : Fin 1024) (h : (te (tbl m) (pt m hO t)).toNat < 64) :
    iblk m hO c 3 t (ix3 0 k f) = V m c main_arg4 (ix3 ⟨(te (tbl m) (pt m hO t)).toNat, h⟩ k f) :=
  blk3_adm (adm m hO) (V m c main_arg4) t k f h

abbrev argX : FVec Ideal S458752x1024 .bf16 := m ((c : Thread nD τ).loc main_arg1)
abbrev argW1 : FVec Ideal S64x1024x256 .f32 := m ((c : Thread nD τ).loc main_arg2)
abbrev argW3 : FVec Ideal S64x1024x256 .f32 := m ((c : Thread nD τ).loc main_arg3)
abbrev argW2 : FVec Ideal S64x256x1024 .f32 := m ((c : Thread nD τ).loc main_arg4)

/-- The reference's result of this program's arguments. -/
def want : FVec Ideal S458752x1024 .bf16 :=
  MoeRef.resR (m ((c : Thread nD τ).loc main_arg0)) (argX m c) (argW1 m c) (argW3 m c) (argW2 m c)

/-- The result of a row whatever the tile's number: its expert's. -/
def G : FVec Ideal S458752x1024 .bf16 := fun y =>
  ∑ f : Fin 256, hid (fun k => argX m c (ix2 (y 0) k)) (fun k => argW1 m c (ix3 (exp (y 0)) k f)) (fun k => argW3 m c (ix3 (exp (y 0)) k f)) * argW2 m c (ix3 (exp (y 0)) f (y 1))
where exp (r : Fin 458752) : Fin 64 := ⟨(te (tbl m) ⟨r.val / 1024, by omega⟩).toNat % 64, Nat.mod_lt _ (by norm_num)⟩

theorem held_used (hO : Ok m) (hR : Rng (tbl m)) (t : Fin (cfgM m hO).N) : tile (tbl m) (held m hO t).val = tile (tbl m) t.val := by
  show min (min _ _) _ = min _ _
  omega

theorem tile_val (hO : Ok m) (t : Fin (cfgM m hO).N) : (held m hO t).val = tile (tbl m) t.val := rfl

/-- What is left for a tile in use is its rows' results. -/
theorem out_used (hO : Ok m) (hR : Rng (tbl m)) (t : Fin (cfgM m hO).N) (ht : tile (tbl m) t.val = t.val) (p d : Fin 1024) (h : 1024 * t.val + p.val < 458752) :
    outAt m hO c t (ix2 p d) = G m c (ix2 ⟨1024 * t.val + p.val, h⟩ d) := by
  have he : (te (tbl m) (pt m hO t)).toNat < 64 := hR.te_lt _
  have hexp : G.exp m ⟨1024 * t.val + p.val, h⟩ = ⟨_, he⟩ := by
    apply Fin.ext
    have e1 : (⟨(1024 * t.val + p.val) / 1024, by omega⟩ : Fin 448) = pt m hO t := by
      apply Fin.ext
      show _ = t.val
      have := p.isLt
      show (1024 * t.val + p.val) / 1024 = t.val
      omega
    show (te (tbl m) _).toNat % 64 = _
    rw [e1, Nat.mod_eq_of_lt he]
  show _ = ∑ f : Fin 256, hid (fun k => argX m c (ix2 ⟨1024 * t.val + p.val, h⟩ k)) (fun k => argW1 m c (ix3 (G.exp m ⟨1024 * t.val + p.val, h⟩) k f)) (fun k => argW3 m c (ix3 (G.exp m ⟨1024 * t.val + p.val, h⟩) k f)) * argW2 m c (ix3 (G.exp m ⟨1024 * t.val + p.val, h⟩) f d)
  rw [hexp]
  unfold outAt
  refine (pay_apply _ _ _ _ p d).trans (Finset.sum_congr rfl fun f _ => ?_)
  have x0 : (fun k : Fin 1024 => iblk m hO c 0 t (ix2 p k)) = fun k => argX m c (ix2 ⟨1024 * t.val + p.val, h⟩ k) := funext fun k =>
    (blk0 m c hO hR t p k (by rw [ht]; exact h)).trans ((congrFun (V_arg m c).2.1 _).trans (congrArg (argX m c) (congrArg (fun r => ix2 r k) (Fin.ext (by show 1024 * tile (tbl m) t.val + p.val = 1024 * t.val + p.val; rw [ht])))))
  have x1 : (fun k : Fin 1024 => iblk m hO c 1 t (ix3 0 k f)) = fun k => argW1 m c (ix3 ⟨_, he⟩ k f) := funext fun k =>
    (blk1 m c hO t k f he).trans (congrFun (V_arg m c).2.2.1 _)
  have x2 : (fun k : Fin 1024 => iblk m hO c 2 t (ix3 0 k f)) = fun k => argW3 m c (ix3 ⟨_, he⟩ k f) := funext fun k =>
    (blk2 m c hO t k f he).trans (congrFun (V_arg m c).2.2.2.1 _)
  have x3 : iblk m hO c 3 t (ix3 0 f d) = argW2 m c (ix3 ⟨_, he⟩ f d) :=
    (blk3 m c hO t f d he).trans (congrFun (V_arg m c).2.2.2.2 _)
  exact congrArg₂ (fun a b : EReal => a * b) (congr (congr (congrArg hid x0) x1) x2) x3

theorem ix2_eta (z : S1024x1024.Idx) : z = ix2 (z 0 : Fin 1024) (z 1 : Fin 1024) := by
  funext a
  match a with
  | 0 => rfl
  | 1 => rfl

theorem flushed4 (hO : Ok m) (hR : Rng (tbl m)) (t : Fin (cfgM m hO).N) :
    (dats m hO 0 c).flushed 4 t = (((cfgM m hO).win 4).blk t).view.read (Elt Ideal) (G m c) := by
  funext y
  blk_simp
  rw [after4]
  have hp := hR.nt_pos
  have hl := hR.nt_le
  have hN := N_eq m hO
  have ht := lt_of_lt_of_eq t.isLt hN
  let z : S1024x1024.Idx := y
  have hr : (z 0).val < 1024 := (z 0).isLt
  have htl : tile (tbl m) t.val < 448 := by unfold tile; omega
  have hh : 1024 * (held m hO t).val + (z 0).val < 458752 := by rw [tile_val]; omega
  refine (congrArg (outAt m hO c (held m hO t)) (ix2_eta z)).trans ((out_used m c hO hR (held m hO t) (by rw [held_used m hO hR, tile_val]) (z 0) (z 1) hh).trans (congrArg (G m c) ?_))
  blk_ext [index4 m hO hR, tile_val]
  · have e1 := tile_val m hO t
    show 1024 * (held m hO t).val + (z 0).val = tile (tbl m) t.val * 1024 + (z 0).val
    omega
  · rfl

/-- Every row of a tile in use ends with its result. -/
theorem final (hO : Ok m) (hR : Rng (tbl m)) (r : Fin 458752) (d : Fin 1024) (hr : r.val / 1024 < (nt (tbl m)).toNat) :
    (dats m hO 0 c).arrAt 4 (cfgM m hO).N (ix2 r d) = G m c (ix2 r d) := by
  have hp := hR.nt_pos
  have hl := hR.nt_le
  have hN := N_eq m hO
  have hx : ∃ n : ℕ, n < 448 ∧ (n + 1 < (nt (tbl m)).toNat ∨ n + 1 = 448) ∧ tile (tbl m) n = r.val / 1024 := by
    by_cases h : r.val / 1024 + 1 < (nt (tbl m)).toNat
    · exact ⟨r.val / 1024, by omega, Or.inl h, by unfold tile; omega⟩
    · exact ⟨447, by omega, Or.inr rfl, by unfold tile; omega⟩
  obtain ⟨n, hn, hf, ht⟩ := hx
  refine (dats m hO 0 c).arrAt_apply_of_mem 4 (G m c) (fun t _ => flushed4 m c hO hR t) (cfgM m hO).N ⟨n, lt_of_lt_of_eq hn hN.symm⟩ (ix2 r d) (lt_of_lt_of_eq hn hN.symm) ?_ ?_
  · exact (flush4 m hO hR _).trans (decide_eq_true hf)
  · refine (((cfgM m hO).win 4).emb_mem_blk_iff _ (ix2 r d) rfl).mpr fun (a : Fin 2) => ?_
    rw [index4 m hO hR]
    fin_cases a
    · exact ⟨by show tile (tbl m) n * 1024 ≤ r.val; omega, by show r.val < tile (tbl m) n * 1024 + 1024; omega⟩
    · exact ⟨by show 0 * 1024 ≤ d.val; omega, by have := d.isLt; show d.val < 0 * 1024 + 1024; omega⟩
end Cert.Proof.Moe
end
-- ==== Proof.Moe.Frames.lean ====
module
public import proofs.«01_k».proof.Proof.Moe.Run
public import proofs.«01_k».proof.Proof.Moe.Layout
public import proofs.«01_k».proof.Proof.Gen.Experts.Launch
public import proofs.«01_k».proof.Proof.Gen.ExpertsRefIdeal.Run
public import proofs.«01_k».proof.Defs
@[expose] public section
set_option maxRecDepth 16384
/-! The range of the tables from the precondition, and the frames of the experts' programs. -/
noncomputable section
namespace Cert.Proof.Moe
open Cert.ExpertsIdeal Cert.ExpertsIdeal.Gen
open Idealize.ShloMosaic Idealize.ShloMosaic.TcCoe Idealize.SL.Sem

variable {F : FTy → Type} [FloatOps F]

instance preFacts : Cert.Pre_counts_of_routing.Facts := ⟨by decide, by decide, by decide, by decide, by decide, by decide⟩

theorem all_one : ∀ a b c : BitVec 1, (a &&& b) &&& c = 1#1 → a = 1#1 ∧ b = 1#1 ∧ c = 1#1 := by decide
theorem ofBool_one {b : Bool} (h : BitVec.ofBool b = 1#1) : b = true := by cases b <;> first | rfl | exact absurd h (by decide)

theorem toNat_of_range {x : BitVec 32} {k n : ℕ} (hn : n < 1024) (hk : k < 1024) (h1 : (BitVec.ofNat 32 k).sle x = true) (h2 : x.sle (BitVec.ofNat 32 n) = true) :
    k ≤ x.toNat ∧ x.toNat ≤ n := by
  have e : ∀ j : ℕ, j < 1024 → (BitVec.ofNat 32 j).toInt = j := fun j hj => by
    rw [BitVec.toInt_eq_toNat_cond, BitVec.toNat_ofNat, if_pos (by omega)]; omega
  rw [BitVec.sle_eq_decide, e k hk] at h1
  rw [BitVec.sle_eq_decide, e n hn] at h2
  have h1 := of_decide_eq_true h1
  have h2 := of_decide_eq_true h2
  have hx := x.isLt
  rw [BitVec.toInt_eq_toNat_cond] at h1 h2
  split at h1 <;> split at h2 <;> omega
/-- The precondition, read at a block and an expert. -/
theorem pre_at (a0 : IVec S128x64 32) (a1 : FVec F S458752x1024 .bf16) (a2 a3 : FVec F S64x1024x256 .f32) (a4 : FVec F S64x256x1024 .f32)
    (h : Cert.Pre_counts_of_routing.fn (F := F) a0 a1 a2 a3 a4 = fun _ => 1#1) : MoeLayout.Counts a0 := by
  have k : ∀ b e, _ := fun (b : Fin 128) (e : Fin 64) => all_one _ _ _ (congrFun h (ix2 b e))
  have le : ∀ b e, MoeLayout.cN a0 b e ≤ 256 := fun b e => by
    obtain ⟨h1, h2, -⟩ := k b e
    exact (toNat_of_range (k := 0) (n := 256) (by decide) (by decide) (ofBool_one h1) (ofBool_one h2)).2
  refine ⟨le, fun b => ?_⟩
  obtain ⟨-, -, h3⟩ := k b 0
  have h4 : Host.reduce IntOp.addi a0 (constantI S_ 32 0#32) Cert.Pre_counts_of_routing.Facts.reducesTo_S128x64_S128_d1 Cert.Pre_counts_of_routing.Facts.h_S_ (ix1 b) = 2048#32 := by
    have h5 : IntOp.cmpi .eq (Host.reduce IntOp.addi a0 (constantI S_ 32 0#32) Cert.Pre_counts_of_routing.Facts.reducesTo_S128x64_S128_d1 Cert.Pre_counts_of_routing.Facts.h_S_ (ix1 b)) 2048#32 = 1#1 := by
      refine Eq.trans ?_ h3
      pointwise
    exact eq_of_beq (ofBool_one h5)
  rw [MoeLayout.reduce1 128 a0 _ _ b, MoeLayout.sum_ofNat _ (fun e => MoeLayout.cN a0 b e) (fun e => by show a0 (ix2 b e) = BitVec.ofNat 32 (a0 (ix2 b e)).toNat; rw [BitVec.ofNat_toNat, BitVec.setWidth_eq])] at h4
  have h6 := congrArg BitVec.toNat h4
  rw [BitVec.toNat_ofNat] at h6
  have h7 : ∑ e, MoeLayout.cN a0 b e ≤ 64 * 256 := (Finset.sum_le_sum fun e _ => le b e).trans (by simp)
  rw [Nat.mod_eq_of_lt (by omega)] at h6
  exact h6

variable (m : (ℓ : Loc nD τ sig) → Buf (Elt F) ℓ) (ρ : Dev nD → PrngReg)

abbrev argN : IVec S128x64 32 := m (((0 : Dev nD) : Thread nD τ).loc main_arg0)
def tilesK (n : IVec S128x64 32) : IVec S64 32 := MoeLayout.tilesK bcast_S_S128x64 bcast_S_S64 reducesTo_S128x64_S64_d0 h_S_ n
def endsK (t : IVec S64 32) : IVec S64 32 :=
  Host.reduceWindow IntOp.addi ![64] ![1] ![63] ![0] t (broadcastInDim S_ ![] bcast_S_S_ (constantI S_ 32 0#32)) reduceWindows_S64_S64_w64s1p63_0 h_S_
def teK (t : IVec S64 32) : IVec S448 32 :=
  MoeLayout.teV bcast_S64_S1x64_1 bcast_S448_S448x1_0 bcast_S448x1_S448x64_0_1 bcast_S1x64_S448x64_0_1 bcast_S_S448 natLt_1_32 reducesTo_S448x64_S448_d1 h_S_ (endsK t)
def totalK (t : IVec S64 32) : IVec S_ 32 := Host.reduce IntOp.addi t (constantI S_ 32 0#32) reducesTo_S64_S_d0 h_S_

theorem V_te : V m 0 main_v19 = teK (tilesK (argN m)) := by
  show StableHlo.after (List.flatten _) _ _ = _
  simp only [hostOps0, hostOps0_1, hostOps0_2, hostOps0_3, hostOps0_4, hostOps0_5, hostOps0_6, List.flatten_cons, List.flatten_nil, List.append_nil, List.cons_append, List.nil_append, StableHlo.TRef.binary, StableHlo.TRef.nary, StableHlo.TRef.nullary, StableHlo.TRef.ternary, StableHlo.TRef.unary, StableHlo.TRef.toBuf, StableHlo.TRef.ofBuf, cast_eq]
  after_results_simp <;> rfl
theorem V_tiles (c : Dev nD) : V m c main_v8 = tilesK (argN m) := by
  obtain rfl : c = 0 := Subsingleton.elim _ _
  show StableHlo.after (List.flatten _) _ _ = _
  simp only [hostOps0, hostOps0_1, hostOps0_2, hostOps0_3, hostOps0_4, hostOps0_5, hostOps0_6, List.flatten_cons, List.flatten_nil, List.append_nil, List.cons_append, List.nil_append, StableHlo.TRef.binary, StableHlo.TRef.nary, StableHlo.TRef.nullary, StableHlo.TRef.ternary, StableHlo.TRef.unary, StableHlo.TRef.toBuf, StableHlo.TRef.ofBuf, cast_eq]
  after_results_simp <;> rfl
theorem V_nt : V m 0 main_v21 = shapeCast S1 (totalK (tilesK (argN m))) shapeCasts_S_S1 := by
  show StableHlo.after (List.flatten _) _ _ = _
  simp only [hostOps0, hostOps0_1, hostOps0_2, hostOps0_3, hostOps0_4, hostOps0_5, hostOps0_6, List.flatten_cons, List.flatten_nil, List.append_nil, List.cons_append, List.nil_append, StableHlo.TRef.binary, StableHlo.TRef.nary, StableHlo.TRef.nullary, StableHlo.TRef.ternary, StableHlo.TRef.unary, StableHlo.TRef.toBuf, StableHlo.TRef.ofBuf, cast_eq]
  after_results_simp <;> rfl

theorem tilesK_ap (hc : MoeLayout.Counts (argN m)) (e : Fin 64) : tilesK (argN m) (ix1 e) = BitVec.ofNat 32 (MoeLayout.tN (argN m) e.val) :=
  MoeLayout.tilesK_ap hc _ _ _ _ e
theorem totalK_ap (hc : MoeLayout.Counts (argN m)) : totalK (tilesK (argN m)) Idealize.ShloMosaic.ix0 = BitVec.ofNat 32 (MoeLayout.S (argN m) 64) :=
  MoeLayout.total_ap (c := argN m) _ (tilesK_ap m hc) _ _

theorem te_tbl (hc : MoeLayout.Counts (argN m)) (i : Fin 448) : (te (tbl m) i).toNat = min (MoeLayout.owner (argN m) i.val) 63 := by
  have e : te (tbl m) i = teK (tilesK (argN m)) (ix1 i) := congrFun (V_te m) _
  rw [e, show teK (tilesK (argN m)) (ix1 i) = BitVec.ofNat 32 (min (MoeLayout.owner (argN m) i.val) 63) from
    MoeLayout.teV_ap hc _ _ _ _ _ _ _ _ _ (fun q => MoeLayout.ends_ap (c := argN m) _ (tilesK_ap m hc) _ rfl _ _ q) i, BitVec.toNat_ofNat, Nat.mod_eq_of_lt (by omega)]
theorem nt_tbl (hc : MoeLayout.Counts (argN m)) : (nt (tbl m)).toNat = MoeLayout.S (argN m) 64 := by
  have e : nt (tbl m) = totalK (tilesK (argN m)) Idealize.ShloMosaic.ix0 := (congrFun (V_nt m) (ix1 0)).trans (congrArg (totalK (tilesK (argN m))) (funext fun a => a.elim0))
  have := MoeLayout.total_le hc
  rw [e, totalK_ap m hc, BitVec.toNat_ofNat, Nat.mod_eq_of_lt (by omega)]

theorem counts_of (h : ∀ c : Dev nD, Cert.Pre_counts_of_routing.fn (F := F) (m ((c : Thread nD τ).loc main_arg0)) (m ((c : Thread nD τ).loc main_arg1)) (m ((c : Thread nD τ).loc main_arg2))
    (m ((c : Thread nD τ).loc main_arg3)) (m ((c : Thread nD τ).loc main_arg4)) = fun _ => 1#1) : MoeLayout.Counts (argN m) := pre_at _ _ _ _ _ (h 0)
theorem rng_of (hc : MoeLayout.Counts (argN m)) : Rng (tbl m) :=
  ⟨fun i => by rw [te_tbl m hc]; omega, by rw [nt_tbl m hc]; exact MoeLayout.total_pos hc, by rw [nt_tbl m hc]; exact MoeLayout.total_le hc⟩

theorem frame_run (hR : Rng (tbl m)) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  have hO : Ok m := ok_of_rng (tbl m) hR
  (θ_run defs _ _).mono (fun _ h => ⟨fun c => ⟨((h.1 c).2 main_arg0 (by decide : main_arg0 ∈ Pipeline.restRefs sig spec0)).trans (W_arg0 m hO (dats m hO) c),
      ((h.1 c).1 0).trans (((dats m hO 0 c).arrAt_in 0 rfl _).trans ((A_eq m hO c 0).trans (V_arg m c).2.1)),
      ((h.1 c).1 1).trans (((dats m hO 0 c).arrAt_in 1 rfl _).trans ((A_eq m hO c 1).trans (V_arg m c).2.2.1)),
      ((h.1 c).1 2).trans (((dats m hO 0 c).arrAt_in 2 rfl _).trans ((A_eq m hO c 2).trans (V_arg m c).2.2.2.1)),
      ((h.1 c).1 3).trans (((dats m hO 0 c).arrAt_in 3 rfl _).trans ((A_eq m hO c 3).trans (V_arg m c).2.2.2.2))⟩, h.2⟩)
    (run_main m ρ hO hR)

set_option maxHeartbeats 8000000
theorem frame_ideal : Cert.quiescent_ExpertsIdeal := fun m ρ h => frame_run (F := Ideal) m ρ (rng_of m (counts_of m h))
/-- The kernel's program and its idealization have the same text. -/
theorem defs₀_same : (Cert.Experts.defs₀ (F := Bits)) = (Cert.ExpertsIdeal.defs₀ (F := Bits)) :=
  congrArg (Defs.onTc (nD := nD) (τ := τ) (sig := sig) (Val := Elt Bits) (Λ := Λ₀)) (funext fun ℓ => funext fun a => by
    match ℓ, a with
    | ⟨0, _⟩, (t, s) => rfl
    | ⟨n + 1, h⟩, _ => exact absurd h (Nat.not_lt.2 (Nat.le_add_left _ _)))
theorem defs_same : (Cert.Experts.defs (F := Bits)) = (Cert.ExpertsIdeal.defs (F := Bits)) :=
  congrArg (Pipeline.defs (pcfgs (F := Bits))) defs₀_same
theorem main_same : (Cert.Experts.main (F := Bits)) = (Cert.ExpertsIdeal.main (F := Bits)) := by rfl
theorem frame_kernel : Cert.quiescent_Experts := fun m ρ h => by
  rw [defs_same, main_same]
  exact frame_run (F := Bits) m ρ (rng_of m (counts_of m h))
theorem frame_reference : Cert.quiescent_ExpertsRefIdeal := fun m ρ _ =>
  (θ_run Cert.ExpertsRefIdeal.defs _ _).mono (fun r h => ⟨fun c => (h c).2,
      Idealize.ShloMosaic.sem_eq_zero_of_no_sems (by decide) r.2⟩)
    (Cert.ExpertsRefIdeal.Value.run (F := Ideal) m ρ)

end Cert.Proof.Moe
end
-- ==== Proof.Moe.Algebraic.lean ====
module
public import proofs.«01_k».proof.Proof.Moe.Block
public import proofs.«01_k».proof.Proof.Moe.Frames
@[expose] public section
set_option maxRecDepth 16384
/-! The two programs of the experts' call leave the same result. -/
noncomputable section
namespace Cert.Proof.Moe
open Cert.ExpertsIdeal Cert.ExpertsIdeal.Gen
open Idealize.ShloMosaic Idealize.ShloMosaic.TcCoe Idealize.SL.Sem Idealize.ShloMosaic.StableHlo
open Cert.Proof.MoeRef (hid)

/-- The rows of the tiles in use, the others zero. -/
def maskD (n : IVec S_ 32) (y : FVec Ideal S458752x1024 .bf16) : FVec Ideal S458752x1024 .bf16 :=
  select (broadcastInDim S458752x1024 ![0, 1] bcast_S458752x1_S458752x1024_0_1 (cmpi .slt (broadcastInDim S458752x1 ![0] bcast_S458752_S458752x1_0 (iotaInDim S458752 32 0)) (broadcastInDim S458752x1 ![] bcast_S_S458752x1 (muli n (constantI S_ 32 1024#32)))))
    y (broadcastInDim S458752x1024 ![] bcast_S_S458752x1024 (constant (F := Ideal) S_ .bf16 0x0000#16))

theorem tail_eq (W : Valuation τ sig (Elt Ideal)) :
    StableHlo.after ([hostOps1, hostOps1_1] : List (List (HloOp τ sig (Elt Ideal)))).flatten W (Proc.devRef .tc main_v30) = maskD (totalK (W (Proc.devRef .tc main_v8))) (W (Proc.devRef .tc main_v22)) := by
  simp only [hostOps1, hostOps1_1, List.flatten_cons, List.flatten_nil, List.append_nil, List.cons_append, List.nil_append, TRef.binary, TRef.nary, TRef.nullary, TRef.ternary, TRef.unary, TRef.toBuf, TRef.ofBuf, cast_eq]
  after_results_simp <;> rfl

theorem maskD_apply (n : IVec S_ 32) (y) (r : Fin 458752) (d : Fin 1024) :
    maskD n y (ix2 r d) = if IntOp.cmpi .slt (BitVec.ofNat 32 r.val) (n Idealize.ShloMosaic.ix0 * 1024#32) = 1#1 then y (ix2 r d) else 0 := by
  pointwise [maskD]
  rfl

theorem mul_word (n : BitVec 32) (h : n.toNat ≤ 448) : (n * 1024#32).toNat = n.toNat * 1024 := by
  rw [BitVec.toNat_mul]
  show n.toNat * 1024 % 2 ^ 32 = _
  omega

variable (m : (ℓ : Loc nD τ sig) → Buf (Elt Ideal) ℓ) (ρ : Dev nD → PrngReg) (c : Dev nD)

theorem W_v30 (hO : Ok m) : Pipeline.afterTail pcfgs (fun _ => adm m hO) (dats m hO) 0 (V0 m) [hostOps1, hostOps1_1] c main_v30
    = maskD (totalK (tilesK (argN m))) ((dats m hO 0 c).arrAt 4 (cfgM m hO).N) := by
  unfold Pipeline.afterTail
  refine (tail_eq _).trans (congrArg₂ (fun t y => maskD (totalK t) y) ?_ ?_)
  · exact (Pipeline.withArrays_of_ne _ c (V0 m c) _ main_v8 (by exact (by decide : ∀ w, Pipeline.arrRef spec0 w ≠ main_v8))).trans (V_tiles m c)
  · exact Pipeline.withArrays_arr spec0 (by decide) c (V0 m c) _ 4

theorem masked (hO : Ok m) (hc : MoeLayout.Counts (argN m)) : maskD (totalK (tilesK (argN m))) ((dats m hO 0 c).arrAt 4 (cfgM m hO).N) = want m c := by
  obtain rfl : c = 0 := Subsingleton.elim _ _
  have hR := rng_of m hc
  have hl := MoeLayout.total_le hc
  have hn := nt_tbl m hc
  funext i
  have hi : i = ix2 (i 0 : Fin 458752) (i 1 : Fin 1024) := by
    funext a
    match a with
    | 0 => rfl
    | 1 => rfl
  generalize (i 0 : Fin 458752) = r at hi
  generalize (i 1 : Fin 1024) = d at hi
  subst hi
  have hw : (totalK (tilesK (argN m)) Idealize.ShloMosaic.ix0).toNat = MoeLayout.S (argN m) 64 := by
    rw [totalK_ap m hc, BitVec.toNat_ofNat, Nat.mod_eq_of_lt (by omega)]
  have hw' : (totalK (tilesK (argN m)) Idealize.ShloMosaic.ix0 * 1024#32) = BitVec.ofNat 32 (MoeLayout.S (argN m) 64 * 1024) := by
    apply BitVec.eq_of_toNat_eq
    rw [mul_word _ (by omega), hw, BitVec.toNat_ofNat]
    omega
  have hlt : IntOp.cmpi .slt (BitVec.ofNat 32 r.val) (totalK (tilesK (argN m)) Idealize.ShloMosaic.ix0 * 1024#32) = 1#1 ↔ r.val / 1024 < MoeLayout.S (argN m) 64 := by
    have hr : r.val < 458752 := r.isLt
    rw [hw', MoeLayout.slt_nat (by omega) (by omega)]
    omega
  refine (maskD_apply _ _ r d).trans ?_
  by_cases h : r.val / 1024 < MoeLayout.S (argN m) 64
  · refine (if_pos (hlt.2 h)).trans ((final m 0 hO hR r d (by rw [hn]; exact h)).trans ?_)
    have ho := (MoeLayout.owner_spec (argN m) (r.val / 1024) h).1
    refine Eq.trans ?_ (MoeRef.resR_used hc (argX m 0) (argW1 m 0) (argW3 m 0) (argW2 m 0) r d h ⟨_, ho⟩ rfl).symm
    have hexp : G.exp m r = ⟨_, ho⟩ := by
      apply Fin.ext
      show (te (tbl m) _).toNat % 64 = MoeLayout.owner (argN m) (r.val / 1024)
      rw [te_tbl m hc]
      show min (MoeLayout.owner (argN m) (r.val / 1024)) 63 % 64 = _
      omega
    show (∑ f : Fin 256, hid (fun k => argX m 0 (ix2 r k)) (fun k => argW1 m 0 (ix3 (G.exp m r) k f)) (fun k => argW3 m 0 (ix3 (G.exp m r) k f)) * argW2 m 0 (ix3 (G.exp m r) f d)) = _
    rw [hexp]
  · refine (if_neg fun h' => h (hlt.1 h')).trans ?_
    exact (MoeRef.resR_unused hc (argX m 0) (argW1 m 0) (argW3 m 0) (argW2 m 0) r d h).symm

theorem value_run (hc : MoeLayout.Counts (argN m)) : θ_run defs (onTc (τ := τ) (main (F := Ideal))) ⟨m, fun _ => 0, ρ⟩ (fun r => ∀ c : Dev nD,
      r.2.mem ((c.tc : Thread nD τ).loc main_v30) = want m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  have hR := rng_of m hc
  have hO : Ok m := ok_of_rng (tbl m) hR
  (θ_run defs _ _).mono (fun _ h c => ⟨((h.1 c).2 main_v30 (by decide : main_v30 ∈ Pipeline.restRefs sig spec0)).trans ((W_v30 m c hO).trans (masked m c hO hc)),
      ((h.1 c).2 main_arg0 (by decide : main_arg0 ∈ Pipeline.restRefs sig spec0)).trans (W_arg0 m hO (dats m hO) c),
      ((h.1 c).1 0).trans (((dats m hO 0 c).arrAt_in 0 rfl _).trans ((A_eq m hO c 0).trans (V_arg m c).2.1)),
      ((h.1 c).1 1).trans (((dats m hO 0 c).arrAt_in 1 rfl _).trans ((A_eq m hO c 1).trans (V_arg m c).2.2.1)),
      ((h.1 c).1 2).trans (((dats m hO 0 c).arrAt_in 2 rfl _).trans ((A_eq m hO c 2).trans (V_arg m c).2.2.2.1)),
      ((h.1 c).1 3).trans (((dats m hO 0 c).arrAt_in 3 rfl _).trans ((A_eq m hO c 3).trans (V_arg m c).2.2.2.2))⟩)
    (run_main m ρ hO hR)

theorem algebraic : Cert.algebraic_ExpertsIdeal_ExpertsRefIdeal := by
  intro m ρ m' ρ' hpre hagree
  refine ⟨_, value_run m ρ (counts_of m hpre), ?_⟩
  refine (θ_run Cert.ExpertsRefIdeal.defs _ _).mono (fun _ h c => ⟨(h c).1.trans ?_, (h c).2⟩) (MoeRef.run m' ρ')
  obtain ⟨h0, h1, h2, h3, h4⟩ := hagree c
  rw [h0, h1, h2, h3, h4]
  rfl
end Cert.Proof.Moe
end
-- ==== Proof.lean ====
/- The claims of `Cert.Claim`, put together from the modules under `Proof/`. -/
module

public import proofs.«01_k».proof.Proof.Gen.Experts.Launch
public import proofs.«01_k».proof.Proof.Gen.Experts.Skeleton
public import proofs.«01_k».proof.Proof.Gen.ExpertsIdeal.Launch
public import proofs.«01_k».proof.Proof.Gen.ExpertsIdeal.Skeleton
public import proofs.«01_k».proof.Proof.Gen.ExpertsRefIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Algebraic
public import proofs.«01_k».proof.Proof.Moe.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Experts.Gen.facts, Cert.ExpertsIdeal.Gen.facts, Cert.ExpertsRefIdeal.Gen.facts, Moe.preFacts,
  Attn.frame_kernel, Attn.frame_ideal, Attn.frame_reference, Moe.frame_kernel, Moe.frame_ideal, Moe.frame_reference,
  Attn.preserves, Attn.algebraic, trivial, Moe.algebraic⟩

end Cert.Proof

end
